-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "score_scale_log2e" .f32 0x3DB8AA3B#32 (((16 * (Real.log 2))⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_v6_4) = v4 c
          ∧ r.2.mem ((c.tc : Thread Cert.ReferenceIdeal.nD Cert.ReferenceIdeal.τ).loc Cert.ReferenceIdeal.main_v6_5) = v5 c
          ∧ r.2.mem ((c.tc : Thread Cert.ReferenceIdeal.nD Cert.ReferenceIdeal.τ).loc Cert.ReferenceIdeal.main_v6_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S3x640x2560 : Shape := ⟨3, ![3, 640, 2560]⟩
abbrev S3x640x512 : Shape := ⟨3, ![3, 640, 512]⟩
abbrev S3x640 : Shape := ⟨2, ![3, 640]⟩
abbrev S3x640x640 : Shape := ⟨3, ![3, 640, 640]⟩
abbrev S_ : Shape := ⟨0, ![]⟩
abbrev S3x640x10x256 : Shape := ⟨4, ![3, 640, 10, 256]⟩
abbrev S3x640x10 : Shape := ⟨3, ![3, 640, 10]⟩
abbrev S3x640x2x256 : Shape := ⟨4, ![3, 640, 2, 256]⟩
abbrev S3x640x2 : Shape := ⟨3, ![3, 640, 2]⟩

class Facts : Prop where
  bcast_S3x640_S3x640x640_0_1 : S3x640.BroadcastsInDim S3x640x640 (![0, 1] : Fin 2 → Fin S3x640x640.rank)
  bcast_S3x640_S3x640x640_0_2 : S3x640.BroadcastsInDim S3x640x640 (![0, 2] : Fin 2 → Fin S3x640x640.rank)
  bcast_S_S3x640x640 : S_.BroadcastsInDim S3x640x640 (![] : Fin 0 → Fin S3x640x640.rank)
  bitsLt_bf16_f32 : FTy.bits .bf16 < FTy.bits .f32
  shapeCasts_S3x640x2560_S3x640x10x256 : S3x640x2560.ShapeCasts S3x640x10x256
  reducesTo_S3x640x10x256_S3x640x10_d3 : S3x640x10x256.ReducesTo [3] S3x640x10
  h_S_ : 0 < S_.numel
  bcast_S_S3x640x10 : S_.BroadcastsInDim S3x640x10 (![] : Fin 0 → Fin S3x640x10.rank)
  shapeCasts_S3x640x512_S3x640x2x256 : S3x640x512.ShapeCasts S3x640x2x256
  reducesTo_S3x640x2x256_S3x640x2_d3 : S3x640x2x256.ReducesTo [3] S3x640x2
  bcast_S_S3x640x2 : S_.BroadcastsInDim S3x640x2 (![] : Fin 0 → Fin S3x640x2.rank)
  bcast_S_S3x640 : S_.BroadcastsInDim S3x640 (![] : Fin 0 → Fin S3x640.rank)

variable [Facts]

def fn_part2 {F : FTy → Type} [FloatOps F] (main_arg3 : IVec S3x640 32) (main_v9 : IVec S3x640x640 1) (main_v21 : IVec S3x640x10 1) (main_v33 : IVec S3x640x2 1) (main_v37 : FVec F S3x640x2 .f32) : IVec S3x640x10 1 × IVec S3x640x2 1 × IVec S3x640x2 1 × IVec S3x640x640 1 × IVec S3x640 1 :=
  let main_cst_8 : FVec F S_ .f32 := constant S_ .f32 0x00000000#32
  let main_v38 : FVec F S3x640x2 .f32 := broadcastInDim S3x640x2 ![] bcast_S_S3x640x2 main_cst_8
  let main_v39 : IVec S3x640x2 1 := cmpf .oeq main_v37 main_v38
  let main_cst_9 : FVec F S_ .f32 := constant S_ .f32 0x04E00000#32
  let main_v40 : FVec F S3x640x2 .f32 := broadcastInDim S3x640x2 ![] bcast_S_S3x640x2 main_cst_9
  let main_v41 : IVec S3x640x2 1 := cmpf .oge main_v37 main_v40
  let main_cst_10 : FVec F S_ .f32 := constant S_ .f32 0x7F7F0000#32
  let main_v42 : FVec F S3x640x2 .f32 := broadcastInDim S3x640x2 ![] bcast_S_S3x640x2 main_cst_10
  let main_v43 : IVec S3x640x2 1 := cmpf .ole main_v37 main_v42
  let main_v44 : IVec S3x640x2 1 := andi main_v41 main_v43
  let main_v45 : IVec S3x640x2 1 := ori main_v39 main_v44
  let main_c_11 : IVec S_ 32 := constantI S_ 32 4294967295#32
  let main_v46 : IVec S3x640 32 := broadcastInDim S3x640 ![] bcast_S_S3x640 main_c_11
  let main_v47 : IVec S3x640 1 := cmpi .ne main_arg3 main_v46
  (main_v21, main_v33, main_v45, main_v9, main_v47)

def fn_part1 {F : FTy → Type} [FloatOps F] (main_arg1 : FVec F S3x640x512 .bf16) (main_arg2 : FVec F S3x640x512 .bf16) (main_arg3 : IVec S3x640 32) (main_v9 : IVec S3x640x640 1) (main_v13 : FVec F S3x640x10 .f32) (main_v15 : IVec S3x640x10 1) (main_v17 : IVec S3x640x10 1) (main_v18 : FVec F S3x640x10 .f32) : IVec S3x640x10 1 × IVec S3x640x2 1 × IVec S3x640x2 1 × IVec S3x640x640 1 × IVec S3x640 1 :=
  let main_v19 : IVec S3x640x10 1 := cmpf .ole main_v13 main_v18
  let main_v20 : IVec S3x640x10 1 := andi main_v17 main_v19
  let main_v21 : IVec S3x640x10 1 := ori main_v15 main_v20
  let main_v22 : FVec F S3x640x512 .f32 := (extf .f32 · bitsLt_bf16_f32) main_arg1
  let main_v23 : FVec F S3x640x512 .f32 := Host.absf main_v22
  let main_v24 : FVec F S3x640x2x256 .f32 := shapeCast S3x640x2x256 main_v23 shapeCasts_S3x640x512_S3x640x2x256
  let main_cst_3 : FVec F S_ .f32 := constant S_ .f32 0xFF800000#32
  let main_v25 : FVec F S3x640x2 .f32 := (fun x v => Host.reduce FloatOps.maximumf x v reducesTo_S3x640x2x256_S3x640x2_d3 h_S_) main_v24 main_cst_3
  let main_cst_4 : FVec F S_ .f32 := constant S_ .f32 0x00000000#32
  let main_v26 : FVec F S3x640x2 .f32 := broadcastInDim S3x640x2 ![] bcast_S_S3x640x2 main_cst_4
  let main_v27 : IVec S3x640x2 1 := cmpf .oeq main_v25 main_v26
  let main_cst_5 : FVec F S_ .f32 := constant S_ .f32 0x04E00000#32
  let main_v28 : FVec F S3x640x2 .f32 := broadcastInDim S3x640x2 ![] bcast_S_S3x640x2 main_cst_5
  let main_v29 : IVec S3x640x2 1 := cmpf .oge main_v25 main_v28
  let main_cst_6 : FVec F S_ .f32 := constant S_ .f32 0x7F7F0000#32
  let main_v30 : FVec F S3x640x2 .f32 := broadcastInDim S3x640x2 ![] bcast_S_S3x640x2 main_cst_6
  let main_v31 : IVec S3x640x2 1 := cmpf .ole main_v25 main_v30
  let main_v32 : IVec S3x640x2 1 := andi main_v29 main_v31
  let main_v33 : IVec S3x640x2 1 := ori main_v27 main_v32
  let main_v34 : FVec F S3x640x512 .f32 := (extf .f32 · bitsLt_bf16_f32) main_arg2
  let main_v35 : FVec F S3x640x512 .f32 := Host.absf main_v34
  let main_v36 : FVec F S3x640x2x256 .f32 := shapeCast S3x640x2x256 main_v35 shapeCasts_S3x640x512_S3x640x2x256
  let main_cst_7 : FVec F S_ .f32 := constant S_ .f32 0xFF800000#32
  let main_v37 : FVec F S3x640x2 .f32 := (fun x v => Host.reduce FloatOps.maximumf x v reducesTo_S3x640x2x256_S3x640x2_d3 h_S_) main_v36 main_cst_7
  fn_part2 (F := F) main_arg3 main_v9 main_v21 main_v33 main_v37

def fn {F : FTy → Type} [FloatOps F] (main_arg0 : FVec F S3x640x2560 .bf16) (main_arg1 : FVec F S3x640x512 .bf16) (main_arg2 : FVec F S3x640x512 .bf16) (main_arg3 : IVec S3x640 32) : IVec S3x640x10 1 × IVec S3x640x2 1 × IVec S3x640x2 1 × IVec S3x640x640 1 × IVec S3x640 1 :=
  let main_v0 : IVec S3x640x640 32 := iotaInDim S3x640x640 32 1
  let main_v1 : IVec S3x640x640 32 := iotaInDim S3x640x640 32 2
  let main_v2 : IVec S3x640x640 32 := broadcastInDim S3x640x640 ![0, 1] bcast_S3x640_S3x640x640_0_1 main_arg3
  let main_v3 : IVec S3x640x640 32 := broadcastInDim S3x640x640 ![0, 2] bcast_S3x640_S3x640x640_0_2 main_arg3
  let main_v4 : IVec S3x640x640 1 := cmpi .eq main_v2 main_v3
  let main_v5 : IVec S3x640x640 32 := subi main_v0 main_v1
  let main_c : IVec S_ 32 := constantI S_ 32 224#32
  let main_v6 : IVec S3x640x640 32 := broadcastInDim S3x640x640 ![] bcast_S_S3x640x640 main_c
  let main_v7 : IVec S3x640x640 1 := cmpi .sgt main_v5 main_v6
  let main_v8 : IVec S3x640x640 1 := andi main_v4 main_v7
  let main_v9 : IVec S3x640x640 1 := noti main_v8
  let main_v10 : FVec F S3x640x2560 .f32 := (extf .f32 · bitsLt_bf16_f32) main_arg0
  let main_v11 : FVec F S3x640x2560 .f32 := Host.absf main_v10
  let main_v12 : FVec F S3x640x10x256 .f32 := shapeCast S3x640x10x256 main_v11 shapeCasts_S3x640x2560_S3x640x10x256
  let main_cst : FVec F S_ .f32 := constant S_ .f32 0xFF800000#32
  let main_v13 : FVec F S3x640x10 .f32 := (fun x v => Host.reduce FloatOps.maximumf x v reducesTo_S3x640x10x256_S3x640x10_d3 h_S_) main_v12 main_cst
  let main_cst_0 : FVec F S_ .f32 := constant S_ .f32 0x00000000#32
  let main_v14 : FVec F S3x640x10 .f32 := broadcastInDim S3x640x10 ![] bcast_S_S3x640x10 main_cst_0
  let main_v15 : IVec S3x640x10 1 := cmpf .oeq main_v13 main_v14
  let main_cst_1 : FVec F S_ .f32 := constant S_ .f32 0x04E00000#32
  let main_v16 : FVec F S3x640x10 .f32 := broadcastInDim S3x640x10 ![] bcast_S_S3x640x10 main_cst_1
  let main_v17 : IVec S3x640x10 1 := cmpf .oge main_v13 main_v16
  let main_cst_2 : FVec F S_ .f32 := constant S_ .f32 0x7F7F0000#32
  let main_v18 : FVec F S3x640x10 .f32 := broadcastInDim S3x640x10 ![] bcast_S_S3x640x10 main_cst_2
  fn_part1 (F := F) main_arg1 main_arg2 main_arg3 main_v9 main_v13 main_v15 main_v17 main_v18
-- ==== Kernel.lean ====
abbrev S3x640x2560 : Shape := ⟨3, ![3, 640, 2560]⟩
abbrev S3x640x512 : Shape := ⟨3, ![3, 640, 512]⟩
abbrev S3x640 : Shape := ⟨2, ![3, 640]⟩
abbrev S3x5x1x128 : Shape := ⟨4, ![3, 5, 1, 128]⟩
abbrev S3x10x640x256 : Shape := ⟨4, ![3, 10, 640, 256]⟩
abbrev S3x10x640 : Shape := ⟨3, ![3, 10, 640]⟩
abbrev S3x2x640x256 : Shape := ⟨4, ![3, 2, 640, 256]⟩
abbrev S3x2x640 : Shape := ⟨3, ![3, 2, 640]⟩
abbrev S1x128x2560 : Shape := ⟨3, ![1, 128, 2560]⟩
abbrev S1x128x512 : Shape := ⟨3, ![1, 128, 512]⟩
abbrev S1x1x1x128 : Shape := ⟨4, ![1, 1, 1, 128]⟩
abbrev S1x10x128x256 : Shape := ⟨4, ![1, 10, 128, 256]⟩
abbrev S1x10x128 : Shape := ⟨3, ![1, 10, 128]⟩
abbrev S1x2x128x256 : Shape := ⟨4, ![1, 2, 128, 256]⟩
abbrev S1x2x128 : Shape := ⟨3, ![1, 2, 128]⟩
abbrev S2x896x256 : Shape := ⟨3, ![2, 896, 256]⟩
abbrev S7x8x128 : Shape := ⟨3, ![7, 8, 128]⟩
abbrev S7x1x128 : Shape := ⟨3, ![7, 1, 128]⟩
abbrev S256x256 : Shape := ⟨2, ![256, 256]⟩
abbrev S1x256x256 : Shape := ⟨3, ![1, 256, 256]⟩
abbrev S2x8x128 : Shape := ⟨3, ![2, 8, 128]⟩
abbrev S2x1x128 : Shape := ⟨3, ![2, 1, 128]⟩
abbrev S128x128 : Shape := ⟨2, ![128, 128]⟩
abbrev S1x128x256 : Shape := ⟨3, ![1, 128, 256]⟩
abbrev S128x256 : Shape := ⟨2, ![128, 256]⟩
abbrev S128 : Shape := ⟨1, ![128]⟩
abbrev S128x1 : Shape := ⟨2, ![128, 1]⟩
abbrev S1x1x128x256 : Shape := ⟨4, ![1, 1, 128, 256]⟩
abbrev S2x128 : Shape := ⟨2, ![2, 128]⟩
abbrev S10x128 : Shape := ⟨2, ![10, 128]⟩
abbrev S8x128 : Shape := ⟨2, ![8, 128]⟩
abbrev S1x8x128 : Shape := ⟨3, ![1, 8, 128]⟩
abbrev S1x128 : Shape := ⟨2, ![1, 128]⟩
abbrev S1x1x128 : Shape := ⟨3, ![1, 1, 128]⟩
abbrev S8x384 : Shape := ⟨2, ![8, 384]⟩
abbrev S1x384 : Shape := ⟨2, ![1, 384]⟩
abbrev S32x256 : Shape := ⟨2, ![32, 256]⟩
abbrev S32x128 : Shape := ⟨2, ![32, 128]⟩
abbrev S1x256 : Shape := ⟨2, ![1, 256]⟩
abbrev S1x1x32x256 : Shape := ⟨4, ![1, 1, 32, 256]⟩
abbrev S160x256 : Shape := ⟨2, ![160, 256]⟩
abbrev S32x1 : Shape := ⟨2, ![32, 1]⟩
abbrev S160x1 : Shape := ⟨2, ![160, 1]⟩
abbrev S5x32x256 : Shape := ⟨3, ![5, 32, 256]⟩
abbrev S1x32x256 : Shape := ⟨3, ![1, 32, 256]⟩
abbrev S160 : Shape := ⟨1, ![160]⟩

abbrev nBuf : Space → Nat
  | .hbm => 12
  | .vmem => 26
  | .smem => 0
  | _ => 0

abbrev bufTy : (tb : Table) → Fin (tcTables nBuf tb) → BufTy
  | .hbm, ⟨0, _⟩ => ⟨S3x640x2560, .bf16⟩
  | .hbm, ⟨1, _⟩ => ⟨S3x640x512, .bf16⟩
  | .hbm, ⟨2, _⟩ => ⟨S3x640x512, .bf16⟩
  | .hbm, ⟨3, _⟩ => ⟨S3x640, .i32⟩
  | .hbm, ⟨4, _⟩ => ⟨S3x5x1x128, .i32⟩
  | .hbm, ⟨5, _⟩ => ⟨S3x640x2560, .bf16⟩
  | .hbm, ⟨6, _⟩ => ⟨S3x10x640x256, .fp8e4m3⟩
  | .hbm, ⟨7, _⟩ => ⟨S3x10x640, .f32⟩
  | .hbm, ⟨8, _⟩ => ⟨S3x2x640x256, .fp8e4m3⟩
  | .hbm, ⟨9, _⟩ => ⟨S3x2x640, .f32⟩
  | .hbm, ⟨10, _⟩ => ⟨S3x2x640x256, .fp8e4m3⟩
  | .hbm, ⟨11, _⟩ => ⟨S3x2x640, .f32⟩
  | .local _ .vmem, ⟨0, _⟩ => ⟨S1x128x2560, .bf16⟩
  | .local _ .vmem, ⟨1, _⟩ => ⟨S1x128x2560, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x1x1x128, .i32⟩
  | .local _ .vmem, ⟨7, _⟩ => ⟨S1x1x1x128, .i32⟩
  | .local _ .vmem, ⟨8, _⟩ => ⟨S1x128x2560, .bf16⟩
  | .local _ .vmem, ⟨9, _⟩ => ⟨S1x128x2560, .bf16⟩
  | .local _ .vmem, ⟨10, _⟩ => ⟨S1x10x128x256, .fp8e4m3⟩
  | .local _ .vmem, ⟨11, _⟩ => ⟨S1x10x128x256, .fp8e4m3⟩
  | .local _ .vmem, ⟨12, _⟩ => ⟨S1x10x128, .f32⟩
  | .local _ .vmem, ⟨13, _⟩ => ⟨S1x10x128, .f32⟩
  | .local _ .vmem, ⟨14, _⟩ => ⟨S1x2x128x256, .fp8e4m3⟩
  | .local _ .vmem, ⟨15, _⟩ => ⟨S1x2x128x256, .fp8e4m3⟩
  | .local _ .vmem, ⟨16, _⟩ => ⟨S1x2x128, .f32⟩
  | .local _ .vmem, ⟨17, _⟩ => ⟨S1x2x128, .f32⟩
  | .local _ .vmem, ⟨18, _⟩ => ⟨S1x2x128x256, .fp8e4m3⟩
  | .local _ .vmem, ⟨19, _⟩ => ⟨S1x2x128x256, .fp8e4m3⟩
  | .local _ .vmem, ⟨20, _⟩ => ⟨S1x2x128, .f32⟩
  | .local _ .vmem, ⟨21, _⟩ => ⟨S1x2x128, .f32⟩
  | .local _ .vmem, ⟨22, _⟩ => ⟨S2x896x256, .fp8e4m3⟩
  | .local _ .vmem, ⟨23, _⟩ => ⟨S2x896x256, .bf16⟩
  | .local _ .vmem, ⟨24, _⟩ => ⟨S7x8x128, .f32⟩
  | .local _ .vmem, ⟨25, _⟩ => ⟨S7x1x128, .i32⟩
  | _, _ => ⟨S3x640x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v1_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![3, 5], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 3 → Nat :=
  let c0_13 : Index := 0#32
  let arg1 : BitVec 32 := BitVec.ofNat 32 (i 1).val
  let c128_i32 : BitVec 32 := 128#32
  let v3 : BitVec 32 := Scalar.muli arg1 c128_i32
  let v4 : BitVec 32 := v3
  let c256_i32 : BitVec 32 := 256#32
  let v116 : BitVec 32 := Scalar.addi v4 c256_i32
  let v117 : Index := Scalar.indexCast v116
  let c0_14 : Index := 0#32
  ![0, v117.toNat, 0]
def k0_off2 (i : grid0.Coords) : Fin 3 → Nat :=
  let c1_84 : Index := 1#32
  let arg1 : BitVec 32 := BitVec.ofNat 32 (i 1).val
  let c128_i32 : BitVec 32 := 128#32
  let v3 : BitVec 32 := Scalar.muli arg1 c128_i32
  let v4 : BitVec 32 := v3
  let c256_i32_83 : BitVec 32 := 256#32
  let v359 : BitVec 32 := Scalar.addi v4 c256_i32_83
  let v360 : Index := Scalar.indexCast v359
  let c0_85 : Index := 0#32
  ![1, v360.toNat, 0]
def k0_off3 (i : grid0.Coords) (c2_i32_446 : BitVec 32) : Fin 3 → Nat :=
  let arg1 : BitVec 32 := BitVec.ofNat 32 (i 1).val
  let v1659 : BitVec 32 := Scalar.addi arg1 c2_i32_446
  let v1660 : Index := Scalar.indexCast v1659
  let c0_447 : Index := 0#32
  let c0_448 : Index := 0#32
  ![v1660.toNat, 0, 0]
def k0_off4 (i : grid0.Coords) (c2_i32_453 : BitVec 32) : Fin 3 → Nat :=
  let arg1 : BitVec 32 := BitVec.ofNat 32 (i 1).val
  let v1666 : BitVec 32 := Scalar.addi arg1 c2_i32_453
  let v1667 : Index := Scalar.indexCast v1666
  let c0_454 : Index := 0#32
  let c0_455 : Index := 0#32
  ![v1667.toNat, 0, 0]
def k0_off5 (i : grid0.Coords) : Fin 3 → Nat :=
  let arg1 : BitVec 32 := BitVec.ofNat 32 (i 1).val
  let v1674 : Index := Scalar.indexCast arg1
  let c0_456 : Index := 0#32
  let c0_457 : Index := 0#32
  ![v1674.toNat, 0, 0]
def k0_off6 (i : grid0.Coords) : Fin 3 → Nat :=
  let arg1 : BitVec 32 := BitVec.ofNat 32 (i 1).val
  let v1686 : Index := Scalar.indexCast arg1
  let c0_464 : Index := 0#32
  let c0_465 : Index := 0#32
  ![v1686.toNat, 0, 0]
def k0_off7 (i : grid0.Coords) (c32_i32 : BitVec 32) : Fin 3 → Nat :=
  let c0_494 : Index := 0#32
  let arg1 : BitVec 32 := BitVec.ofNat 32 (i 1).val
  let c128_i32 : BitVec 32 := 128#32
  let v3 : BitVec 32 := Scalar.muli arg1 c128_i32
  let v4 : BitVec 32 := v3
  let v1729 : BitVec 32 := Scalar.addi v4 c32_i32
  let v1730 : Index := Scalar.indexCast v1729
  let c0_495 : Index := 0#32
  ![0, v1730.toNat, 0]
def k0_off8 (i : grid0.Coords) (c32_i32_542 : BitVec 32) : Fin 3 → Nat :=
  let c1_543 : Index := 1#32
  let arg1 : BitVec 32 := BitVec.ofNat 32 (i 1).val
  let c128_i32 : BitVec 32 := 128#32
  let v3 : BitVec 32 := Scalar.muli arg1 c128_i32
  let v4 : BitVec 32 := v3
  let v1807 : BitVec 32 := Scalar.addi v4 c32_i32_542
  let v1808 : Index := Scalar.indexCast v1807
  let c0_544 : Index := 0#32
  ![1, v1808.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x10x128x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x10x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x128x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x128x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "score_scale_log2e" => some (((16 * (Real.log 2))⁻¹ : ℝ) : EReal)
  | _ => none
-- ==== ReferenceIdeal.lean ====
abbrev S3x640x2560 : Shape := ⟨3, ![3, 640, 2560]⟩
abbrev S3x640x512 : Shape := ⟨3, ![3, 640, 512]⟩
abbrev S3x640 : Shape := ⟨2, ![3, 640]⟩
abbrev S3x640x10x256 : Shape := ⟨4, ![3, 640, 10, 256]⟩
abbrev S3x10x640x256 : Shape := ⟨4, ![3, 10, 640, 256]⟩
abbrev S3x640x2x256 : Shape := ⟨4, ![3, 640, 2, 256]⟩
abbrev S3x2x640x256 : Shape := ⟨4, ![3, 2, 640, 256]⟩
abbrev S3x10x640 : Shape := ⟨3, ![3, 10, 640]⟩
abbrev S3x2x640 : Shape := ⟨3, ![3, 2, 640]⟩
abbrev S3x10x640x1 : Shape := ⟨4, ![3, 10, 640, 1]⟩
abbrev S3x2x640x1 : Shape := ⟨4, ![3, 2, 640, 1]⟩
abbrev S1x640x640 : Shape := ⟨3, ![1, 640, 640]⟩
abbrev S3x1x640 : Shape := ⟨3, ![3, 1, 640]⟩
abbrev S3x640x1 : Shape := ⟨3, ![3, 640, 1]⟩
abbrev S3x640x640 : Shape := ⟨3, ![3, 640, 640]⟩
abbrev S3x1x640x256 : Shape := ⟨4, ![3, 1, 640, 256]⟩
abbrev S3x640x256 : Shape := ⟨3, ![3, 640, 256]⟩

abbrev nBuf : Space → Nat
  | .hbm => 17
  | .vmem => 11
  | .smem => 0
  | _ => 0

abbrev bufTy : (tb : Table) → Fin (tcTables nBuf tb) → BufTy
  | .hbm, ⟨0, _⟩ => ⟨S3x640x2560, .bf16⟩
  | .hbm, ⟨1, _⟩ => ⟨S3x640x512, .bf16⟩
  | .hbm, ⟨2, _⟩ => ⟨S3x640x512, .bf16⟩
  | .hbm, ⟨3, _⟩ => ⟨S3x640, .i32⟩
  | .hbm, ⟨4, _⟩ => ⟨S3x640x10x256, .bf16⟩
  | .hbm, ⟨5, _⟩ => ⟨S3x10x640x256, .bf16⟩
  | .hbm, ⟨6, _⟩ => ⟨S3x640x2x256, .bf16⟩
  | .hbm, ⟨7, _⟩ => ⟨S3x2x640x256, .bf16⟩
  | .hbm, ⟨8, _⟩ => ⟨S3x640x2x256, .bf16⟩
  | .hbm, ⟨9, _⟩ => ⟨S3x2x640x256, .bf16⟩
  | .hbm, ⟨10, _⟩ => ⟨S3x640x2560, .bf16⟩
  | .hbm, ⟨11, _⟩ => ⟨S3x10x640x256, .fp8e4m3⟩
  | .hbm, ⟨12, _⟩ => ⟨S3x10x640, .f32⟩
  | .hbm, ⟨13, _⟩ => ⟨S3x2x640x256, .fp8e4m3⟩
  | .hbm, ⟨14, _⟩ => ⟨S3x2x640, .f32⟩
  | .hbm, ⟨15, _⟩ => ⟨S3x2x640x256, .fp8e4m3⟩
  | .hbm, ⟨16, _⟩ => ⟨S3x2x640, .f32⟩
  | .local _ .vmem, ⟨0, _⟩ => ⟨S3x10x640x256, .bf16⟩
  | .local _ .vmem, ⟨1, _⟩ => ⟨S3x2x640x256, .bf16⟩
  | .local _ .vmem, ⟨2, _⟩ => ⟨S3x2x640x256, .bf16⟩
  | .local _ .vmem, ⟨3, _⟩ => ⟨S3x640, .i32⟩
  | .local _ .vmem, ⟨4, _⟩ => ⟨S3x640x2560, .bf16⟩
  | .local _ .vmem, ⟨5, _⟩ => ⟨S3x10x640x256, .fp8e4m3⟩
  | .local _ .vmem, ⟨6, _⟩ => ⟨S3x10x640, .f32⟩
  | .local _ .vmem, ⟨7, _⟩ => ⟨S3x2x640x256, .fp8e4m3⟩
  | .local _ .vmem, ⟨8, _⟩ => ⟨S3x2x640, .f32⟩
  | .local _ .vmem, ⟨9, _⟩ => ⟨S3x2x640x256, .fp8e4m3⟩
  | .local _ .vmem, ⟨10, _⟩ => ⟨S3x2x640, .f32⟩
  | _, _ => ⟨S3x640x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev main_v6_5 : Ref sig .tc := ⟨.hbm, 15, rfl⟩
abbrev main_v6_6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "inv_e4m3_max" => some ((448⁻¹ : ℝ) : EReal)
  | "ln2" => some ((Real.log 2 : ℝ) : EReal)
  | _ => none

abbrev grid0 : Pipeline.Grid := .none

abbrev stage0_0 : Fin 1 → Memref sig .tc .vmem S3x10x640x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2x640x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x2x640x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x10x640x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x10x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x2x640x256 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x2x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x2x640x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x2x640 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelBitsRuns.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

/-! The kernel with its words: what its runs share (the arrays up to the grid, the blocks, the branch condition). -/

@[expose] public section

-- membership in a rectangle of production extents (`View.cover_of_tiled`): the elaborator's structural look
-- recurses once per coordinate of the long axes
set_option maxRecDepth 16384

noncomputable section

namespace Cert.Kernel.Fr

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 5) — by arithmetic of the point. -/
theorem hcond0_0 : ∀ t : Fin cfg0.N, cond0_0 (grid0.coords t) ↔ t.val % 5 = 0 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 5 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x128x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x2560 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x10x128x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x10x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x128x256 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x128x256 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2x896x256 .fp8e4m3 := Memref.whole cc0_scratch0
abbrev scM0_1 : Memref sig .tc .vmem S2x896x256 .bf16 := Memref.whole cc0_scratch1
abbrev scM0_2 : Memref sig .tc .vmem S7x8x128 .f32 := Memref.whole cc0_scratch2
abbrev scM0_3 : Memref sig .tc .vmem S7x1x128 .i32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Fr

end
-- ==== Proof.KernelBitsRunA.lean ====
module

public import proofs.«01_k».proof.Proof.KernelBitsRuns

/-! The body run at the first block of a batch. -/

@[expose] public section

-- membership in a rectangle of production extents (`View.cover_of_tiled`): the elaborator's structural look
-- recurses once per coordinate of the long axes
set_option maxRecDepth 16384

noncomputable section

namespace Cert.Kernel.Fr

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1972000 in
/-- The body's triple IN CASE A (`scf.if` 0 taken: points 0, 5, 10): on whole staging memrefs — the inputs' at their contents,
    the FORGOTTEN outputs' (4, 5, 6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x128x2560 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x1x128 .i32) (harg5 : arg5.IsWhole) (arg6 : Memref sig .tc .vmem S1x128x2560 .bf16) (harg6 : arg6.IsWhole) (arg7 : Memref sig .tc .vmem S1x10x128x256 .fp8e4m3) (harg7 : arg7.IsWhole) (arg8 : Memref sig .tc .vmem S1x10x128 .f32) (harg8 : arg8.IsWhole) (arg9 : Memref sig .tc .vmem S1x2x128x256 .fp8e4m3) (harg9 : arg9.IsWhole) (arg10 : Memref sig .tc .vmem S1x2x128 .f32) (harg10 : arg10.IsWhole) (arg11 : Memref sig .tc .vmem S1x2x128x256 .fp8e4m3) (harg11 : arg11.IsWhole) (arg12 : Memref sig .tc .vmem S1x2x128 .f32) (harg12 : arg12.IsWhole) (arg13 : Memref sig .tc .vmem S2x896x256 .fp8e4m3) (harg13 : arg13.IsWhole) (arg14 : Memref sig .tc .vmem S2x896x256 .bf16) (harg14 : arg14.IsWhole) (arg15 : Memref sig .tc .vmem S7x8x128 .f32) (harg15 : arg15.IsWhole) (arg16 : Memref sig .tc .vmem S7x1x128 .i32) (harg16 : arg16.IsWhole) (hc0 : cond0_0 i)
    (x0 : Vec F S1x128x2560 .bf16) (x1 : Vec F S1x128x512 .bf16) (x2 : Vec F S1x128x512 .bf16) (x3 : Vec F S1x1x1x128 .i32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_packed_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_packed_attention_eq_skeleton]; unfold cc0_packed_attention_skel
    simp only [k0_part56_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Fr

end
-- ==== Proof.KernelBitsRunB.lean ====
module

public import proofs.«01_k».proof.Proof.KernelBitsRunA

/-! The body run at a later block of a batch. -/

@[expose] public section

-- membership in a rectangle of production extents (`View.cover_of_tiled`): the elaborator's structural look
-- recurses once per coordinate of the long axes
set_option maxRecDepth 16384

noncomputable section

namespace Cert.Kernel.Fr

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1900000 in
/-- The body's triple IN CASE B (`scf.if` 0 not taken: points 1, 2, … 14: 12 of 15): on whole staging memrefs — the inputs' at their contents,
    the FORGOTTEN outputs' (4, 5, 6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x128x2560 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x1x128 .i32) (harg5 : arg5.IsWhole) (arg6 : Memref sig .tc .vmem S1x128x2560 .bf16) (harg6 : arg6.IsWhole) (arg7 : Memref sig .tc .vmem S1x10x128x256 .fp8e4m3) (harg7 : arg7.IsWhole) (arg8 : Memref sig .tc .vmem S1x10x128 .f32) (harg8 : arg8.IsWhole) (arg9 : Memref sig .tc .vmem S1x2x128x256 .fp8e4m3) (harg9 : arg9.IsWhole) (arg10 : Memref sig .tc .vmem S1x2x128 .f32) (harg10 : arg10.IsWhole) (arg11 : Memref sig .tc .vmem S1x2x128x256 .fp8e4m3) (harg11 : arg11.IsWhole) (arg12 : Memref sig .tc .vmem S1x2x128 .f32) (harg12 : arg12.IsWhole) (arg13 : Memref sig .tc .vmem S2x896x256 .fp8e4m3) (harg13 : arg13.IsWhole) (arg14 : Memref sig .tc .vmem S2x896x256 .bf16) (harg14 : arg14.IsWhole) (arg15 : Memref sig .tc .vmem S7x8x128 .f32) (harg15 : arg15.IsWhole) (arg16 : Memref sig .tc .vmem S7x1x128 .i32) (harg16 : arg16.IsWhole) (hc0 : ¬cond0_0 i)
    (x0 : Vec F S1x128x2560 .bf16) (x1 : Vec F S1x128x512 .bf16) (x2 : Vec F S1x128x512 .bf16) (x3 : Vec F S1x1x1x128 .i32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_packed_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_packed_attention_eq_skeleton]; unfold cc0_packed_attention_skel
    simp only [k0_part56_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Fr

end
-- ==== Proof.KernelBitsFrame.lean ====
module

public import proofs.«01_k».proof.Proof.KernelBitsRunB
public import Idealize.ShloMosaic.Lib.Claim

/-! The frame of the kernel: it runs to the end, its arguments unchanged and the counters at zero. -/

@[expose] public section

-- membership in a rectangle of production extents (`View.cover_of_tiled`): the elaborator's structural look
-- recurses once per coordinate of the long axes
set_option maxRecDepth 16384

noncomputable section

namespace Cert.Kernel.Fr

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5, 6, 7, 8, 9, 10): nothing reads what the kernel leaves in them, so nothing
    of it is named (Lib/Pipeline/Dat.lean `Dat.toRForget`). -/
def forgets0 : Fin 11 → Bool := fun w => w.val == 4 || w.val == 5 || w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 15 := lt_of_lt_of_eq t.isLt (show cfg0.N = 15 from N_0)
  by_cases h0 : t.val % 5 = 0
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Fr

end
-- ==== Proof.KernelRuns.lean ====
module

public import Idealize.ShloMosaic.Lib.Ring
public import Idealize.ShloMosaic.Lib.WordCmp
public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 5) — by arithmetic of the point. -/
theorem hcond0_0 : ∀ t : Fin cfg0.N, cond0_0 (grid0.coords t) ↔ t.val % 5 = 0 :=
  (fun t => by
    have ht : t.val < 15 := Nat.lt_of_lt_of_eq t.isLt N_0
    have e0 : (grid0.coords t 0).val = t.val / 5 % 3 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 5 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x128x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x2560 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x10x128x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x10x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x128x256 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x128x256 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2x896x256 .fp8e4m3 := Memref.whole cc0_scratch0
abbrev scM0_1 : Memref sig .tc .vmem S2x896x256 .bf16 := Memref.whole cc0_scratch1
abbrev scM0_2 : Memref sig .tc .vmem S7x8x128 .f32 := Memref.whole cc0_scratch2
abbrev scM0_3 : Memref sig .tc .vmem S7x1x128 .i32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.Vocab.lean ====
module

public import proofs.«01_k».proof.Proof.KernelRuns

/-! The kernel's vector operations under a few names: one head's quantisation of a block of 128 rows, one attention unit
    (32 query rows of a group of five heads against a window of 256 keys), and the lists of stores made of them. -/

@[expose] public section

set_option maxRecDepth 16384

noncomputable section

namespace Cert.KernelIdeal.Voc

open Idealize.ShloMosaic Cert.KernelIdeal Cert.KernelIdeal.Gen

variable {F : FTy → Type} [FloatOps F] [Named F]

/-! ## One head's quantisation -/

/-- The greatest magnitude in each row of a tile. -/
def amax (t : FVec F S128x256 .bf16) : FVec F S128x1 .bf16 :=
  shapeCast S128x1 (multiReduction .maximumf [1] S128 (absf t) 0xFF80#16 reduces_S128x256_S128 (.inr rfl) rfl) shapeCasts_S128_S128x1
/-- One step of the search for a bf16 pattern: set the bit `n` if the pattern then stands for at most `a`. -/
def step (a : FVec F S128x1 .bf16) (n : BitVec 16) (b : IVec S128x1 16) : IVec S128x1 16 :=
  select (cmpf .oge a (bitcastToFloat .bf16 (addi b (broadcast S128x1 n)))) (addi b (broadcast S128x1 n)) b
/-- The pattern of `a`, found bit by bit from the top. -/
def bits (a : FVec F S128x1 .bf16) : IVec S128x1 16 :=
  step a 1#16 (step a 2#16 (step a 4#16 (step a 8#16 (step a 16#16 (step a 32#16 (step a 64#16 (step a 128#16 (step a 256#16 (step a 512#16 (step a 1024#16 (step a 2048#16 (step a 4096#16 (step a 8192#16 (step a 16384#16 (broadcast S128x1 0#16)))))))))))))))
/-- The pattern rounded to a power of two (sign and mantissa cleared after adding a quarter of a unit). -/
def expo (a : FVec F S128x1 .bf16) : IVec S128x1 16 := andi (addi (bits a) (broadcast S128x1 32#16)) (broadcast S128x1 32640#16)
/-- Where the magnitude is below what a scale can be formed of. -/
def small (a : FVec F S128x1 .bf16) : IVec S128x1 1 := cmpi .slt (expo a) (broadcast S128x1 1280#16)
/-- The scale of each row. -/
def scale (a : FVec F S128x1 .bf16) : FVec F S128x1 .bf16 :=
  bitcastToFloat .bf16 (select (small a) (broadcast S128x1 16256#16) (subi (expo a) (broadcast S128x1 1024#16)))
/-- The reciprocal of each row's scale. -/
def inv (a : FVec F S128x1 .bf16) : FVec F S128x1 .bf16 :=
  bitcastToFloat .bf16 (select (small a) (broadcast S128x1 16256#16) (subi (broadcast S128x1 33536#16) (expo a)))
/-- The codes of a tile: the values over their row's scale, kept between -448 and 448. -/
def codes (t : FVec F S128x256 .bf16) : FVec F S128x256 .fp8e4m3 :=
  truncf .fp8e4m3 (minimumf (broadcast S128x256 (Scalar.truncf .bf16 bitsLt_bf16_f32 (Scalar.ofBits .f32 0x43E00000#32)))
    (maximumf (broadcast S128x256 (Scalar.truncf .bf16 bitsLt_bf16_f32 (Scalar.ofBits .f32 0xC3E00000#32)))
      (mulf t (broadcastTo S128x256 (inv (amax t)) broadcasts_S128x1_S128x256)))) bitsLt_fp8e4m3_bf16
/-- A tile's scales as 32-bit floats. -/
def scale32 (t : FVec F S128x256 .bf16) : FVec F S128x1 .f32 := extf .f32 (scale (amax t)) bitsLt_bf16_f32
/-- A tile's codes times their scales. -/
def deq (t : FVec F S128x256 .bf16) : FVec F S128x256 .bf16 :=
  mulf (extf .bf16 (codes t) bitsLt_fp8e4m3_bf16) (broadcastTo S128x256 (scale (amax t)) broadcasts_S128x1_S128x256)
/-- The matrix of scales with lane `h` set to the scales `s`. -/
def put (h : BitVec 32) (s : FVec F S128x1 .f32) (acc : FVec F S128x128 .f32) : FVec F S128x128 .f32 :=
  select (cmpi .eq (iota .tc S128x128 32 [1] iota_S128x128_d1_w32) (broadcast S128x128 h))
    (broadcastTo S128x128 (shapeCast S128x1 s shapeCasts_S128x1_S128x1) broadcasts_S128x1_S128x128) acc

/-! ## One attention unit -/

/-- The scores of 160 query rows against a window of 256 keys, the keys' scales and the mask applied. -/
def scores (q : FVec F S160x256 .fp8e4m3) (kw : FVec F S256x256 .fp8e4m3) (kl : FVec F S1x256 .f32) (bias : FVec F S32x256 .f32) :
    FVec F S160x256 .f32 :=
  shapeCast S160x256 (addf (shapeCast S5x32x256 (mulf (matmul dot_S160x256_S256x256_S160x256_1_1_0_0_n_n none q kw (constant S160x256 .f32 0x00000000#32))
      (broadcastTo S160x256 kl broadcasts_S1x256_S160x256)) shapeCasts_S160x256_S5x32x256)
    (broadcastTo S5x32x256 (shapeCast S1x32x256 bias shapeCasts_S32x256_S1x32x256) broadcasts_S1x32x256_S5x32x256)) shapeCasts_S5x32x256_S160x256
/-- The weights from the scores and the query scales. -/
def weights (s : FVec F S160x256 .f32) (qs : FVec F S160x1 .f32) : FVec F S160x256 .f32 :=
  exp2 (subf (mulf s (broadcastTo S160x256 qs broadcasts_S160x1_S160x256))
    (broadcastTo S160x256 (subf (mulf (shapeCast S160x1 (multiReduction .maximumf [1] S160 s 0xFF800000#32 reduces_S160x256_S160 (.inl rfl) rfl) shapeCasts_S160_S160x1) qs)
      (broadcast S160x1 (Scalar.ofBits .f32 0x41000000#32))) broadcasts_S160x1_S160x256))
/-- The weighted mean of the window's values. -/
def mean (p : FVec F S160x256 .f32) (vw : FVec F S256x256 .bf16) : FVec F S160x256 .bf16 :=
  truncf .bf16 (mulf (matmul dot_S160x256_S256x256_S160x256_1_0_0_1_n_n none
      (extf .bf16 (truncf .fp8e4m3 (minimumf (broadcast S160x256 (Scalar.ofBits .f32 0x43E00000#32))
        (maximumf (broadcast S160x256 (Scalar.ofBits .f32 0xC3E00000#32)) p)) bitsLt_fp8e4m3_f32) bitsLt_fp8e4m3_bf16) vw (constant S160x256 .f32 0x00000000#32))
    (broadcastTo S160x256 (divf (broadcast S160x1 (Scalar.ofBits .f32 0x3F800000#32))
      (shapeCast S160x1 (multiReduction .add [1] S160 p 0x00000000#32 reduces_S160x256_S160 (.inl rfl) rfl) shapeCasts_S160_S160x1)) broadcasts_S160x1_S160x256)) bitsLt_bf16_f32
/-- The unit whole. -/
def attend (q : FVec F S160x256 .fp8e4m3) (qs : FVec F S160x1 .f32) (kw : FVec F S256x256 .fp8e4m3) (vw : FVec F S256x256 .bf16)
    (kl : FVec F S1x256 .f32) (bias : FVec F S32x256 .f32) : FVec F S160x256 .bf16 :=
  mean (weights (scores q kw kl bias) qs) vw

/-! ## Places and windows -/

theorem sl_q1 : ∀ j : Fin 4, S128x1.Slices ![32 * j.val, 0] S32x1 := by decide +kernel
theorem sl_out : ∀ n : Fin 5, S160x256.Slices ![32 * n.val, 0] S32x256 := by decide +kernel
theorem sl_kl : ∀ (j : Fin 4) (h : Fin 2), S8x384.Slices ![h.val, 32 * j.val + 32] S1x256 := by decide +kernel
theorem sl_sg : ∀ j : Fin 4, S1x384.Slices ![0, 32 * j.val + 32] S1x256 := by decide +kernel
theorem sl_sq : ∀ j : Fin 4, S128x128.Slices ![32 * j.val, 0] S32x128 := by decide +kernel
theorem in_x : ∀ h : Fin 10, ∀ a, (![0, 0, 256 * h.val] : Fin 3 → ℕ) a + S1x128x256.size a ≤ S1x128x2560.size a := by decide +kernel
theorem in_k : ∀ h : Fin 2, ∀ a, (![0, 0, 256 * h.val] : Fin 3 → ℕ) a + S1x128x256.size a ≤ S1x128x512.size a := by decide +kernel
theorem in_qc : ∀ h : Fin 10, ∀ a, (![0, h.val, 0, 0] : Fin 4 → ℕ) a + S1x1x128x256.size a ≤ S1x10x128x256.size a := by decide +kernel
theorem in_kc : ∀ h : Fin 2, ∀ a, (![0, h.val, 0, 0] : Fin 4 → ℕ) a + S1x1x128x256.size a ≤ S1x2x128x256.size a := by decide +kernel
theorem in_qr : ∀ (j : Fin 4) (h : Fin 10), ∀ a, (![0, h.val, 32 * j.val, 0] : Fin 4 → ℕ) a + S1x1x32x256.size a ≤ S1x10x128x256.size a := by decide +kernel
theorem in_out : ∀ (j : Fin 4) (h : Fin 10), ∀ a, (![0, 32 * j.val, 256 * h.val] : Fin 3 → ℕ) a + S1x32x256.size a ≤ S1x128x2560.size a := by decide +kernel

/-- Head `h`'s tile of the queries' block. -/
def xtile (m : Memref sig .tc .vmem S1x128x2560 .bf16) (hm : m.IsWhole) (x : Vec F S1x128x2560 .bf16) (h : Fin 10) : FVec F S128x256 .bf16 :=
  shapeCast S128x256 (View.readAt (Elt F) m.view (Rect.unit (s := S1x128x2560) ![0, 0, 256 * h.val] S1x128x256.size (in_x h)).toLoadRect (hm.unread x)) shapeCasts_S1x128x256_S128x256
/-- Head `h`'s tile of a block of keys or values. -/
def ktile (m : Memref sig .tc .vmem S1x128x512 .bf16) (hm : m.IsWhole) (x : Vec F S1x128x512 .bf16) (h : Fin 2) : FVec F S128x256 .bf16 :=
  shapeCast S128x256 (View.readAt (Elt F) m.view (Rect.unit (s := S1x128x512) ![0, 0, 256 * h.val] S1x128x256.size (in_k h)).toLoadRect (hm.unread x)) shapeCasts_S1x128x256_S128x256

/-- The stores of the queries' codes, newest first. -/
def qPieces (xt : Fin 10 → FVec F S128x256 .bf16) : List (View.Piece (Elt F) S1x10x128x256 .fp8e4m3) :=
  [9, 8, 7, 6, 5, 4, 3, 2, 1, 0].map fun h : Fin 10 =>
    ⟨Rect.unit (s := S1x10x128x256) ![0, h.val, 0, 0] S1x1x128x256.size (in_qc h), shapeCast S1x1x128x256 (codes (xt h)) shapeCasts_S128x256_S1x1x128x256⟩
/-- The stores of the keys' or the values' codes. -/
def kPieces (kt : Fin 2 → FVec F S128x256 .bf16) : List (View.Piece (Elt F) S1x2x128x256 .fp8e4m3) :=
  [1, 0].map fun h : Fin 2 =>
    ⟨Rect.unit (s := S1x2x128x256) ![0, h.val, 0, 0] S1x1x128x256.size (in_kc h), shapeCast S1x1x128x256 (codes (kt h)) shapeCasts_S128x256_S1x1x128x256⟩
/-- The stores of the keys' codes into the window buffer. -/
def kwPieces (i : grid0.Coords) (kt : Fin 2 → FVec F S128x256 .bf16) : List (View.Piece (Elt F) S2x896x256 .fp8e4m3) :=
  [⟨Rect.unit (s := S2x896x256) (k0_off2 i) S1x128x256.size (k0_off2_inb i), shapeCast S1x128x256 (codes (kt 1)) shapeCasts_S128x256_S1x128x256⟩,
   ⟨Rect.unit (s := S2x896x256) (k0_off1 i) S1x128x256.size (k0_off1_inb i), shapeCast S1x128x256 (codes (kt 0)) shapeCasts_S128x256_S1x128x256⟩]
/-- The stores of the values into the window buffer. -/
def vwPieces (i : grid0.Coords) (vt : Fin 2 → FVec F S128x256 .bf16) : List (View.Piece (Elt F) S2x896x256 .bf16) :=
  [⟨Rect.unit (s := S2x896x256) (k0_off2 i) S1x128x256.size (k0_off2_inb i), shapeCast S1x128x256 (deq (vt 1)) shapeCasts_S128x256_S1x128x256⟩,
   ⟨Rect.unit (s := S2x896x256) (k0_off1 i) S1x128x256.size (k0_off1_inb i), shapeCast S1x128x256 (deq (vt 0)) shapeCasts_S128x256_S1x128x256⟩]
/-- The block's scales, a lane per head: keys, values, queries. -/
def smat (xt : Fin 10 → FVec F S128x256 .bf16) (kt vt : Fin 2 → FVec F S128x256 .bf16) : FVec F S128x128 .f32 :=
  transpose S128x128 [1, 0] (put 13#32 (scale32 (xt 9)) (put 12#32 (scale32 (xt 8)) (put 11#32 (scale32 (xt 7)) (put 10#32 (scale32 (xt 6))
    (put 9#32 (scale32 (xt 5)) (put 8#32 (scale32 (xt 4)) (put 7#32 (scale32 (xt 3)) (put 6#32 (scale32 (xt 2)) (put 5#32 (scale32 (xt 1))
    (put 4#32 (scale32 (xt 0)) (put 3#32 (scale32 (vt 1)) (put 1#32 (scale32 (kt 1)) (put 2#32 (scale32 (vt 0)) (put 0#32 (scale32 (kt 0))
    (broadcast S128x128 (Scalar.ofBits .f32 0x00000000#32)))))))))))))))) transposes_S128x128_p1_0_S128x128
/-- The block's key scales, times the score scale, as stored for the units. -/
def klBlock (sm : FVec F S128x128 .f32) : FVec F S1x8x128 .f32 :=
  shapeCast S1x8x128 (mulf (extractStridedSlice S8x128 ![0, 0] sm slices_S128x128_o0_0_S8x128)
    (broadcast S8x128 (Named.named κ "score_scale_log2e" 0x3DB8AA3B#32))) shapeCasts_S8x128_S1x8x128

/-- The mask of the rows `32 j …`: zero where the key is not later and in the same document, minus infinity elsewhere. -/
def bias (x3r : IVec S1x1x1x128 32) (sg : IVec S1x384 32) (j : Fin 4) : FVec F S32x256 .f32 :=
  select (andi (cmpi .sle (iota .tc S32x256 32 [1] iota_S32x256_d1_w32) (addi (iota .tc S32x256 32 [0] iota_S32x256_d0_w32) (broadcast S32x256 224#32)))
      (cmpi .eq (broadcastTo S32x256 (extractStridedSlice S1x256 ![0, 32 * j.val + 32] sg (sl_sg j)) broadcasts_S1x256_S32x256)
        (concatenate S32x256 1 [⟨S32x128, extractStridedSlice S32x128 ![32 * j.val, 0] (k0_pay199 (F := F) x3r) (sl_sq j)⟩, ⟨S32x128, extractStridedSlice S32x128 ![32 * j.val, 0] (k0_pay199 (F := F) x3r) (sl_sq j)⟩] concatenates_S32x128_S32x128_S32x256_d1)))
    (broadcast S32x256 (Scalar.ofBits .f32 0x00000000#32)) (broadcast S32x256 (Scalar.ofBits .f32 0xFF800000#32))

/-- Rows `32 j …` of head `h`'s codes, read back. -/
def qrows (m : Memref sig .tc .vmem S1x10x128x256 .fp8e4m3) (xt : Fin 10 → FVec F S128x256 .bf16) (j : Fin 4) (h : Fin 10) : FVec F S32x256 .fp8e4m3 :=
  shapeCast S32x256 (m.view.readCov (qPieces xt) (Rect.unit (s := S1x10x128x256) ![0, h.val, 32 * j.val, 0] S1x1x32x256.size (in_qr j h)).toLoadRect) shapeCasts_S1x1x32x256_S32x256
/-- The codes of rows `32 j …` of five heads, one under another. -/
def qcat (m : Memref sig .tc .vmem S1x10x128x256 .fp8e4m3) (xt : Fin 10 → FVec F S128x256 .bf16) (j : Fin 4) (h0 h1 h2 h3 h4 : Fin 10) : FVec F S160x256 .fp8e4m3 :=
  concatenate S160x256 0 [⟨S32x256, qrows m xt j h0⟩, ⟨S32x256, qrows m xt j h1⟩, ⟨S32x256, qrows m xt j h2⟩, ⟨S32x256, qrows m xt j h3⟩, ⟨S32x256, qrows m xt j h4⟩]
    concatenates_S32x256_S32x256_S32x256_S32x256_S32x256_S160x256_d0
/-- Their scales. -/
def qscat (xt : Fin 10 → FVec F S128x256 .bf16) (j : Fin 4) (h0 h1 h2 h3 h4 : Fin 10) : FVec F S160x1 .f32 :=
  concatenate S160x1 0 [⟨S32x1, extractStridedSlice S32x1 ![32 * j.val, 0] (scale32 (xt h0)) (sl_q1 j)⟩, ⟨S32x1, extractStridedSlice S32x1 ![32 * j.val, 0] (scale32 (xt h1)) (sl_q1 j)⟩,
      ⟨S32x1, extractStridedSlice S32x1 ![32 * j.val, 0] (scale32 (xt h2)) (sl_q1 j)⟩, ⟨S32x1, extractStridedSlice S32x1 ![32 * j.val, 0] (scale32 (xt h3)) (sl_q1 j)⟩,
      ⟨S32x1, extractStridedSlice S32x1 ![32 * j.val, 0] (scale32 (xt h4)) (sl_q1 j)⟩]
    concatenates_S32x1_S32x1_S32x1_S32x1_S32x1_S160x1_d0

/-- The window of keys of group 0 or 1 that the rows `32 j …` see. -/
def kwin0 (m : Memref sig .tc .vmem S2x896x256 .fp8e4m3) (f : m.view.ty.Contents (Elt F)) (i : grid0.Coords) (j : Fin 4) : FVec F S256x256 .fp8e4m3 :=
  shapeCast S256x256 (View.readAt (Elt F) m.view (Rect.unit (s := S2x896x256) (k0_off7 i (BitVec.ofNat 32 (32 + 32 * j.val))) S1x256x256.size (k0_off7_inb i j)).toLoadRect f) shapeCasts_S1x256x256_S256x256
def kwin1 (m : Memref sig .tc .vmem S2x896x256 .fp8e4m3) (f : m.view.ty.Contents (Elt F)) (i : grid0.Coords) (j : Fin 4) : FVec F S256x256 .fp8e4m3 :=
  shapeCast S256x256 (View.readAt (Elt F) m.view (Rect.unit (s := S2x896x256) (k0_off8 i (BitVec.ofNat 32 (32 + 32 * j.val))) S1x256x256.size (k0_off8_inb i j)).toLoadRect f) shapeCasts_S1x256x256_S256x256
/-- The window of values of group 0 or 1. -/
def vwin0 (m : Memref sig .tc .vmem S2x896x256 .bf16) (f : m.view.ty.Contents (Elt F)) (i : grid0.Coords) (j : Fin 4) : FVec F S256x256 .bf16 :=
  shapeCast S256x256 (View.readAt (Elt F) m.view (Rect.unit (s := S2x896x256) (k0_off7 i (BitVec.ofNat 32 (32 + 32 * j.val))) S1x256x256.size (k0_off7_inb i j)).toLoadRect f) shapeCasts_S1x256x256_S256x256
def vwin1 (m : Memref sig .tc .vmem S2x896x256 .bf16) (f : m.view.ty.Contents (Elt F)) (i : grid0.Coords) (j : Fin 4) : FVec F S256x256 .bf16 :=
  shapeCast S256x256 (View.readAt (Elt F) m.view (Rect.unit (s := S2x896x256) (k0_off8 i (BitVec.ofNat 32 (32 + 32 * j.val))) S1x256x256.size (k0_off8_inb i j)).toLoadRect f) shapeCasts_S1x256x256_S256x256

/-- Unit `(j, 0)`: the first five heads. -/
def unit0 (m7 : Memref sig .tc .vmem S1x10x128x256 .fp8e4m3) (xt : Fin 10 → FVec F S128x256 .bf16) (x3r : IVec S1x1x1x128 32)
    (m13 : Memref sig .tc .vmem S2x896x256 .fp8e4m3) (f13 : m13.view.ty.Contents (Elt F)) (m14 : Memref sig .tc .vmem S2x896x256 .bf16) (f14 : m14.view.ty.Contents (Elt F))
    (kl : FVec F S8x384 .f32) (sg : IVec S1x384 32) (i : grid0.Coords) (j : Fin 4) : FVec F S160x256 .bf16 :=
  attend (qcat m7 xt j 0 1 2 3 4) (qscat xt j 0 1 2 3 4) (kwin0 m13 f13 i j) (vwin0 m14 f14 i j)
    (extractStridedSlice S1x256 ![0, 32 * j.val + 32] kl (sl_kl j 0)) (bias x3r sg j)
/-- Unit `(j, 1)`: the last five heads. -/
def unit1 (m7 : Memref sig .tc .vmem S1x10x128x256 .fp8e4m3) (xt : Fin 10 → FVec F S128x256 .bf16) (x3r : IVec S1x1x1x128 32)
    (m13 : Memref sig .tc .vmem S2x896x256 .fp8e4m3) (f13 : m13.view.ty.Contents (Elt F)) (m14 : Memref sig .tc .vmem S2x896x256 .bf16) (f14 : m14.view.ty.Contents (Elt F))
    (kl : FVec F S8x384 .f32) (sg : IVec S1x384 32) (i : grid0.Coords) (j : Fin 4) : FVec F S160x256 .bf16 :=
  attend (qcat m7 xt j 5 6 7 8 9) (qscat xt j 5 6 7 8 9) (kwin1 m13 f13 i j) (vwin1 m14 f14 i j)
    (extractStridedSlice S1x256 ![1, 32 * j.val + 32] kl (sl_kl j 1)) (bias x3r sg j)
/-- The store of head `h`'s rows `32 j …` of the result: part `n` of a unit. -/
def outPiece (u : FVec F S160x256 .bf16) (j : Fin 4) (h : Fin 10) (n : Fin 5) : View.Piece (Elt F) S1x128x2560 .bf16 :=
  ⟨Rect.unit (s := S1x128x2560) ![0, 32 * j.val, 256 * h.val] S1x32x256.size (in_out j h),
   shapeCast S1x32x256 (extractStridedSlice S32x256 ![32 * n.val, 0] u (sl_out n)) shapeCasts_S32x256_S1x32x256⟩
/-- All the stores of the result, newest first. -/
def outPieces (u0 u1 : Fin 4 → FVec F S160x256 .bf16) : List (View.Piece (Elt F) S1x128x2560 .bf16) :=
  [outPiece (u1 3) 3 9 4, outPiece (u1 3) 3 8 3, outPiece (u1 3) 3 7 2, outPiece (u1 3) 3 6 1, outPiece (u1 3) 3 5 0,
   outPiece (u0 3) 3 4 4, outPiece (u0 3) 3 3 3, outPiece (u0 3) 3 2 2, outPiece (u0 3) 3 1 1, outPiece (u0 3) 3 0 0,
   outPiece (u1 2) 2 9 4, outPiece (u1 2) 2 8 3, outPiece (u1 2) 2 7 2, outPiece (u1 2) 2 6 1, outPiece (u1 2) 2 5 0,
   outPiece (u0 2) 2 4 4, outPiece (u0 2) 2 3 3, outPiece (u0 2) 2 2 2, outPiece (u0 2) 2 1 1, outPiece (u0 2) 2 0 0,
   outPiece (u1 1) 1 9 4, outPiece (u1 1) 1 8 3, outPiece (u1 1) 1 7 2, outPiece (u1 1) 1 6 1, outPiece (u1 1) 1 5 0,
   outPiece (u0 1) 1 4 4, outPiece (u0 1) 1 3 3, outPiece (u0 1) 1 2 2, outPiece (u0 1) 1 1 1, outPiece (u0 1) 1 0 0,
   outPiece (u1 0) 0 9 4, outPiece (u1 0) 0 8 3, outPiece (u1 0) 0 7 2, outPiece (u1 0) 0 6 1, outPiece (u1 0) 0 5 0,
   outPiece (u0 0) 0 4 4, outPiece (u0 0) 0 3 3, outPiece (u0 0) 0 2 2, outPiece (u0 0) 0 1 1, outPiece (u0 0) 0 0 0]

/-- Three blocks of key scales (three blocks of document numbers) beside one another. -/
def klCat (a b c : FVec F S1x8x128 .f32) : FVec F S8x384 .f32 :=
  concatenate S8x384 1 [⟨S8x128, shapeCast S8x128 a shapeCasts_S1x8x128_S8x128⟩, ⟨S8x128, shapeCast S8x128 b shapeCasts_S1x8x128_S8x128⟩, ⟨S8x128, shapeCast S8x128 c shapeCasts_S1x8x128_S8x128⟩] concatenates_S8x128_S8x128_S8x128_S8x384_d1
def sgCat (a b c : IVec S1x1x128 32) : IVec S1x384 32 :=
  concatenate S1x384 1 [⟨S1x128, shapeCast S1x128 a shapeCasts_S1x1x128_S1x128⟩, ⟨S1x128, shapeCast S1x128 b shapeCasts_S1x1x128_S1x128⟩, ⟨S1x128, shapeCast S1x128 c shapeCasts_S1x1x128_S1x128⟩] concatenates_S1x128_S1x128_S1x128_S1x384_d1

/-- The store of the block's key scales. -/
def klPiece (i : grid0.Coords) (sm : FVec F S128x128 .f32) : View.Piece (Elt F) S7x8x128 .f32 :=
  ⟨Rect.unit (s := S7x8x128) (k0_off3 i 2#32) S1x8x128.size (k0_off3_inb i 1), klBlock sm⟩
/-- The store of the block's document numbers. -/
def sgPiece (i : grid0.Coords) (x3r : IVec S1x1x1x128 32) : View.Piece (Elt F) S7x1x128 .i32 :=
  ⟨Rect.unit (s := S7x1x128) (k0_off4 i 2#32) S1x1x128.size (k0_off4_inb i 1), k0_pay198 (F := F) x3r⟩
/-- The rows before the first token, written at a batch's first point: codes and values zero, scales zero, document numbers -1. -/
def kwPads : List (View.Piece (Elt F) S2x896x256 .fp8e4m3) :=
  [⟨Rect.unit (s := S2x896x256) ![1, 0, 0] S1x256x256.size inb_S2x896x256_S1x256x256_1_0_0, shapeCast S1x256x256 (broadcast S256x256 (Scalar.ofBits .fp8e4m3 0#8)) shapeCasts_S256x256_S1x256x256⟩,
   ⟨Rect.unit (s := S2x896x256) ![0, 0, 0] S1x256x256.size inb_S2x896x256_S1x256x256_0_0_0, shapeCast S1x256x256 (broadcast S256x256 (Scalar.ofBits .fp8e4m3 0#8)) shapeCasts_S256x256_S1x256x256⟩]
def vwPads : List (View.Piece (Elt F) S2x896x256 .bf16) :=
  [⟨Rect.unit (s := S2x896x256) ![1, 0, 0] S1x256x256.size inb_S2x896x256_S1x256x256_1_0_0, shapeCast S1x256x256 (broadcast S256x256 (Scalar.ofBits .bf16 0#16)) shapeCasts_S256x256_S1x256x256⟩,
   ⟨Rect.unit (s := S2x896x256) ![0, 0, 0] S1x256x256.size inb_S2x896x256_S1x256x256_0_0_0, shapeCast S1x256x256 (broadcast S256x256 (Scalar.ofBits .bf16 0#16)) shapeCasts_S256x256_S1x256x256⟩]
def klPads : List (View.Piece (Elt F) S7x8x128 .f32) :=
  [⟨Rect.unit (s := S7x8x128) ![0, 0, 0] S2x8x128.size inb_S7x8x128_S2x8x128_0_0_0, shapeCast S2x8x128 (broadcast S2x8x128 (Scalar.ofBits .f32 0#32)) shapeCasts_S2x8x128_S2x8x128⟩]
def sgPads : List (View.Piece (Elt F) S7x1x128 .i32) :=
  [⟨Rect.unit (s := S7x1x128) ![0, 0, 0] S2x1x128.size inb_S7x1x128_S2x1x128_0_0_0, shapeCast S2x1x128 (broadcast S2x1x128 4294967295#32) shapeCasts_S2x1x128_S2x1x128⟩]

end Cert.KernelIdeal.Voc

end
-- ==== Proof.Read.lean ====
module

public import Idealize.ShloMosaic.Lib.Pointwise
public import proofs.«01_k».proof.Proof.Vocab

/-! The vocabulary read at an index, over the extended reals. -/

@[expose] public section

set_option maxRecDepth 16384

noncomputable section

namespace Cert.KernelIdeal.Voc

open Idealize.ShloMosaic Cert.KernelIdeal Cert.KernelIdeal.Gen

/-! ## Scalars -/

/-- One step of the search for a pattern. -/
def stepE (a : EReal) (n b : BitVec 16) : BitVec 16 := if (FloatOps.ofBits (F := Ideal) .bf16 (b + n) : EReal) ≤ a then b + n else b
/-- The pattern found for `a`. -/
def bitsE (a : EReal) : BitVec 16 :=
  stepE a 1#16 (stepE a 2#16 (stepE a 4#16 (stepE a 8#16 (stepE a 16#16 (stepE a 32#16 (stepE a 64#16 (stepE a 128#16 (stepE a 256#16
    (stepE a 512#16 (stepE a 1024#16 (stepE a 2048#16 (stepE a 4096#16 (stepE a 8192#16 (stepE a 16384#16 0#16))))))))))))))
/-- The pattern rounded to a power of two. -/
def expoE (a : EReal) : BitVec 16 := (bitsE a + 32#16) &&& 32640#16
/-- The scale of a row whose greatest magnitude is `a`. -/
def scaleE (a : EReal) : EReal := FloatOps.ofBits (F := Ideal) .bf16 (if (expoE a).slt 1280#16 then 16256#16 else expoE a - 1024#16)
/-- Its reciprocal. -/
def invE (a : EReal) : EReal := FloatOps.ofBits (F := Ideal) .bf16 (if (expoE a).slt 1280#16 then 16256#16 else 33536#16 - expoE a)
/-- The greatest magnitude of a row. -/
def amaxE (f : Fin 256 → EReal) : EReal := Finset.univ.fold max ⊥ fun k => max (f k) (-(f k))
/-- Kept between -448 and 448. -/
def clipE (x : EReal) : EReal := min (FloatOps.ofBits (F := Ideal) .f32 0x43E00000#32) (max (FloatOps.ofBits (F := Ideal) .f32 0xC3E00000#32) x)

theorem f32_ninf : Ideal.ofBits .f32 0xFF800000#32 = (⊥ : EReal) := by
  simp [Ideal.ofBits, Ideal.ieee]
theorem bf16_ninf : Ideal.ofBits .bf16 0xFF80#16 = (⊥ : EReal) := by
  simp [Ideal.ofBits, Ideal.ieee]
theorem f32_eight : Ideal.ofBits .f32 0x41000000#32 = ((8 : ℝ) : EReal) := by
  simp [Ideal.ofBits, Ideal.ieee]; try rw [← EReal.coe_mul]; norm_num
theorem f32_448 : Ideal.ofBits .f32 0x43E00000#32 = ((448 : ℝ) : EReal) := by
  simp [Ideal.ofBits, Ideal.ieee]; try rw [← EReal.coe_mul]; norm_num
theorem f32_n448 : Ideal.ofBits .f32 0xC3E00000#32 = ((-448 : ℝ) : EReal) := by
  simp [Ideal.ofBits, Ideal.ieee]; try rw [← EReal.coe_mul]; norm_num

/-- A row's greatest magnitude. -/
theorem amax_apply (t : FVec Ideal S128x256 .bf16) (r : Fin 128) (z : Fin 1) :
    amax t (ix2 r z) = amaxE fun k => t (ix2 r k) := by
  pointwise [amax, amaxE]
  rw [bf16_ninf]; rfl

/-- A step of the search, row by row. -/
theorem step_apply (a : FVec Ideal S128x1 .bf16) (n : BitVec 16) (b : IVec S128x1 16) (y : S128x1.Idx) : step a n b y = stepE (a y) n (b y) := by
  pointwise [step, stepE]
  rfl
/-- The search, row by row. -/
theorem bits_apply (a : FVec Ideal S128x1 .bf16) (y : S128x1.Idx) : bits a y = bitsE (a y) := by
  simp only [bits, step_apply, bitsE]; rfl
theorem expo_apply (a : FVec Ideal S128x1 .bf16) (y : S128x1.Idx) : expo a y = expoE (a y) := by
  pointwise [expo, expoE]
  rw [bits_apply]; rfl
theorem small_apply (a : FVec Ideal S128x1 .bf16) (y : S128x1.Idx) : small a y = BitVec.ofBool ((expoE (a y)).slt 1280#16) := by
  pointwise [small]
  rw [expo_apply]; rfl
theorem scale_apply (a : FVec Ideal S128x1 .bf16) (y : S128x1.Idx) : scale a y = scaleE (a y) := by
  pointwise [scale, scaleE]
  rw [small_apply, expo_apply]
  cases (expoE (a y)).slt 1280#16 <;> rfl
theorem inv_apply (a : FVec Ideal S128x1 .bf16) (y : S128x1.Idx) : inv a y = invE (a y) := by
  pointwise [inv, invE]
  rw [small_apply, expo_apply]
  cases (expoE (a y)).slt 1280#16 <;> rfl

/-- The greatest magnitude of a tile's row, as a scalar. -/
def rowE (t : FVec Ideal S128x256 .bf16) (r : Fin 128) : EReal := amaxE fun k => t (ix2 r k)

/-- A tile's codes at an index. -/
theorem codes_apply (t : FVec Ideal S128x256 .bf16) (r : Fin 128) (d : Fin 256) :
    codes t (ix2 r d) = clipE (t (ix2 r d) * invE (rowE t r)) := by
  have h : codes t (ix2 r d) = clipE (t (ix2 r d) * inv (amax t) (ix2 r 0)) := by pointwise [codes, clipE]
  rw [h, inv_apply, amax_apply, rowE]
/-- A tile's scales at an index. -/
theorem scale32_apply (t : FVec Ideal S128x256 .bf16) (r : Fin 128) (z : Fin 1) : scale32 t (ix2 r z) = scaleE (rowE t r) := by
  pointwise [scale32]
  rw [scale_apply, amax_apply, rowE]
/-- A tile's codes times scales at an index. -/
theorem deq_apply (t : FVec Ideal S128x256 .bf16) (r : Fin 128) (d : Fin 256) :
    deq t (ix2 r d) = clipE (t (ix2 r d) * invE (rowE t r)) * scaleE (rowE t r) := by
  have h : deq t (ix2 r d) = codes t (ix2 r d) * scale (amax t) (ix2 r 0) := by pointwise [deq]
  rw [h, codes_apply, scale_apply, amax_apply, rowE]

/-- The scores at an index. -/
theorem scores_apply (q : FVec Ideal S160x256 .fp8e4m3) (kw : FVec Ideal S256x256 .fp8e4m3) (kl : FVec Ideal S1x256 .f32) (bias : FVec Ideal S32x256 .f32) (ρ : Fin 160) (c : Fin 256) :
    scores q kw kl bias (ix2 ρ c) = (∑ e : Fin 256, q (ix2 ρ e) * kw (ix2 c e)) * kl (ix2 0 c) + bias (ix2 ⟨ρ.val % 32, Nat.mod_lt _ (by norm_num)⟩ c) := by
  pointwise [scores]
/-- The weights at an index. -/
theorem weights_apply (s : FVec Ideal S160x256 .f32) (qs : FVec Ideal S160x1 .f32) (ρ : Fin 160) (c : Fin 256) :
    weights s qs (ix2 ρ c) = Ideal.exp2 (s (ix2 ρ c) * qs (ix2 ρ 0) - (Finset.univ.fold max ⊥ (fun c' : Fin 256 => s (ix2 ρ c')) * qs (ix2 ρ 0) - ((8 : ℝ) : EReal))) := by
  pointwise [weights]
  rw [f32_ninf, f32_eight]; rfl
/-- The weighted mean at an index. -/
theorem mean_apply (p : FVec Ideal S160x256 .f32) (vw : FVec Ideal S256x256 .bf16) (ρ : Fin 160) (d : Fin 256) :
    mean p vw (ix2 ρ d) = (∑ c : Fin 256, clipE (p (ix2 ρ c)) * vw (ix2 c d)) * (Ideal.div 1 (∑ c : Fin 256, p (ix2 ρ c))) := by
  pointwise [mean, clipE]

/-- One query row against a window of 256 keys. -/
def attE (q : Fin 256 → EReal) (qs : EReal) (kw : Fin 256 → Fin 256 → EReal) (vw : Fin 256 → EReal) (kl bias : Fin 256 → EReal) : EReal :=
  let s : Fin 256 → EReal := fun c => (∑ e : Fin 256, q e * kw c e) * kl c + bias c
  let p : Fin 256 → EReal := fun c => Ideal.exp2 (s c * qs - (Finset.univ.fold max ⊥ s * qs - ((8 : ℝ) : EReal)))
  (∑ c : Fin 256, clipE (p c) * vw c) * (Ideal.div 1 (∑ c : Fin 256, p c))

/-- A unit at an index is one query row against the window. -/
theorem attend_apply (q : FVec Ideal S160x256 .fp8e4m3) (qs : FVec Ideal S160x1 .f32) (kw : FVec Ideal S256x256 .fp8e4m3) (vw : FVec Ideal S256x256 .bf16)
    (kl : FVec Ideal S1x256 .f32) (bias : FVec Ideal S32x256 .f32) (ρ : Fin 160) (d : Fin 256) :
    attend q qs kw vw kl bias (ix2 ρ d) = attE (fun e => q (ix2 ρ e)) (qs (ix2 ρ 0)) (fun c e => kw (ix2 c e)) (fun c => vw (ix2 c d)) (fun c => kl (ix2 0 c))
      (fun c => bias (ix2 ⟨ρ.val % 32, Nat.mod_lt _ (by norm_num)⟩ c)) := by
  rw [attend, mean_apply]
  simp only [weights_apply, scores_apply, attE]

/-- A number put among the bits of a comparison chain: the lane `h` of the matrix of scales. -/
theorem put_apply (h : BitVec 32) (s : FVec Ideal S128x1 .f32) (acc : FVec Ideal S128x128 .f32) (r l : Fin 128) :
    put h s acc (ix2 r l) = if BitVec.ofNat 32 l.val = h then s (ix2 r 0) else acc (ix2 r l) := by
  pointwise [put]
  simp only [Scalar.select, IntOp.cmpi]
  by_cases e : BitVec.ofNat 32 l.val = h
  · simp [e]
  · have e' : (BitVec.ofNat 32 l.val == h) = false := by simpa using e
    simp [e, e']

/-- The mask at an index. -/
theorem bias_apply (x3r : IVec S1x1x1x128 32) (sg : IVec S1x384 32) (j : Fin 4) (r : Fin 32) (c : Fin 256) :
    bias (F := Ideal) x3r sg j (ix2 r c) = if c.val ≤ r.val + 224 ∧ sg (ix2 0 ⟨32 * j.val + 32 + c.val, by omega⟩) = x3r (ix4 0 0 0 ⟨32 * j.val + r.val, by omega⟩) then 0 else ⊥ := by
  pointwise [bias, k0_pay199, k0_pay197]
  rw [f32_ninf]
  have e : (if h : c.val < 128 then x3r (ix4 0 0 0 ⟨32 * j.val + r.val, by omega⟩) else x3r (ix4 0 0 0 ⟨32 * j.val + r.val, by omega⟩)) = x3r (ix4 0 0 0 ⟨32 * j.val + r.val, by omega⟩) := by split <;> rfl
  rw [e]
  have h1 : (BitVec.ofNat 32 c.val).sle (IntOp.addi (BitVec.ofNat 32 r.val) 224#32) = decide (c.val ≤ r.val + 224) := by
    have a : (BitVec.ofNat 32 c.val).toInt = (c.val : ℤ) := by
      rw [BitVec.toInt_eq_toNat_of_lt] <;> simp <;> omega
    have b : (IntOp.addi (BitVec.ofNat 32 r.val) 224#32).toInt = ((r.val + 224 : ℕ) : ℤ) := by
      have : IntOp.addi (BitVec.ofNat 32 r.val) 224#32 = BitVec.ofNat 32 (r.val + 224) := by
        apply BitVec.eq_of_toNat_eq; simp [IntOp.addi]
      rw [this, BitVec.toInt_eq_toNat_of_lt] <;> simp <;> omega
    rw [BitVec.sle_eq_decide, a, b, decide_eq_decide]
    omega
  simp only [IntOp.cmpi, h1, Scalar.select, IntOp.andi]
  by_cases h3 : sg (ix2 0 ⟨32 * j.val + 32 + c.val, by omega⟩) = x3r (ix4 0 0 0 ⟨32 * j.val + r.val, by omega⟩)
  · by_cases h2 : c.val ≤ r.val + 224 <;> simp [h2, h3]
  · have h3' : (sg (ix2 0 ⟨32 * j.val + 32 + c.val, by omega⟩) == x3r (ix4 0 0 0 ⟨32 * j.val + r.val, by omega⟩)) = false := by simpa using h3
    by_cases h2 : c.val ≤ r.val + 224 <;> simp [h2, h3, h3']

end Cert.KernelIdeal.Voc

end
-- ==== Proof.Pieces.lean ====
module

public import Idealize.ShloMosaic.Lib.WholeRead
public import proofs.«01_k».proof.Proof.Read

/-! What the lists of stores hold, element by element, and what the body's loads read. -/

@[expose] public section

set_option maxRecDepth 16384

noncomputable section

namespace Cert.KernelIdeal.Voc

open Idealize.ShloMosaic Cert.KernelIdeal Cert.KernelIdeal.Gen

/-! ## The tiles of the input blocks -/

theorem xtile_apply (m : Memref sig .tc .vmem S1x128x2560 .bf16) (hm : m.IsWhole) (x : Vec Ideal S1x128x2560 .bf16) (h : Fin 10) (r : Fin 128) (d : Fin 256) :
    xtile m hm x h (ix2 r d) = x (ix3 0 r ⟨256 * h.val + d.val, by omega⟩) := by
  unfold xtile
  generalize hg : View.readAt (Elt Ideal) m.view (Rect.unit (s := S1x128x2560) ![0, 0, 256 * h.val] S1x128x256.size (in_x h)).toLoadRect (hm.unread x) = g
  have e : ∀ y, g y = x ((Rect.unit (s := S1x128x2560) ![0, 0, 256 * h.val] S1x128x256.size (in_x h)).toLoadRect.idx y) := fun y => by
    rw [← hg]; exact hm.readAt_unread x _ y
  have e2 : shapeCast (s := S1x128x256) S128x256 g shapeCasts_S1x128x256_S128x256 (ix2 r d) = g (ix3 0 r d) := by pointwise
  refine e2.trans ((e _).trans (congrArg x ?_))
  funext a; fin_cases a <;> (apply Fin.ext; simp [ix3]; try rfl)

theorem ktile_apply (m : Memref sig .tc .vmem S1x128x512 .bf16) (hm : m.IsWhole) (x : Vec Ideal S1x128x512 .bf16) (h : Fin 2) (r : Fin 128) (d : Fin 256) :
    ktile m hm x h (ix2 r d) = x (ix3 0 r ⟨256 * h.val + d.val, by omega⟩) := by
  unfold ktile
  generalize hg : View.readAt (Elt Ideal) m.view (Rect.unit (s := S1x128x512) ![0, 0, 256 * h.val] S1x128x256.size (in_k h)).toLoadRect (hm.unread x) = g
  have e : ∀ y, g y = x ((Rect.unit (s := S1x128x512) ![0, 0, 256 * h.val] S1x128x256.size (in_k h)).toLoadRect.idx y) := fun y => by
    rw [← hg]; exact hm.readAt_unread x _ y
  have e2 : shapeCast (s := S1x128x256) S128x256 g shapeCasts_S1x128x256_S128x256 (ix2 r d) = g (ix3 0 r d) := by pointwise
  refine e2.trans ((e _).trans (congrArg x ?_))
  funext a; fin_cases a <;> (apply Fin.ext; simp [ix3]; try rfl)

theorem sg_read (m : Memref sig .tc .vmem S1x1x1x128 .i32) (hm : m.IsWhole) (x : Vec Ideal S1x1x1x128 .i32) :
    View.readAt (Elt Ideal) m.view (Rect.unit (s := S1x1x1x128) ![0, 0, 0, 0] S1x1x1x128.size inb_S1x1x1x128_S1x1x1x128_0_0_0_0).toLoadRect (hm.unread x) = x := by
  funext y
  refine (hm.readAt_unread x _ y).trans (congrArg x ?_)
  funext a; fin_cases a <;> (apply Fin.ext; simp; try rfl)

/-! ## Rectangles of unit steps -/

theorem unit_emb {s : Shape} (off : Fin s.rank → ℕ) (size : Fin s.rank → ℕ) (inb : ∀ a, off a + size a ≤ s.size a)
    (x : (Rect.unit (s := s) off size inb).shape.Idx) (a : Fin s.rank) : (((Rect.unit (s := s) off size inb).emb x a : Fin _) : ℕ) = off a + (x a : ℕ) := by
  rw [Rect.emb_apply]; show off a + 1 * (x a : ℕ) = _; omega
theorem unit_mem {s : Shape} (off : Fin s.rank → ℕ) (size : Fin s.rank → ℕ) (inb : ∀ a, off a + size a ≤ s.size a) (y : s.Idx)
    (h : ∀ a, off a ≤ (y a : ℕ) ∧ (y a : ℕ) < off a + size a) : y ∈ (Rect.unit (s := s) off size inb).set := by
  have e : (Rect.unit (s := s) off size inb).emb (fun a => ⟨(y a : ℕ) - off a, by have := h a; show _ < size a; omega⟩) = y := by
    funext a
    apply Fin.ext
    rw [unit_emb]
    have := h a
    show off a + ((y a : ℕ) - off a) = _
    omega
  rw [← e]
  exact LoadRect.idx_mem _ _
theorem unit_of_mem {s : Shape} {off : Fin s.rank → ℕ} {size : Fin s.rank → ℕ} {inb : ∀ a, off a + size a ≤ s.size a} {y : s.Idx}
    (hy : y ∈ (Rect.unit (s := s) off size inb).set) (a : Fin s.rank) : off a ≤ (y a : ℕ) ∧ (y a : ℕ) < off a + size a := by
  obtain ⟨x, e⟩ := LoadRect.exists_idx_of_mem _ hy
  have c := unit_emb off size inb x a
  have e' : (y a : ℕ) = off a + (x a : ℕ) := by rw [← c, ← e]; rfl
  have : (x a : ℕ) < size a := (x a).isLt
  omega

/-! ## The stores of codes -/

/-- What the stores of the queries' codes hold. -/
def qG (xt : Fin 10 → FVec Ideal S128x256 .bf16) : S1x10x128x256.Idx → EReal := fun y => codes (xt (y 1)) (ix2 (y 2) (y 3))
theorem qPieces_hold (xt : Fin 10 → FVec Ideal S128x256 .bf16) :
    ∀ p ∈ qPieces xt, ∀ x : p.1.shape.Idx, p.2 x = qG xt (p.1.emb x) := by
  intro p hp x
  obtain ⟨h, -, rfl⟩ := List.mem_map.mp hp
  have e : ∀ (y : S1x1x128x256.Idx), shapeCast S1x1x128x256 (codes (xt h)) shapeCasts_S128x256_S1x1x128x256 y = codes (xt h) (ix2 (y 2) (y 3)) := by
    intro y
    idx_vars y
    pointwise
  refine (e x).trans ?_
  have c := unit_emb (s := S1x10x128x256) ![0, h.val, 0, 0] S1x1x128x256.size (in_qc h) x
  have c1 : (Rect.unit (s := S1x10x128x256) ![0, h.val, 0, 0] S1x1x128x256.size (in_qc h)).emb x 1 = h :=
    Fin.ext ((c 1).trans (by have := (x 1).isLt; simp at this ⊢; omega))
  have c2 : (Rect.unit (s := S1x10x128x256) ![0, h.val, 0, 0] S1x1x128x256.size (in_qc h)).emb x 2 = x 2 := Fin.ext ((c 2).trans (by simp))
  have c3 : (Rect.unit (s := S1x10x128x256) ![0, h.val, 0, 0] S1x1x128x256.size (in_qc h)).emb x 3 = x 3 := Fin.ext ((c 3).trans (by simp))
  show _ = codes (xt ((Rect.unit (s := S1x10x128x256) ![0, h.val, 0, 0] S1x1x128x256.size (in_qc h)).emb x 1)) (ix2 _ _)
  rw [c1, c2, c3]
theorem qPieces_cover (xt : Fin 10 → FVec Ideal S128x256 .bf16) (y : S1x10x128x256.Idx) : ∃ p ∈ qPieces xt, y ∈ p.1.set := by
  have : ∀ h : Fin 10, h ∈ ([9, 8, 7, 6, 5, 4, 3, 2, 1, 0] : List (Fin 10)) := by decide
  refine ⟨_, List.mem_map.mpr ⟨y 1, this _, rfl⟩, unit_mem _ _ (in_qc _) y ?_⟩
  intro a
  have h0 := (y 0).isLt; have h2 := (y 2).isLt; have h3 := (y 3).isLt
  fin_cases a <;> simp at * <;> omega
theorem q_read (m : Memref sig .tc .vmem S1x10x128x256 .fp8e4m3) (f : m.view.ty.Contents (Elt Ideal)) (xt : Fin 10 → FVec Ideal S128x256 .bf16) (y : S1x10x128x256.Idx) :
    m.view.read (Elt Ideal) (m.view.writes (Elt Ideal) f (qPieces xt)) y = qG xt y :=
  View.read_writes_apply_of_pieces _ _ _ _ (qPieces_hold xt) y (qPieces_cover xt y)

/-- What the stores of the keys' (the values') codes hold. -/
def kG (kt : Fin 2 → FVec Ideal S128x256 .bf16) : S1x2x128x256.Idx → EReal := fun y => codes (kt (y 1)) (ix2 (y 2) (y 3))
theorem k_read (m : Memref sig .tc .vmem S1x2x128x256 .fp8e4m3) (f : m.view.ty.Contents (Elt Ideal)) (kt : Fin 2 → FVec Ideal S128x256 .bf16) (y : S1x2x128x256.Idx) :
    m.view.read (Elt Ideal) (m.view.writes (Elt Ideal) f (kPieces kt)) y = kG kt y := by
  refine View.read_writes_apply_of_pieces _ _ _ _ ?_ y ?_
  · intro p hp x
    obtain ⟨h, -, rfl⟩ := List.mem_map.mp hp
    have e : ∀ (y : S1x1x128x256.Idx), shapeCast S1x1x128x256 (codes (kt h)) shapeCasts_S128x256_S1x1x128x256 y = codes (kt h) (ix2 (y 2) (y 3)) := by
      intro y
      idx_vars y
      pointwise
    refine (e x).trans ?_
    have c := unit_emb (s := S1x2x128x256) ![0, h.val, 0, 0] S1x1x128x256.size (in_kc h) x
    have c1 : (Rect.unit (s := S1x2x128x256) ![0, h.val, 0, 0] S1x1x128x256.size (in_kc h)).emb x 1 = h :=
      Fin.ext ((c 1).trans (by have := (x 1).isLt; simp at this ⊢; omega))
    have c2 : (Rect.unit (s := S1x2x128x256) ![0, h.val, 0, 0] S1x1x128x256.size (in_kc h)).emb x 2 = x 2 := Fin.ext ((c 2).trans (by simp))
    have c3 : (Rect.unit (s := S1x2x128x256) ![0, h.val, 0, 0] S1x1x128x256.size (in_kc h)).emb x 3 = x 3 := Fin.ext ((c 3).trans (by simp))
    show _ = codes (kt ((Rect.unit (s := S1x2x128x256) ![0, h.val, 0, 0] S1x1x128x256.size (in_kc h)).emb x 1)) (ix2 _ _)
    rw [c1, c2, c3]
  · have : ∀ h : Fin 2, h ∈ ([1, 0] : List (Fin 2)) := by decide
    refine ⟨_, List.mem_map.mpr ⟨y 1, this _, rfl⟩, unit_mem _ _ (in_kc _) y ?_⟩
    intro a
    have h0 := (y 0).isLt; have h2 := (y 2).isLt; have h3 := (y 3).isLt
    fin_cases a <;> simp at * <;> omega

/-! ## The stores of the result -/

/-- What the stores of the result hold: head `C / 256`, lane `C % 256`, of the unit of the row and the head's group. -/
def outG (u0 u1 : Fin 4 → FVec Ideal S160x256 .bf16) : S1x128x2560.Idx → EReal := fun y =>
  (if (y 2).val < 1280 then u0 else u1) ⟨(y 1).val / 32, by have := (y 1).isLt; simp at this; omega⟩
    (ix2 ⟨32 * ((y 2).val / 256 % 5) + (y 1).val % 32, by omega⟩ ⟨(y 2).val % 256, by omega⟩)
theorem outPiece_hold (u0 u1 : Fin 4 → FVec Ideal S160x256 .bf16) (j : Fin 4) (h : Fin 10) (n : Fin 5) (u : FVec Ideal S160x256 .bf16)
    (hu : u = (if h.val < 5 then u0 else u1) j) (hn : n.val = h.val % 5) (x : (outPiece u j h n).1.shape.Idx) :
    (outPiece u j h n).2 x = outG u0 u1 ((outPiece u j h n).1.emb x) := by
  have e : ∀ (y : S1x32x256.Idx), shapeCast S1x32x256 (extractStridedSlice S32x256 ![32 * n.val, 0] u (sl_out n)) shapeCasts_S32x256_S1x32x256 y
      = u (ix2 ⟨32 * n.val + (y 1).val, by have := (y 1).isLt; simp at this; omega⟩ (y 2)) := by
    intro y
    idx_vars y
    pointwise
  refine (e x).trans ?_
  have c := unit_emb (s := S1x128x2560) ![0, 32 * j.val, 256 * h.val] S1x32x256.size (in_out j h) x
  have c1 : ((outPiece u j h n).1.emb x 1).val = 32 * j.val + (x 1).val := (c 1).trans (by simp)
  have c2 : ((outPiece u j h n).1.emb x 2).val = 256 * h.val + (x 2).val := (c 2).trans (by simp)
  have h1 : (x 1).val < 32 := (x 1).isLt
  have h2 : (x 2).val < 256 := (x 2).isLt
  unfold outG
  simp only [c1, c2]
  have a1 : (256 * h.val + (x 2).val < 1280) = (h.val < 5) := by apply propext; omega
  subst hu
  simp only [a1]
  refine congr (congrArg _ (Fin.ext ?_)) (congrArg₂ ix2 (Fin.ext ?_) (Fin.ext ?_)) <;> simp <;> omega
theorem out_read (m : Memref sig .tc .vmem S1x128x2560 .bf16) (f : m.view.ty.Contents (Elt Ideal)) (u0 u1 : Fin 4 → FVec Ideal S160x256 .bf16) (y : S1x128x2560.Idx) :
    m.view.read (Elt Ideal) (m.view.writes (Elt Ideal) f (outPieces u0 u1)) y = outG u0 u1 y := by
  refine View.read_writes_apply_of_pieces _ _ _ _ ?_ y ?_
  · intro p hp
    simp only [outPieces, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
      exact outPiece_hold u0 u1 _ _ _ _ rfl rfl
  · have h0 : (y 0).val < 1 := (y 0).isLt
    have h1 : (y 1).val < 128 := (y 1).isLt
    have h2 : (y 2).val < 2560 := (y 2).isLt
    have key : ∀ (j : Fin 4) (h : Fin 10), ∃ u n, outPiece u j h n ∈ outPieces u0 u1 := by
      intro j h
      refine ⟨(if h.val < 5 then u0 else u1) j, ⟨h.val % 5, by omega⟩, ?_⟩
      fin_cases j <;> fin_cases h <;> simp [outPieces]
    obtain ⟨u, n, hm⟩ := key ⟨(y 1).val / 32, by omega⟩ ⟨(y 2).val / 256, by omega⟩
    refine ⟨_, hm, unit_mem _ _ (in_out _ _) y ?_⟩
    intro a
    fin_cases a <;> simp <;> omega

/-! ## The query rows of a unit -/

theorem qrows_apply (m : Memref sig .tc .vmem S1x10x128x256 .fp8e4m3) (xt : Fin 10 → FVec Ideal S128x256 .bf16) (j : Fin 4) (h : Fin 10) (r : Fin 32) (d : Fin 256) :
    qrows m xt j h (ix2 r d) = codes (xt h) (ix2 ⟨32 * j.val + r.val, by omega⟩ d) := by
  unfold qrows
  generalize hg : m.view.readCov (qPieces xt) (Rect.unit (s := S1x10x128x256) ![0, h.val, 32 * j.val, 0] S1x1x32x256.size (in_qr j h)).toLoadRect = g
  have e : ∀ y, g y = qG xt ((Rect.unit (s := S1x10x128x256) ![0, h.val, 32 * j.val, 0] S1x1x32x256.size (in_qr j h)).toLoadRect.idx y) := fun y => by
    rw [← hg]; exact q_read m _ xt _
  have e2 : shapeCast (s := S1x1x32x256) S32x256 g shapeCasts_S1x1x32x256_S32x256 (ix2 r d) = g (ix4 0 0 r d) := by pointwise
  refine e2.trans ((e _).trans ?_)
  unfold qG
  refine congr (congrArg _ (congrArg _ (Fin.ext ?_))) (congrArg₂ ix2 (Fin.ext ?_) (Fin.ext ?_)) <;> simp [ix4]
theorem cat5q (q : Fin 5 → FVec Ideal S32x256 .fp8e4m3) (n : Fin 5) (r : Fin 32) (d : Fin 256) :
    concatenate S160x256 0 [⟨S32x256, q 0⟩, ⟨S32x256, q 1⟩, ⟨S32x256, q 2⟩, ⟨S32x256, q 3⟩, ⟨S32x256, q 4⟩]
      concatenates_S32x256_S32x256_S32x256_S32x256_S32x256_S160x256_d0 (ix2 ⟨32 * n.val + r.val, by omega⟩ d) = q n (ix2 r d) := by
  skip
  pointwise
  have hr := r.isLt
  have hn : n.val = 0 ∨ n.val = 1 ∨ n.val = 2 ∨ n.val = 3 ∨ n.val = 4 := by omega
  rcases hn with hn | hn | hn | hn | hn
  · rw [dif_pos (show 32 * n.val + r.val < 32 by omega)]
    obtain rfl : n = 0 := Fin.ext hn
    exact congrArg (q 0) (congrArg (ix2 · _) (Fin.ext (by show 32 * 0 + r.val = r.val; omega)))
  · rw [dif_neg (show ¬ 32 * n.val + r.val < 32 by omega), dif_pos (show 32 * n.val + r.val - 32 < 32 by omega)]
    obtain rfl : n = 1 := Fin.ext hn
    exact congrArg (q 1) (congrArg (ix2 · _) (Fin.ext (by show 32 * 1 + r.val - 32 = r.val; omega)))
  · rw [dif_neg (show ¬ 32 * n.val + r.val < 32 by omega), dif_neg (show ¬ 32 * n.val + r.val - 32 < 32 by omega), dif_pos (show 32 * n.val + r.val - 32 - 32 < 32 by omega)]
    obtain rfl : n = 2 := Fin.ext hn
    exact congrArg (q 2) (congrArg (ix2 · _) (Fin.ext (by show 32 * 2 + r.val - 32 - 32 = r.val; omega)))
  · rw [dif_neg (show ¬ 32 * n.val + r.val < 32 by omega), dif_neg (show ¬ 32 * n.val + r.val - 32 < 32 by omega), dif_neg (show ¬ 32 * n.val + r.val - 32 - 32 < 32 by omega), dif_pos (show 32 * n.val + r.val - 32 - 32 - 32 < 32 by omega)]
    obtain rfl : n = 3 := Fin.ext hn
    exact congrArg (q 3) (congrArg (ix2 · _) (Fin.ext (by show 32 * 3 + r.val - 32 - 32 - 32 = r.val; omega)))
  · rw [dif_neg (show ¬ 32 * n.val + r.val < 32 by omega), dif_neg (show ¬ 32 * n.val + r.val - 32 < 32 by omega), dif_neg (show ¬ 32 * n.val + r.val - 32 - 32 < 32 by omega), dif_neg (show ¬ 32 * n.val + r.val - 32 - 32 - 32 < 32 by omega)]
    obtain rfl : n = 4 := Fin.ext hn
    exact congrArg (q 4) (congrArg (ix2 · _) (Fin.ext (by show 32 * 4 + r.val - 32 - 32 - 32 - 32 = r.val; omega)))
theorem cat5s (q : Fin 5 → FVec Ideal S32x1 .f32) (n : Fin 5) (r : Fin 32) (d : Fin 1) :
    concatenate S160x1 0 [⟨S32x1, q 0⟩, ⟨S32x1, q 1⟩, ⟨S32x1, q 2⟩, ⟨S32x1, q 3⟩, ⟨S32x1, q 4⟩]
      concatenates_S32x1_S32x1_S32x1_S32x1_S32x1_S160x1_d0 (ix2 ⟨32 * n.val + r.val, by omega⟩ d) = q n (ix2 r d) := by
  obtain rfl : d = 0 := Subsingleton.elim _ _
  pointwise
  have hr := r.isLt
  have hn : n.val = 0 ∨ n.val = 1 ∨ n.val = 2 ∨ n.val = 3 ∨ n.val = 4 := by omega
  rcases hn with hn | hn | hn | hn | hn
  · rw [dif_pos (show 32 * n.val + r.val < 32 by omega)]
    obtain rfl : n = 0 := Fin.ext hn
    exact congrArg (q 0) (congrArg (ix2 · _) (Fin.ext (by show 32 * 0 + r.val = r.val; omega)))
  · rw [dif_neg (show ¬ 32 * n.val + r.val < 32 by omega), dif_pos (show 32 * n.val + r.val - 32 < 32 by omega)]
    obtain rfl : n = 1 := Fin.ext hn
    exact congrArg (q 1) (congrArg (ix2 · _) (Fin.ext (by show 32 * 1 + r.val - 32 = r.val; omega)))
  · rw [dif_neg (show ¬ 32 * n.val + r.val < 32 by omega), dif_neg (show ¬ 32 * n.val + r.val - 32 < 32 by omega), dif_pos (show 32 * n.val + r.val - 32 - 32 < 32 by omega)]
    obtain rfl : n = 2 := Fin.ext hn
    exact congrArg (q 2) (congrArg (ix2 · _) (Fin.ext (by show 32 * 2 + r.val - 32 - 32 = r.val; omega)))
  · rw [dif_neg (show ¬ 32 * n.val + r.val < 32 by omega), dif_neg (show ¬ 32 * n.val + r.val - 32 < 32 by omega), dif_neg (show ¬ 32 * n.val + r.val - 32 - 32 < 32 by omega), dif_pos (show 32 * n.val + r.val - 32 - 32 - 32 < 32 by omega)]
    obtain rfl : n = 3 := Fin.ext hn
    exact congrArg (q 3) (congrArg (ix2 · _) (Fin.ext (by show 32 * 3 + r.val - 32 - 32 - 32 = r.val; omega)))
  · rw [dif_neg (show ¬ 32 * n.val + r.val < 32 by omega), dif_neg (show ¬ 32 * n.val + r.val - 32 < 32 by omega), dif_neg (show ¬ 32 * n.val + r.val - 32 - 32 < 32 by omega), dif_neg (show ¬ 32 * n.val + r.val - 32 - 32 - 32 < 32 by omega)]
    obtain rfl : n = 4 := Fin.ext hn
    exact congrArg (q 4) (congrArg (ix2 · _) (Fin.ext (by show 32 * 4 + r.val - 32 - 32 - 32 - 32 = r.val; omega)))
/-- The queries of a unit at a row: row `32 n + r` is head `h n`'s row `32 j + r`. -/
theorem qcat_apply (m : Memref sig .tc .vmem S1x10x128x256 .fp8e4m3) (xt : Fin 10 → FVec Ideal S128x256 .bf16) (j : Fin 4) (h : Fin 5 → Fin 10) (n : Fin 5) (r : Fin 32) (d : Fin 256) :
    qcat m xt j (h 0) (h 1) (h 2) (h 3) (h 4) (ix2 ⟨32 * n.val + r.val, by omega⟩ d) = codes (xt (h n)) (ix2 ⟨32 * j.val + r.val, by omega⟩ d) := by
  rw [← qrows_apply m]
  exact cat5q (fun n => qrows m xt j (h n)) n r d
theorem qscat_apply (xt : Fin 10 → FVec Ideal S128x256 .bf16) (j : Fin 4) (h : Fin 5 → Fin 10) (n : Fin 5) (r : Fin 32) :
    qscat xt j (h 0) (h 1) (h 2) (h 3) (h 4) (ix2 ⟨32 * n.val + r.val, by omega⟩ 0) = scaleE (rowE (xt (h n)) ⟨32 * j.val + r.val, by omega⟩) := by
  have e1 := cat5s (fun n => extractStridedSlice S32x1 ![32 * j.val, 0] (scale32 (xt (h n))) (sl_q1 j)) n r 0
  unfold qscat
  refine Eq.trans e1 ?_
  rw [← scale32_apply _ _ 0]
  have e : ∀ g : FVec Ideal S128x1 .f32, extractStridedSlice S32x1 ![32 * j.val, 0] g (sl_q1 j) (ix2 r 0) = g (ix2 ⟨32 * j.val + r.val, by omega⟩ 0) := by
    intro g; pointwise
  exact e _

/-! ## The matrix of scales -/

theorem smat_apply (xt : Fin 10 → FVec Ideal S128x256 .bf16) (kt vt : Fin 2 → FVec Ideal S128x256 .bf16) (l r : Fin 128) :
    smat xt kt vt (ix2 l r) =
      if h : l.val < 2 then scaleE (rowE (kt ⟨l.val, h⟩) r) else if h : l.val < 4 then scaleE (rowE (vt ⟨l.val - 2, by omega⟩) r)
      else if h : l.val < 14 then scaleE (rowE (xt ⟨l.val - 4, by omega⟩) r) else 0 := by
  have e : ∀ g : FVec Ideal S128x128 .f32, transpose S128x128 [1, 0] g transposes_S128x128_p1_0_S128x128 (ix2 l r) = g (ix2 r l) := by
    intro g; pointwise
  unfold smat
  rw [e]
  simp only [put_apply, scale32_apply]
  have z : ∀ y, broadcast S128x128 (Scalar.ofBits (F := Ideal) .f32 0x00000000#32) y = (0 : EReal) := fun y => show Ideal.ofBits .f32 0x00000000#32 = (0 : EReal) from by simp [Ideal.ofBits, Ideal.ieee]
  simp only [z]
  have hl := l.isLt
  have k : ∀ n : ℕ, n < 128 → ((BitVec.ofNat 32 l.val = BitVec.ofNat 32 n) ↔ l.val = n) := by
    intro n hn
    rw [← BitVec.toNat_inj]
    simp only [BitVec.toNat_ofNat]
    rw [Nat.mod_eq_of_lt (by omega), Nat.mod_eq_of_lt (by omega)]
  obtain ⟨l, hl'⟩ := l
  simp only [] at hl k ⊢
  by_cases h14 : l < 14
  · interval_cases l <;> simp
  · simp only [k 0 (by omega), k 1 (by omega), k 2 (by omega), k 3 (by omega), k 4 (by omega), k 5 (by omega), k 6 (by omega), k 7 (by omega), k 8 (by omega), k 9 (by omega), k 10 (by omega), k 11 (by omega), k 12 (by omega), k 13 (by omega)]
    rw [dif_neg (by omega), dif_neg (by omega), dif_neg (by omega)]
    repeat rw [if_neg (by omega)]

/-! ## The windows -/

theorem win_apply {e : EltTy} (m : Memref sig .tc .vmem S2x896x256 e) (f : m.view.ty.Contents (Elt Ideal)) (off : Fin 3 → ℕ) (inb : ∀ a, off a + S1x256x256.size a ≤ S2x896x256.size a)
    (h : Fin 2) (R : ℕ) (ho : off = ![h.val, R, 0]) (hR : R + 256 ≤ 896) (c d : Fin 256) :
    shapeCast S256x256 (View.readAt (Elt Ideal) m.view (Rect.unit (s := S2x896x256) off S1x256x256.size inb).toLoadRect f) shapeCasts_S1x256x256_S256x256 (ix2 c d)
      = m.view.read (Elt Ideal) f (ix3 h ⟨R + c.val, by omega⟩ d) := by
  subst ho
  generalize hg : View.readAt (Elt Ideal) m.view (Rect.unit (s := S2x896x256) ![h.val, R, 0] S1x256x256.size inb).toLoadRect f = g
  have e : ∀ y, g y = m.view.read (Elt Ideal) f ((Rect.unit (s := S2x896x256) ![h.val, R, 0] S1x256x256.size inb).toLoadRect.idx y) := fun y => by
    rw [← hg]; rfl
  have e2 : shapeCast (s := S1x256x256) S256x256 g shapeCasts_S1x256x256_S256x256 (ix2 c d) = g (ix3 0 c d) := by pointwise
  refine e2.trans ((e _).trans (congrArg _ ?_))
  funext a; fin_cases a <;> (apply Fin.ext; simp [ix3]; try rfl)
theorem kwin0_apply (m : Memref sig .tc .vmem S2x896x256 .fp8e4m3) (f : m.view.ty.Contents (Elt Ideal)) (i : grid0.Coords) (hi : (i 1 : ℕ) < 5) (j : Fin 4) (c d : Fin 256) :
    kwin0 m f i j (ix2 c d) = m.view.read (Elt Ideal) f (ix3 0 ⟨128 * (i 1 : ℕ) + 32 * j.val + 32 + c.val, by omega⟩ d) :=
  win_apply m f _ _ 0 _ (k0_off7_eq i j) (by omega) c d
theorem kwin1_apply (m : Memref sig .tc .vmem S2x896x256 .fp8e4m3) (f : m.view.ty.Contents (Elt Ideal)) (i : grid0.Coords) (hi : (i 1 : ℕ) < 5) (j : Fin 4) (c d : Fin 256) :
    kwin1 m f i j (ix2 c d) = m.view.read (Elt Ideal) f (ix3 1 ⟨128 * (i 1 : ℕ) + 32 * j.val + 32 + c.val, by omega⟩ d) :=
  win_apply m f _ _ 1 _ (k0_off8_eq i j) (by omega) c d
theorem vwin0_apply (m : Memref sig .tc .vmem S2x896x256 .bf16) (f : m.view.ty.Contents (Elt Ideal)) (i : grid0.Coords) (hi : (i 1 : ℕ) < 5) (j : Fin 4) (c d : Fin 256) :
    vwin0 m f i j (ix2 c d) = m.view.read (Elt Ideal) f (ix3 0 ⟨128 * (i 1 : ℕ) + 32 * j.val + 32 + c.val, by omega⟩ d) :=
  win_apply m f _ _ 0 _ (k0_off7_eq i j) (by omega) c d
theorem vwin1_apply (m : Memref sig .tc .vmem S2x896x256 .bf16) (f : m.view.ty.Contents (Elt Ideal)) (i : grid0.Coords) (hi : (i 1 : ℕ) < 5) (j : Fin 4) (c d : Fin 256) :
    vwin1 m f i j (ix2 c d) = m.view.read (Elt Ideal) f (ix3 1 ⟨128 * (i 1 : ℕ) + 32 * j.val + 32 + c.val, by omega⟩ d) :=
  win_apply m f _ _ 1 _ (k0_off8_eq i j) (by omega) c d

/-- Three blocks side by side, read at a lane of the 384. -/
theorem klCat_apply (g : Fin 3 → FVec Ideal S1x8x128 .f32) (h : Fin 8) (q : Fin 384) :
    klCat (g 0) (g 1) (g 2) (ix2 h q) = g ⟨q.val / 128, by omega⟩ (ix3 0 h ⟨q.val % 128, by omega⟩) := by
  pointwise [klCat]
  have hq := q.isLt
  have e : ∀ (a b : Fin 3) (l l' : Fin 128), a = b → l = l' → g a (ix3 0 h l) = g b (ix3 0 h l') := by rintro a _ l _ rfl rfl; rfl
  split_ifs <;> (apply e <;> (apply Fin.ext; simp; omega))
theorem sgCat_apply (g : Fin 3 → IVec S1x1x128 32) (q : Fin 384) :
    sgCat (g 0) (g 1) (g 2) (ix2 0 q) = g ⟨q.val / 128, by omega⟩ (ix3 0 0 ⟨q.val % 128, by omega⟩) := by
  pointwise [sgCat]
  have hq := q.isLt
  have e : ∀ (a b : Fin 3) (l l' : Fin 128), a = b → l = l' → g a (ix3 0 0 l) = g b (ix3 0 0 l') := by rintro a _ l _ rfl rfl; rfl
  split_ifs <;> (apply e <;> (apply Fin.ext; simp; omega))

end Cert.KernelIdeal.Voc

end
-- ==== Proof.Spec.lean ====
module

public import proofs.«01_k».proof.Proof.Read

/-! What the kernel computes, as functions of the argument arrays read at natural-number coordinates. -/

@[expose] public section

noncomputable section

namespace Cert.KernelIdeal.Voc

open Idealize.ShloMosaic

/-- The codes of one head's row. -/
def codeE (x : Fin 256 → EReal) (d : Fin 256) : EReal := clipE (x d * invE (amaxE x))
/-- Row `T` of batch `b`, head `h`, of an array of rows of heads of 256 lanes. -/
def headRow (x : ℕ → ℕ → ℕ → EReal) (b T h : ℕ) : Fin 256 → EReal := fun k => x b T (256 * h + k.val)
/-- The codes and the scale of that row. -/
def QC (x : ℕ → ℕ → ℕ → EReal) (b h T : ℕ) (d : Fin 256) : EReal := codeE (headRow x b T h) d
def QS (x : ℕ → ℕ → ℕ → EReal) (b h T : ℕ) : EReal := scaleE (amaxE (headRow x b T h))

/-- The score scale, in base two. -/
def lam : EReal := Named.named (F := Ideal) (φ := .f32) Cert.KernelIdeal.κ "score_scale_log2e" 0x3DB8AA3B#32

/-- The padded window buffers, row `R` holding token `R - 256`: codes, dequantised values, scales, document numbers. -/
def kwS (x : ℕ → ℕ → ℕ → EReal) (b h R : ℕ) (d : Fin 256) : EReal := if R < 256 then 0 else QC x b h (R - 256) d
def vwS (x : ℕ → ℕ → ℕ → EReal) (b h R : ℕ) (d : Fin 256) : EReal := if R < 256 then 0 else QC x b h (R - 256) d * QS x b h (R - 256)
def klS (x : ℕ → ℕ → ℕ → EReal) (b h R : ℕ) : EReal := if R < 256 then 0 else QS x b h (R - 256) * lam
def sgS (sg : ℕ → ℕ → BitVec 32) (b R : ℕ) : BitVec 32 := if R < 256 then 4294967295#32 else sg b (R - 256)

/-- Row `c` of the window of token `T`. -/
def wrow (T c : ℕ) : ℕ := 32 * (T / 32) + 32 + c

/-- The attention result at token `T`, head `h`, lane `d`. -/
def OUT (x k v : ℕ → ℕ → ℕ → EReal) (sg : ℕ → ℕ → BitVec 32) (b T h : ℕ) (d : Fin 256) : EReal :=
  attE (fun e => QC x b h T e) (QS x b h T) (fun c e => kwS k b (h / 5) (wrow T c) e) (fun c => vwS v b (h / 5) (wrow T c) d)
    (fun c => klS k b (h / 5) (wrow T c)) (fun c => if c.val ≤ T % 32 + 224 ∧ sgS sg b (wrow T c) = sg b T then 0 else ⊥)

end Cert.KernelIdeal.Voc

end
-- ==== Proof.Body.lean ====
module

public import proofs.«01_k».proof.Proof.Pieces
public import proofs.«01_k».proof.Proof.Spec

/-! One grid point of the kernel: its stores hold the spec, given that the scratch it reads holds the spec. -/

@[expose] public section

set_option maxRecDepth 16384

noncomputable section

namespace Cert.KernelIdeal.Voc

open Idealize.ShloMosaic Cert.KernelIdeal Cert.KernelIdeal.Gen

theorem i1_lt (i : grid0.Coords) : (i 1 : ℕ) < 5 := (i 1).isLt

/-! ## Tiles -/

section
variable (X : ℕ → ℕ → ℕ → EReal) (b n : ℕ)

theorem xtile_codes (m : Memref sig .tc .vmem S1x128x2560 .bf16) (hm : m.IsWhole) (x : Vec Ideal S1x128x2560 .bf16)
    (hx : ∀ r C, x (ix3 0 r C) = X b (128 * n + r.val) C.val) (h : Fin 10) (r : Fin 128) (d : Fin 256) :
    codes (xtile m hm x h) (ix2 r d) = QC X b h.val (128 * n + r.val) d := by
  rw [codes_apply, rowE]; simp only [xtile_apply, hx]; rfl
theorem xtile_scale (m : Memref sig .tc .vmem S1x128x2560 .bf16) (hm : m.IsWhole) (x : Vec Ideal S1x128x2560 .bf16)
    (hx : ∀ r C, x (ix3 0 r C) = X b (128 * n + r.val) C.val) (h : Fin 10) (r : Fin 128) :
    scaleE (rowE (xtile m hm x h) r) = QS X b h.val (128 * n + r.val) := by
  rw [rowE]; simp only [xtile_apply, hx]; rfl
theorem ktile_codes (m : Memref sig .tc .vmem S1x128x512 .bf16) (hm : m.IsWhole) (x : Vec Ideal S1x128x512 .bf16)
    (hx : ∀ r C, x (ix3 0 r C) = X b (128 * n + r.val) C.val) (h : Fin 2) (r : Fin 128) (d : Fin 256) :
    codes (ktile m hm x h) (ix2 r d) = QC X b h.val (128 * n + r.val) d := by
  rw [codes_apply, rowE]; simp only [ktile_apply, hx]; rfl
theorem ktile_scale (m : Memref sig .tc .vmem S1x128x512 .bf16) (hm : m.IsWhole) (x : Vec Ideal S1x128x512 .bf16)
    (hx : ∀ r C, x (ix3 0 r C) = X b (128 * n + r.val) C.val) (h : Fin 2) (r : Fin 128) :
    scaleE (rowE (ktile m hm x h) r) = QS X b h.val (128 * n + r.val) := by
  rw [rowE]; simp only [ktile_apply, hx]; rfl
theorem ktile_deq (m : Memref sig .tc .vmem S1x128x512 .bf16) (hm : m.IsWhole) (x : Vec Ideal S1x128x512 .bf16)
    (hx : ∀ r C, x (ix3 0 r C) = X b (128 * n + r.val) C.val) (h : Fin 2) (r : Fin 128) (d : Fin 256) :
    deq (ktile m hm x h) (ix2 r d) = QC X b h.val (128 * n + r.val) d * QS X b h.val (128 * n + r.val) := by
  rw [deq_apply, rowE]; simp only [ktile_apply, hx]; rfl
end

/-! ## The window buffers after the stores -/

/-- The two stores of a block of 128 rows into a window buffer. -/
def winPieces {e : EltTy} (i : grid0.Coords) (P : Fin 2 → Vec Ideal S128x256 e) : List (View.Piece (Elt Ideal) S2x896x256 e) :=
  [⟨Rect.unit (s := S2x896x256) (k0_off2 i) S1x128x256.size (k0_off2_inb i), shapeCast S1x128x256 (P 1) shapeCasts_S128x256_S1x128x256⟩,
   ⟨Rect.unit (s := S2x896x256) (k0_off1 i) S1x128x256.size (k0_off1_inb i), shapeCast S1x128x256 (P 0) shapeCasts_S128x256_S1x128x256⟩]

theorem win_piece {e : EltTy} (G : ℕ → ℕ → Fin 256 → Elt Ideal e) (R : ℕ) (h : Fin 2) (P : Vec Ideal S128x256 e)
    (hP : ∀ (r : Fin 128) (d : Fin 256), P (ix2 r d) = G h.val (R + r.val) d)
    (off : Fin 3 → ℕ) (inb : ∀ a, off a + S1x128x256.size a ≤ S2x896x256.size a) (ho : off = ![h.val, R, 0])
    (x : (Rect.unit (s := S2x896x256) off S1x128x256.size inb).shape.Idx) :
    shapeCast S1x128x256 P shapeCasts_S128x256_S1x128x256 x
      = (fun y : S2x896x256.Idx => G (y 0).val (y 1).val (y 2)) ((Rect.unit (s := S2x896x256) off S1x128x256.size inb).emb x) := by
  subst ho
  have e : ∀ (y : S1x128x256.Idx), shapeCast S1x128x256 P shapeCasts_S128x256_S1x128x256 y = P (ix2 (y 1) (y 2)) := by
    intro y
    idx_vars y
    pointwise
  refine (e x).trans ((hP _ _).trans ?_)
  have c := unit_emb (s := S2x896x256) ![h.val, R, 0] S1x128x256.size inb x
  have h0 : (x 0).val < 1 := (x 0).isLt
  have c0 : ((Rect.unit (s := S2x896x256) ![h.val, R, 0] S1x128x256.size inb).emb x 0).val = h.val := (c 0).trans (by simp; omega)
  have c1 : ((Rect.unit (s := S2x896x256) ![h.val, R, 0] S1x128x256.size inb).emb x 1).val = R + (x 1).val := (c 1).trans (by simp)
  have c2 : (Rect.unit (s := S2x896x256) ![h.val, R, 0] S1x128x256.size inb).emb x 2 = x 2 := Fin.ext ((c 2).trans (by simp))
  show _ = G _ _ _
  rw [c0, c1, c2]

/-- After the stores the buffer holds `G` on the block's rows, and on the rows before if it did. -/
theorem win_after {e : EltTy} (G : ℕ → ℕ → Fin 256 → Elt Ideal e) (i : grid0.Coords) (P : Fin 2 → Vec Ideal S128x256 e)
    (hP : ∀ (h : Fin 2) (r : Fin 128) (d : Fin 256), P h (ix2 r d) = G h.val (128 * (i 1 : ℕ) + 256 + r.val) d)
    (m : Memref sig .tc .vmem S2x896x256 e) (f : m.view.ty.Contents (Elt Ideal))
    (hf : ∀ y : S2x896x256.Idx, (y 1).val < 128 * (i 1 : ℕ) + 256 → m.view.read (Elt Ideal) f y = G (y 0).val (y 1).val (y 2))
    (y : S2x896x256.Idx) (hy : (y 1).val < 128 * (i 1 : ℕ) + 384) :
    m.view.read (Elt Ideal) (m.view.writes (Elt Ideal) f (winPieces i P)) y = G (y 0).val (y 1).val (y 2) := by
  by_cases h : (y 1).val < 128 * (i 1 : ℕ) + 256
  · rw [View.read_writes_apply_of_forall_not_mem, hf y h]
    intro p hp hm
    simp only [winPieces, List.mem_cons, List.not_mem_nil, or_false] at hp
    rcases hp with rfl | rfl
    · have := (unit_of_mem (inb := k0_off2_inb i) hm 1).1
      rw [k0_off2_eq] at this; simp at this; omega
    · have := (unit_of_mem (inb := k0_off1_inb i) hm 1).1
      rw [k0_off1_eq] at this; simp at this; omega
  · refine View.read_writes_apply_of_pieces _ _ (fun y : S2x896x256.Idx => G (y 0).val (y 1).val (y 2)) _ ?_ y ?_
    · intro p hp
      simp only [winPieces, List.mem_cons, List.not_mem_nil, or_false] at hp
      rcases hp with rfl | rfl
      · exact win_piece G _ 1 (P 1) (hP 1) _ (k0_off2_inb i) (k0_off2_eq i)
      · exact win_piece G _ 0 (P 0) (hP 0) _ (k0_off1_inb i) (k0_off1_eq i)
    · have h0 : (y 0).val < 2 := (y 0).isLt
      have h2 : (y 2).val < 256 := (y 2).isLt
      by_cases hz : (y 0).val = 0
      · refine ⟨_, List.mem_cons_of_mem _ List.mem_cons_self, unit_mem _ _ (k0_off1_inb i) y ?_⟩
        intro a
        rw [k0_off1_eq]
        fin_cases a <;> simp <;> omega
      · refine ⟨_, List.mem_cons_self, unit_mem _ _ (k0_off2_inb i) y ?_⟩
        intro a
        rw [k0_off2_eq]
        fin_cases a <;> simp <;> omega

/-- The pads of a window buffer. -/
def winPads {e : EltTy} (z : Elt Ideal e) : List (View.Piece (Elt Ideal) S2x896x256 e) :=
  [⟨Rect.unit (s := S2x896x256) ![1, 0, 0] S1x256x256.size inb_S2x896x256_S1x256x256_1_0_0, shapeCast S1x256x256 (broadcast S256x256 z) shapeCasts_S256x256_S1x256x256⟩,
   ⟨Rect.unit (s := S2x896x256) ![0, 0, 0] S1x256x256.size inb_S2x896x256_S1x256x256_0_0_0, shapeCast S1x256x256 (broadcast S256x256 z) shapeCasts_S256x256_S1x256x256⟩]
theorem pads_after {e : EltTy} (z : Elt Ideal e) (m : Memref sig .tc .vmem S2x896x256 e) (f : m.view.ty.Contents (Elt Ideal))
    (y : S2x896x256.Idx) (hy : (y 1).val < 256) : m.view.read (Elt Ideal) (m.view.writes (Elt Ideal) f (winPads z)) y = z := by
  have e : ∀ (y : S1x256x256.Idx), shapeCast S1x256x256 (broadcast S256x256 z) shapeCasts_S256x256_S1x256x256 y = z := by
    intro y
    idx_vars y
    pointwise
  refine View.read_writes_apply_of_pieces _ _ (fun _ => z) _ ?_ y ?_
  · intro p hp x
    simp only [winPads, List.mem_cons, List.not_mem_nil, or_false] at hp
    rcases hp with rfl | rfl
    · exact e x
    · exact e x
  · have h0 : (y 0).val < 2 := (y 0).isLt
    have h2 : (y 2).val < 256 := (y 2).isLt
    by_cases hz : (y 0).val = 0
    · refine ⟨_, List.mem_cons_of_mem _ List.mem_cons_self, unit_mem _ _ inb_S2x896x256_S1x256x256_0_0_0 y ?_⟩
      intro a
      fin_cases a <;> simp <;> omega
    · refine ⟨_, List.mem_cons_self, unit_mem _ _ inb_S2x896x256_S1x256x256_1_0_0 y ?_⟩
      intro a
      fin_cases a <;> simp <;> omega

/-! ## The scales' and document numbers' buffers after the stores -/

theorem off3_two (i : grid0.Coords) (a : Fin 3) : k0_off3 i 2#32 a = (![(i 1 : ℕ) + 2, 0, 0] : Fin 3 → ℕ) a := congrFun (k0_off3_eq i 1) a
theorem off4_two (i : grid0.Coords) (a : Fin 3) : k0_off4 i 2#32 a = (![(i 1 : ℕ) + 2, 0, 0] : Fin 3 → ℕ) a := congrFun (k0_off4_eq i 1) a
theorem klBlock_apply (sm : FVec Ideal S128x128 .f32) (h : Fin 8) (r : Fin 128) :
    klBlock sm (ix3 0 h r) = sm (ix2 ⟨h.val, by omega⟩ r) * lam := by
  pointwise [klBlock, lam]

theorem kl_hit (i : grid0.Coords) (sm : FVec Ideal S128x128 .f32) (P : List (View.Piece (Elt Ideal) S7x8x128 .f32)) (m : Memref sig .tc .vmem S7x8x128 .f32)
    (f : m.view.ty.Contents (Elt Ideal)) (y : S7x8x128.Idx) (hy : (y 0).val = (i 1 : ℕ) + 2) :
    m.view.read (Elt Ideal) (m.view.writes (Elt Ideal) f (klPiece i sm :: P)) y = sm (ix2 ⟨(y 1).val, by have : (y 1).val < 8 := (y 1).isLt; omega⟩ (y 2)) * lam := by
  have e : (Rect.unit (s := S7x8x128) (k0_off3 i 2#32) S1x8x128.size (k0_off3_inb i 1)).emb (ix3 0 (y 1) (y 2)) = y := by
    funext a
    apply Fin.ext
    rw [unit_emb]
    refine (congrArg (· + _) (off3_two i a)).trans ?_
    fin_cases a
    · simp [ix3, hy]
    · simp [ix3]
    · simp [ix3]
  have w := View.read_writes_cons_emb (Val := Elt Ideal) (v := m.view) (f := f) (Rect.unit (s := S7x8x128) (k0_off3 i 2#32) S1x8x128.size (k0_off3_inb i 1)) (klBlock sm) P (ix3 0 (y 1) (y 2))
  rw [e] at w
  exact w.trans (klBlock_apply sm _ _)
theorem kl_miss (i : grid0.Coords) (sm : FVec Ideal S128x128 .f32) (P : List (View.Piece (Elt Ideal) S7x8x128 .f32)) (m : Memref sig .tc .vmem S7x8x128 .f32)
    (f : m.view.ty.Contents (Elt Ideal)) (y : S7x8x128.Idx) (hy : (y 0).val < (i 1 : ℕ) + 2) :
    m.view.read (Elt Ideal) (m.view.writes (Elt Ideal) f (klPiece i sm :: P)) y = m.view.read (Elt Ideal) (m.view.writes (Elt Ideal) f P) y := by
  have : klPiece i sm :: P = [klPiece i sm] ++ P := rfl
  rw [this, View.writes_append, View.read_writes_apply_of_forall_not_mem]
  intro p hp hm
  rw [List.mem_singleton] at hp
  subst hp
  have h0 := (unit_of_mem (inb := k0_off3_inb i 1) hm 0).1
  have h1 : k0_off3 i 2#32 0 = (i 1 : ℕ) + 2 := off3_two i 0
  have h2 : k0_off3 i 2#32 0 ≤ (y 0).val := h0
  omega
theorem sg_hit (i : grid0.Coords) (x : IVec S1x1x1x128 32) (P : List (View.Piece (Elt Ideal) S7x1x128 .i32)) (m : Memref sig .tc .vmem S7x1x128 .i32)
    (f : m.view.ty.Contents (Elt Ideal)) (y : S7x1x128.Idx) (hy : (y 0).val = (i 1 : ℕ) + 2) :
    m.view.read (Elt Ideal) (m.view.writes (Elt Ideal) f (sgPiece (F := Ideal) i x :: P)) y = x (ix4 0 0 0 (y 2)) := by
  have h1 : (y 1).val < 1 := (y 1).isLt
  have e : (Rect.unit (s := S7x1x128) (k0_off4 i 2#32) S1x1x128.size (k0_off4_inb i 1)).emb (ix3 0 0 (y 2)) = y := by
    funext a
    apply Fin.ext
    rw [unit_emb]
    refine (congrArg (· + _) (off4_two i a)).trans ?_
    fin_cases a
    · simp [ix3, hy]
    · simp [ix3]; omega
    · simp [ix3]
  have w := View.read_writes_cons_emb (Val := Elt Ideal) (v := m.view) (f := f) (Rect.unit (s := S7x1x128) (k0_off4 i 2#32) S1x1x128.size (k0_off4_inb i 1)) (k0_pay198 (F := Ideal) x) P (ix3 0 0 (y 2))
  rw [e] at w
  refine w.trans ?_
  pointwise [k0_pay198, k0_pay197]
theorem sg_miss (i : grid0.Coords) (x : IVec S1x1x1x128 32) (P : List (View.Piece (Elt Ideal) S7x1x128 .i32)) (m : Memref sig .tc .vmem S7x1x128 .i32)
    (f : m.view.ty.Contents (Elt Ideal)) (y : S7x1x128.Idx) (hy : (y 0).val < (i 1 : ℕ) + 2) :
    m.view.read (Elt Ideal) (m.view.writes (Elt Ideal) f (sgPiece (F := Ideal) i x :: P)) y = m.view.read (Elt Ideal) (m.view.writes (Elt Ideal) f P) y := by
  have : sgPiece (F := Ideal) i x :: P = [sgPiece (F := Ideal) i x] ++ P := rfl
  rw [this, View.writes_append, View.read_writes_apply_of_forall_not_mem]
  intro p hp hm
  rw [List.mem_singleton] at hp
  subst hp
  have h0 := (unit_of_mem (inb := k0_off4_inb i 1) hm 0).1
  have h1 : k0_off4 i 2#32 0 = (i 1 : ℕ) + 2 := off4_two i 0
  have h2 : k0_off4 i 2#32 0 ≤ (y 0).val := h0
  omega
theorem klPads_after (m : Memref sig .tc .vmem S7x8x128 .f32) (f : m.view.ty.Contents (Elt Ideal)) (y : S7x8x128.Idx) (hy : (y 0).val < 2) :
    m.view.read (Elt Ideal) (m.view.writes (Elt Ideal) f klPads) y = (0 : EReal) := by
  refine View.read_writes_apply_of_pieces (Val := Elt Ideal) m.view f (fun _ : S7x8x128.Idx => (show Elt Ideal .f32 from (0 : EReal))) _ ?_ y ?_
  · intro p hp x
    simp only [klPads, List.mem_cons, List.not_mem_nil, or_false] at hp
    subst hp
    show Ideal.ofBits .f32 0x00000000#32 = (0 : EReal)
    simp [Ideal.ofBits, Ideal.ieee]
  · refine ⟨_, List.mem_cons_self, unit_mem _ _ inb_S7x8x128_S2x8x128_0_0_0 y ?_⟩
    have h1 : (y 1).val < 8 := (y 1).isLt
    have h2 : (y 2).val < 128 := (y 2).isLt
    intro a
    fin_cases a <;> simp <;> omega
theorem sgPads_after (m : Memref sig .tc .vmem S7x1x128 .i32) (f : m.view.ty.Contents (Elt Ideal)) (y : S7x1x128.Idx) (hy : (y 0).val < 2) :
    m.view.read (Elt Ideal) (m.view.writes (Elt Ideal) f (sgPads (F := Ideal))) y = 4294967295#32 := by
  refine View.read_writes_apply_of_pieces (Val := Elt Ideal) m.view f (fun _ : S7x1x128.Idx => (show Elt Ideal .i32 from (4294967295#32 : BitVec 32))) _ ?_ y ?_
  · intro p hp x
    simp only [sgPads, List.mem_cons, List.not_mem_nil, or_false] at hp
    subst hp
    rfl
  · refine ⟨_, List.mem_cons_self, unit_mem _ _ inb_S7x1x128_S2x1x128_0_0_0 y ?_⟩
    have h1 : (y 1).val < 1 := (y 1).isLt
    have h2 : (y 2).val < 128 := (y 2).isLt
    intro a
    fin_cases a <;> simp <;> omega

/-- A block of the scales' buffer, loaded. -/
theorem klLoad (m : Memref sig .tc .vmem S7x8x128 .f32) (f : m.view.ty.Contents (Elt Ideal)) (off : Fin 3 → ℕ) (inb : ∀ a, off a + S1x8x128.size a ≤ S7x8x128.size a)
    (B : Fin 7) (ho : off = ![B.val, 0, 0]) (h : Fin 8) (r : Fin 128) :
    View.readAt (Elt Ideal) m.view (Rect.unit (s := S7x8x128) off S1x8x128.size inb).toLoadRect f (ix3 0 h r) = m.view.read (Elt Ideal) f (ix3 B h r) := by
  subst ho
  refine congrArg (m.view.read (Elt Ideal) f) ?_
  funext a; fin_cases a <;> (apply Fin.ext; simp [ix3]; try rfl)
theorem sgLoad (m : Memref sig .tc .vmem S7x1x128 .i32) (f : m.view.ty.Contents (Elt Ideal)) (off : Fin 3 → ℕ) (inb : ∀ a, off a + S1x1x128.size a ≤ S7x1x128.size a)
    (B : Fin 7) (ho : off = ![B.val, 0, 0]) (r : Fin 128) :
    View.readAt (Elt Ideal) m.view (Rect.unit (s := S7x1x128) off S1x1x128.size inb).toLoadRect f (ix3 0 0 r) = m.view.read (Elt Ideal) f (ix3 B 0 r) := by
  subst ho
  refine congrArg (m.view.read (Elt Ideal) f) ?_
  funext a; fin_cases a <;> (apply Fin.ext; simp [ix3]; try rfl)

/-! ## A unit -/

/-- An attention unit, its operands read off the spec, is the spec's result at its rows. -/
theorem unit_spec (X0 X1 X2 : ℕ → ℕ → ℕ → EReal) (SG : ℕ → ℕ → BitVec 32) (b n : ℕ) (hd : Fin 5 → Fin 10) (g : ℕ) (hg : ∀ k, (hd k).val / 5 = g) (j : Fin 4)
    (q : FVec Ideal S160x256 .fp8e4m3) (qs : FVec Ideal S160x1 .f32) (kw : FVec Ideal S256x256 .fp8e4m3) (vw : FVec Ideal S256x256 .bf16)
    (kl : FVec Ideal S1x256 .f32) (bi : FVec Ideal S32x256 .f32)
    (hq : ∀ (k : Fin 5) (r : Fin 32) (d : Fin 256), q (ix2 ⟨32 * k.val + r.val, by omega⟩ d) = QC X0 b (hd k).val (128 * n + (32 * j.val + r.val)) d)
    (hqs : ∀ (k : Fin 5) (r : Fin 32), qs (ix2 ⟨32 * k.val + r.val, by omega⟩ 0) = QS X0 b (hd k).val (128 * n + (32 * j.val + r.val)))
    (hkw : ∀ c e, kw (ix2 c e) = kwS X1 b g (128 * n + 32 * j.val + 32 + c.val) e)
    (hvw : ∀ c e, vw (ix2 c e) = vwS X2 b g (128 * n + 32 * j.val + 32 + c.val) e)
    (hkl : ∀ c, kl (ix2 0 c) = klS X1 b g (128 * n + 32 * j.val + 32 + c.val))
    (hbi : ∀ (r : Fin 32) (c : Fin 256), bi (ix2 r c) = if c.val ≤ r.val + 224 ∧ sgS SG b (128 * n + 32 * j.val + 32 + c.val) = SG b (128 * n + (32 * j.val + r.val)) then 0 else ⊥)
    (k : Fin 5) (r : Fin 32) (d : Fin 256) :
    attend q qs kw vw kl bi (ix2 ⟨32 * k.val + r.val, by omega⟩ d) = OUT X0 X1 X2 SG b (128 * n + (32 * j.val + r.val)) (hd k).val d := by
  rw [attend_apply]
  have hw : ∀ c, wrow (128 * n + (32 * j.val + r.val)) c = 128 * n + 32 * j.val + 32 + c := fun c => by unfold wrow; omega
  have hm : (128 * n + (32 * j.val + r.val)) % 32 = r.val := by omega
  have hr : (⟨(32 * k.val + r.val) % 32, Nat.mod_lt _ (by norm_num)⟩ : Fin 32) = r := Fin.ext (by show (32 * k.val + r.val) % 32 = r.val; omega)
  unfold OUT
  simp only [hw, hm, hg, hq, hqs, hkw, hvw, hkl, hr, hbi]

section
variable (X0 X1 X2 : ℕ → ℕ → ℕ → EReal) (SG : ℕ → ℕ → BitVec 32) (b : ℕ) (i : grid0.Coords)
  (m2 : Memref sig .tc .vmem S1x128x2560 .bf16) (hm2 : m2.IsWhole) (x0 : Vec Ideal S1x128x2560 .bf16)
  (hx0 : ∀ r C, x0 (ix3 0 r C) = X0 b (128 * (i 1 : ℕ) + r.val) C.val)
  (x3 : IVec S1x1x1x128 32) (hx3 : ∀ r, x3 (ix4 0 0 0 r) = SG b (128 * (i 1 : ℕ) + r.val))
  (m7 : Memref sig .tc .vmem S1x10x128x256 .fp8e4m3)
  (m13 : Memref sig .tc .vmem S2x896x256 .fp8e4m3) (f13 : m13.view.ty.Contents (Elt Ideal))
  (m14 : Memref sig .tc .vmem S2x896x256 .bf16) (f14 : m14.view.ty.Contents (Elt Ideal))
  (h13 : ∀ y : S2x896x256.Idx, (y 1).val < 128 * (i 1 : ℕ) + 384 → m13.view.read (Elt Ideal) f13 y = kwS X1 b (y 0).val (y 1).val (y 2))
  (h14 : ∀ y : S2x896x256.Idx, (y 1).val < 128 * (i 1 : ℕ) + 384 → m14.view.read (Elt Ideal) f14 y = vwS X2 b (y 0).val (y 1).val (y 2))
  (kl : FVec Ideal S8x384 .f32) (hkl : ∀ (h : Fin 8) (q : Fin 384), h.val < 2 → kl (ix2 h q) = klS X1 b h.val (128 * (i 1 : ℕ) + q.val))
  (sg : IVec S1x384 32) (hsg : ∀ q : Fin 384, sg (ix2 0 q) = sgS SG b (128 * (i 1 : ℕ) + q.val))

include hx0 hx3 h13 h14 hkl hsg in
theorem unit0_spec (j : Fin 4) (k : Fin 5) (r : Fin 32) (d : Fin 256) :
    unit0 m7 (xtile m2 hm2 x0) x3 m13 f13 m14 f14 kl sg i j (ix2 ⟨32 * k.val + r.val, by omega⟩ d)
      = OUT X0 X1 X2 SG b (128 * (i 1 : ℕ) + (32 * j.val + r.val)) k.val d := by
  have hi := i1_lt i
  refine (unit_spec X0 X1 X2 SG b (i 1 : ℕ) ![0, 1, 2, 3, 4] 0 (by decide) j _ _ _ _ _ _ ?_ ?_ ?_ ?_ ?_ ?_ k r d).trans ?_
  · intro k r d
    exact (qcat_apply m7 _ j ![0, 1, 2, 3, 4] k r d).trans (xtile_codes X0 b _ m2 hm2 x0 hx0 _ _ _)
  · intro k r
    exact (qscat_apply _ j ![0, 1, 2, 3, 4] k r).trans (xtile_scale X0 b _ m2 hm2 x0 hx0 _ _)
  · intro c e
    exact (kwin0_apply m13 f13 i hi j c e).trans (h13 _ (by show _ + c.val < _; omega))
  · intro c e
    exact (vwin0_apply m14 f14 i hi j c e).trans (h14 _ (by show _ + c.val < _; omega))
  · intro c
    have e : ∀ g : FVec Ideal S8x384 .f32, extractStridedSlice S1x256 ![0, 32 * j.val + 32] g (sl_kl j 0) (ix2 0 c) = g (ix2 0 ⟨32 * j.val + 32 + c.val, by omega⟩) := by
      intro g; pointwise
    refine (e kl).trans ((hkl 0 _ (by decide)).trans ?_)
    exact congrArg (klS X1 b 0) (by show 128 * (i 1 : ℕ) + (32 * j.val + 32 + c.val) = _; omega)
  · intro r c
    rw [bias_apply, hsg, hx3]
    have : 128 * (i 1 : ℕ) + (32 * j.val + 32 + c.val) = 128 * (i 1 : ℕ) + 32 * j.val + 32 + c.val := by omega
    rw [show (128 * (i 1 : ℕ) + (⟨32 * j.val + 32 + c.val, by omega⟩ : Fin 384).val) = _ from this]
  · fin_cases k <;> rfl

include hx0 hx3 h13 h14 hkl hsg in
theorem unit1_spec (j : Fin 4) (k : Fin 5) (r : Fin 32) (d : Fin 256) :
    unit1 m7 (xtile m2 hm2 x0) x3 m13 f13 m14 f14 kl sg i j (ix2 ⟨32 * k.val + r.val, by omega⟩ d)
      = OUT X0 X1 X2 SG b (128 * (i 1 : ℕ) + (32 * j.val + r.val)) (5 + k.val) d := by
  have hi := i1_lt i
  refine (unit_spec X0 X1 X2 SG b (i 1 : ℕ) ![5, 6, 7, 8, 9] 1 (by decide) j _ _ _ _ _ _ ?_ ?_ ?_ ?_ ?_ ?_ k r d).trans ?_
  · intro k r d
    exact (qcat_apply m7 _ j ![5, 6, 7, 8, 9] k r d).trans (xtile_codes X0 b _ m2 hm2 x0 hx0 _ _ _)
  · intro k r
    exact (qscat_apply _ j ![5, 6, 7, 8, 9] k r).trans (xtile_scale X0 b _ m2 hm2 x0 hx0 _ _)
  · intro c e
    exact (kwin1_apply m13 f13 i hi j c e).trans (h13 _ (by show _ + c.val < _; omega))
  · intro c e
    exact (vwin1_apply m14 f14 i hi j c e).trans (h14 _ (by show _ + c.val < _; omega))
  · intro c
    have e : ∀ g : FVec Ideal S8x384 .f32, extractStridedSlice S1x256 ![1, 32 * j.val + 32] g (sl_kl j 1) (ix2 0 c) = g (ix2 1 ⟨32 * j.val + 32 + c.val, by omega⟩) := by
      intro g; pointwise
    refine (e kl).trans ((hkl 1 _ (by decide)).trans ?_)
    exact congrArg (klS X1 b 1) (by show 128 * (i 1 : ℕ) + (32 * j.val + 32 + c.val) = _; omega)
  · intro r c
    rw [bias_apply, hsg, hx3]
    have : 128 * (i 1 : ℕ) + (32 * j.val + 32 + c.val) = 128 * (i 1 : ℕ) + 32 * j.val + 32 + c.val := by omega
    rw [show (128 * (i 1 : ℕ) + (⟨32 * j.val + 32 + c.val, by omega⟩ : Fin 384).val) = _ from this]
  · fin_cases k <;> rfl

include hx0 hx3 h13 h14 hkl hsg in
/-- The whole block of the result. -/
theorem out_spec (y : S1x128x2560.Idx) :
    outG (unit0 m7 (xtile m2 hm2 x0) x3 m13 f13 m14 f14 kl sg i) (unit1 m7 (xtile m2 hm2 x0) x3 m13 f13 m14 f14 kl sg i) y
      = OUT X0 X1 X2 SG b (128 * (i 1 : ℕ) + (y 1).val) ((y 2).val / 256) ⟨(y 2).val % 256, by omega⟩ := by
  have h1 : (y 1).val < 128 := (y 1).isLt
  have h2 : (y 2).val < 2560 := (y 2).isLt
  unfold outG
  have hT : 32 * ((y 1).val / 32) + (y 1).val % 32 = (y 1).val := by omega
  by_cases h : (y 2).val < 1280
  · rw [if_pos h]
    refine (unit0_spec X0 X1 X2 SG b i m2 hm2 x0 hx0 x3 hx3 m7 m13 f13 m14 f14 h13 h14 kl hkl sg hsg ⟨(y 1).val / 32, by omega⟩ ⟨(y 2).val / 256 % 5, by omega⟩ ⟨(y 1).val % 32, by omega⟩ ⟨(y 2).val % 256, by omega⟩).trans ?_
    show OUT _ _ _ _ _ (128 * (i 1 : ℕ) + (32 * ((y 1).val / 32) + (y 1).val % 32)) ((y 2).val / 256 % 5) _ = _
    rw [hT, show (y 2).val / 256 % 5 = (y 2).val / 256 by omega]
  · rw [if_neg h]
    refine (unit1_spec X0 X1 X2 SG b i m2 hm2 x0 hx0 x3 hx3 m7 m13 f13 m14 f14 h13 h14 kl hkl sg hsg ⟨(y 1).val / 32, by omega⟩ ⟨(y 2).val / 256 % 5, by omega⟩ ⟨(y 1).val % 32, by omega⟩ ⟨(y 2).val % 256, by omega⟩).trans ?_
    show OUT _ _ _ _ _ (128 * (i 1 : ℕ) + (32 * ((y 1).val / 32) + (y 1).val % 32)) (5 + (y 2).val / 256 % 5) _ = _
    rw [hT, show 5 + (y 2).val / 256 % 5 = (y 2).val / 256 by omega]
end

end Cert.KernelIdeal.Voc

end
-- ==== Proof.Step.lean ====
module

public import proofs.«01_k».proof.Proof.Body

/-! The buffers kept between grid points: what they hold before and after a point. -/

@[expose] public section

set_option maxRecDepth 16384

noncomputable section

namespace Cert.KernelIdeal.Voc

open Idealize.ShloMosaic Cert.KernelIdeal Cert.KernelIdeal.Gen

/-- The four buffers hold the spec of batch `b` on their first `N` blocks of 128 rows. -/
structure Inv (X1 X2 : ℕ → ℕ → ℕ → EReal) (SG : ℕ → ℕ → BitVec 32) (b N : ℕ)
    (s0 : Vec Ideal S2x896x256 .fp8e4m3) (s1 : Vec Ideal S2x896x256 .bf16) (s2 : Vec Ideal S7x8x128 .f32) (s3 : Vec Ideal S7x1x128 .i32) : Prop where
  kw : ∀ y : S2x896x256.Idx, (y 1).val < 128 * N → s0 y = kwS X1 b (y 0).val (y 1).val (y 2)
  vw : ∀ y : S2x896x256.Idx, (y 1).val < 128 * N → s1 y = vwS X2 b (y 0).val (y 1).val (y 2)
  kl : ∀ y : S7x8x128.Idx, (y 0).val < N → (y 1).val < 2 → s2 y = klS X1 b (y 1).val (128 * (y 0).val + (y 2).val)
  sg : ∀ y : S7x1x128.Idx, (y 0).val < N → s3 y = sgS SG b (128 * (y 0).val + (y 2).val)

theorem kwS_tok (X : ℕ → ℕ → ℕ → EReal) (b h n r : ℕ) (d : Fin 256) : kwS X b h (128 * n + 256 + r) d = QC X b h (128 * n + r) d := by
  unfold kwS; rw [if_neg (by omega), show 128 * n + 256 + r - 256 = 128 * n + r by omega]
theorem vwS_tok (X : ℕ → ℕ → ℕ → EReal) (b h n r : ℕ) (d : Fin 256) : vwS X b h (128 * n + 256 + r) d = QC X b h (128 * n + r) d * QS X b h (128 * n + r) := by
  unfold vwS; rw [if_neg (by omega), show 128 * n + 256 + r - 256 = 128 * n + r by omega]

section
variable (X : ℕ → ℕ → ℕ → EReal) (b : ℕ) (i : grid0.Coords) (m : Memref sig .tc .vmem S1x128x512 .bf16) (hm : m.IsWhole) (x : Vec Ideal S1x128x512 .bf16)
  (hx : ∀ r C, x (ix3 0 r C) = X b (128 * (i 1 : ℕ) + r.val) C.val)

include hx in
theorem kw_step (m13 : Memref sig .tc .vmem S2x896x256 .fp8e4m3) (f : m13.view.ty.Contents (Elt Ideal))
    (hf : ∀ y : S2x896x256.Idx, (y 1).val < 128 * (i 1 : ℕ) + 256 → m13.view.read (Elt Ideal) f y = kwS X b (y 0).val (y 1).val (y 2))
    (y : S2x896x256.Idx) (hy : (y 1).val < 128 * (i 1 : ℕ) + 384) :
    m13.view.read (Elt Ideal) (m13.view.writes (Elt Ideal) f (kwPieces i (ktile m hm x))) y = kwS X b (y 0).val (y 1).val (y 2) := by
  have hP : ∀ (h : Fin 2) (r : Fin 128) (d : Fin 256), codes (ktile m hm x h) (ix2 r d) = kwS X b h.val (128 * (i 1 : ℕ) + 256 + r.val) d :=
    fun h r d => (ktile_codes X b _ m hm x hx h r d).trans (kwS_tok X b h.val _ _ d).symm
  generalize ktile m hm x = kt at hP ⊢
  exact win_after (e := .fp8e4m3) (kwS X b) i (fun h => codes (kt h)) hP m13 f hf y hy
include hx in
theorem vw_step (m14 : Memref sig .tc .vmem S2x896x256 .bf16) (f : m14.view.ty.Contents (Elt Ideal))
    (hf : ∀ y : S2x896x256.Idx, (y 1).val < 128 * (i 1 : ℕ) + 256 → m14.view.read (Elt Ideal) f y = vwS X b (y 0).val (y 1).val (y 2))
    (y : S2x896x256.Idx) (hy : (y 1).val < 128 * (i 1 : ℕ) + 384) :
    m14.view.read (Elt Ideal) (m14.view.writes (Elt Ideal) f (vwPieces i (ktile m hm x))) y = vwS X b (y 0).val (y 1).val (y 2) := by
  have hP : ∀ (h : Fin 2) (r : Fin 128) (d : Fin 256), deq (ktile m hm x h) (ix2 r d) = vwS X b h.val (128 * (i 1 : ℕ) + 256 + r.val) d :=
    fun h r d => (ktile_deq X b _ m hm x hx h r d).trans (vwS_tok X b h.val _ _ d).symm
  generalize ktile m hm x = kt at hP ⊢
  exact win_after (e := .bf16) (vwS X b) i (fun h => deq (kt h)) hP m14 f hf y hy

theorem kwPads_hold (hi : (i 1 : ℕ) = 0) (m13 : Memref sig .tc .vmem S2x896x256 .fp8e4m3) (f : m13.view.ty.Contents (Elt Ideal))
    (y : S2x896x256.Idx) (hy : (y 1).val < 128 * (i 1 : ℕ) + 256) : m13.view.read (Elt Ideal) (m13.view.writes (Elt Ideal) f kwPads) y = kwS X b (y 0).val (y 1).val (y 2) := by
  rw [hi] at hy
  unfold kwS
  rw [if_pos (by omega)]
  refine (pads_after (e := .fp8e4m3) _ m13 f y (by omega)).trans ?_
  show Ideal.ofBits .fp8e4m3 _ = (0 : EReal)
  simp [Ideal.ofBits, Ideal.ieee, Ideal.e4m3fn]
theorem vwPads_hold (hi : (i 1 : ℕ) = 0) (m14 : Memref sig .tc .vmem S2x896x256 .bf16) (f : m14.view.ty.Contents (Elt Ideal))
    (y : S2x896x256.Idx) (hy : (y 1).val < 128 * (i 1 : ℕ) + 256) : m14.view.read (Elt Ideal) (m14.view.writes (Elt Ideal) f vwPads) y = vwS X b (y 0).val (y 1).val (y 2) := by
  rw [hi] at hy
  unfold vwS
  rw [if_pos (by omega)]
  refine (pads_after (e := .bf16) _ m14 f y (by omega)).trans ?_
  show Ideal.ofBits .bf16 _ = (0 : EReal)
  simp [Ideal.ofBits, Ideal.ieee]
theorem klPads_hold (m15 : Memref sig .tc .vmem S7x8x128 .f32) (f : m15.view.ty.Contents (Elt Ideal)) (y : S7x8x128.Idx) (hy : (y 0).val < 2) :
    m15.view.read (Elt Ideal) (m15.view.writes (Elt Ideal) f klPads) y = klS X b (y 1).val (128 * (y 0).val + (y 2).val) := by
  have h2 : (y 2).val < 128 := (y 2).isLt
  unfold klS
  rw [if_pos (by omega)]
  exact klPads_after m15 f y hy
theorem sgPads_hold (SG : ℕ → ℕ → BitVec 32) (m16 : Memref sig .tc .vmem S7x1x128 .i32) (f : m16.view.ty.Contents (Elt Ideal)) (y : S7x1x128.Idx) (hy : (y 0).val < 2) :
    m16.view.read (Elt Ideal) (m16.view.writes (Elt Ideal) f (sgPads (F := Ideal))) y = sgS SG b (128 * (y 0).val + (y 2).val) := by
  have h2 : (y 2).val < 128 := (y 2).isLt
  unfold sgS
  rw [if_pos (by omega)]
  exact sgPads_after m16 f y hy

include hx in
theorem kl_new (xt : Fin 10 → FVec Ideal S128x256 .bf16) (vt : Fin 2 → FVec Ideal S128x256 .bf16) (P : List (View.Piece (Elt Ideal) S7x8x128 .f32)) (m15 : Memref sig .tc .vmem S7x8x128 .f32)
    (f : m15.view.ty.Contents (Elt Ideal)) (y : S7x8x128.Idx) (hy : (y 0).val = (i 1 : ℕ) + 2) (h1 : (y 1).val < 2) :
    m15.view.read (Elt Ideal) (m15.view.writes (Elt Ideal) f (klPiece i (smat xt (ktile m hm x) vt) :: P)) y = klS X b (y 1).val (128 * (y 0).val + (y 2).val) := by
  refine (kl_hit i _ P m15 f y hy).trans ((congrArg (· * lam) ((smat_apply xt (ktile m hm x) vt _ _).trans
    ((dif_pos h1).trans (ktile_scale X b _ m hm x hx _ _)))).trans ?_)
  unfold klS
  have h2 : (y 2).val < 128 := (y 2).isLt
  rw [if_neg (by omega)]
  have e : 128 * (y 0).val + (y 2).val - 256 = 128 * (i 1 : ℕ) + (y 2).val := by omega
  rw [e]
include hx in
theorem kl_step (xt : Fin 10 → FVec Ideal S128x256 .bf16) (vt : Fin 2 → FVec Ideal S128x256 .bf16) (P : List (View.Piece (Elt Ideal) S7x8x128 .f32)) (m15 : Memref sig .tc .vmem S7x8x128 .f32)
    (f : m15.view.ty.Contents (Elt Ideal))
    (hf : ∀ y : S7x8x128.Idx, (y 0).val < (i 1 : ℕ) + 2 → (y 1).val < 2 → m15.view.read (Elt Ideal) (m15.view.writes (Elt Ideal) f P) y = klS X b (y 1).val (128 * (y 0).val + (y 2).val))
    (y : S7x8x128.Idx) (hy : (y 0).val < (i 1 : ℕ) + 3) (h1 : (y 1).val < 2) :
    m15.view.read (Elt Ideal) (m15.view.writes (Elt Ideal) f (klPiece i (smat xt (ktile m hm x) vt) :: P)) y = klS X b (y 1).val (128 * (y 0).val + (y 2).val) := by
  by_cases h : (y 0).val < (i 1 : ℕ) + 2
  · rw [kl_miss i _ P m15 f y h, hf y h h1]
  · exact kl_new X b i m hm x hx xt vt P m15 f y (by omega) h1
include hx in
/-- The three blocks of scales the body lays side by side. -/
theorem kl_cat (xt : Fin 10 → FVec Ideal S128x256 .bf16) (vt : Fin 2 → FVec Ideal S128x256 .bf16) (P : List (View.Piece (Elt Ideal) S7x8x128 .f32)) (m15 : Memref sig .tc .vmem S7x8x128 .f32)
    (f : m15.view.ty.Contents (Elt Ideal))
    (hf : ∀ y : S7x8x128.Idx, (y 0).val < (i 1 : ℕ) + 2 → (y 1).val < 2 → m15.view.read (Elt Ideal) f y = klS X b (y 1).val (128 * (y 0).val + (y 2).val))
    (h : Fin 8) (q : Fin 384) (hh : h.val < 2) :
    klCat (F := Ideal) (View.readAt (Elt Ideal) m15.view (Rect.unit (s := S7x8x128) (k0_off5 i) S1x8x128.size (k0_off5_inb i)).toLoadRect f)
      (View.readAt (Elt Ideal) m15.view (Rect.unit (s := S7x8x128) (k0_off3 i 1#32) S1x8x128.size (k0_off3_inb i 0)).toLoadRect f)
      (m15.view.readCov (klPiece i (smat xt (ktile m hm x) vt) :: P) (Rect.unit (s := S7x8x128) (k0_off3 i 2#32) S1x8x128.size (k0_off3_inb i 1)).toLoadRect) (ix2 h q)
      = klS X b h.val (128 * (i 1 : ℕ) + q.val) := by
  have hi := i1_lt i
  have key : ∀ g : Fin 3 → FVec Ideal S1x8x128 .f32, (∀ (n : Fin 3) (r : Fin 128), g n (ix3 0 h r) = klS X b h.val (128 * ((i 1 : ℕ) + n.val) + r.val)) →
      klCat (F := Ideal) (g 0) (g 1) (g 2) (ix2 h q) = klS X b h.val (128 * (i 1 : ℕ) + q.val) := by
    intro g hg
    rw [klCat_apply, hg]
    exact congrArg _ (by show 128 * ((i 1 : ℕ) + q.val / 128) + q.val % 128 = _; omega)
  refine key ![_, _, _] ?_
  intro n r
  fin_cases n
  · exact (klLoad m15 f _ _ ⟨(i 1 : ℕ), by omega⟩ (k0_off5_eq i) h r).trans (hf _ (by show (i 1 : ℕ) < _; omega) hh)
  · exact (klLoad m15 f _ _ ⟨(i 1 : ℕ) + 1, by omega⟩ (k0_off3_eq i 0) h r).trans (hf _ (by show (i 1 : ℕ) + 1 < _; omega) hh)
  · exact (klLoad m15 _ _ _ ⟨(i 1 : ℕ) + 2, by omega⟩ (k0_off3_eq i 1) h r).trans (kl_new X b i m hm x hx xt vt P m15 _ _ rfl hh)
end

section
variable (SG : ℕ → ℕ → BitVec 32) (b : ℕ) (i : grid0.Coords) (x : IVec S1x1x1x128 32) (hx : ∀ r, x (ix4 0 0 0 r) = SG b (128 * (i 1 : ℕ) + r.val))

include hx in
theorem sg_new (P : List (View.Piece (Elt Ideal) S7x1x128 .i32)) (m16 : Memref sig .tc .vmem S7x1x128 .i32)
    (f : m16.view.ty.Contents (Elt Ideal)) (y : S7x1x128.Idx) (hy : (y 0).val = (i 1 : ℕ) + 2) :
    m16.view.read (Elt Ideal) (m16.view.writes (Elt Ideal) f (sgPiece (F := Ideal) i x :: P)) y = sgS SG b (128 * (y 0).val + (y 2).val) := by
  refine (sg_hit i _ P m16 f y hy).trans ((hx _).trans ?_)
  unfold sgS
  have h2 : (y 2).val < 128 := (y 2).isLt
  rw [if_neg (by omega)]
  have e : 128 * (y 0).val + (y 2).val - 256 = 128 * (i 1 : ℕ) + (y 2).val := by omega
  rw [e]
include hx in
theorem sg_step (P : List (View.Piece (Elt Ideal) S7x1x128 .i32)) (m16 : Memref sig .tc .vmem S7x1x128 .i32)
    (f : m16.view.ty.Contents (Elt Ideal))
    (hf : ∀ y : S7x1x128.Idx, (y 0).val < (i 1 : ℕ) + 2 → m16.view.read (Elt Ideal) (m16.view.writes (Elt Ideal) f P) y = sgS SG b (128 * (y 0).val + (y 2).val))
    (y : S7x1x128.Idx) (hy : (y 0).val < (i 1 : ℕ) + 3) :
    m16.view.read (Elt Ideal) (m16.view.writes (Elt Ideal) f (sgPiece (F := Ideal) i x :: P)) y = sgS SG b (128 * (y 0).val + (y 2).val) := by
  by_cases h : (y 0).val < (i 1 : ℕ) + 2
  · rw [sg_miss i _ P m16 f y h, hf y h]
  · exact sg_new SG b i x hx P m16 f y (by omega)
include hx in
/-- The three blocks of document numbers the body lays side by side. -/
theorem sg_cat (P : List (View.Piece (Elt Ideal) S7x1x128 .i32)) (m16 : Memref sig .tc .vmem S7x1x128 .i32)
    (f : m16.view.ty.Contents (Elt Ideal))
    (hf : ∀ y : S7x1x128.Idx, (y 0).val < (i 1 : ℕ) + 2 → m16.view.read (Elt Ideal) f y = sgS SG b (128 * (y 0).val + (y 2).val))
    (q : Fin 384) :
    sgCat (View.readAt (Elt Ideal) m16.view (Rect.unit (s := S7x1x128) (k0_off6 i) S1x1x128.size (k0_off6_inb i)).toLoadRect f)
      (View.readAt (Elt Ideal) m16.view (Rect.unit (s := S7x1x128) (k0_off4 i 1#32) S1x1x128.size (k0_off4_inb i 0)).toLoadRect f)
      (m16.view.readCov (Val := Elt Ideal) (sgPiece (F := Ideal) i x :: P) (Rect.unit (s := S7x1x128) (k0_off4 i 2#32) S1x1x128.size (k0_off4_inb i 1)).toLoadRect) (ix2 0 q)
      = sgS SG b (128 * (i 1 : ℕ) + q.val) := by
  have hi := i1_lt i
  have key : ∀ g : Fin 3 → IVec S1x1x128 32, (∀ (n : Fin 3) (r : Fin 128), g n (ix3 0 0 r) = sgS SG b (128 * ((i 1 : ℕ) + n.val) + r.val)) →
      sgCat (g 0) (g 1) (g 2) (ix2 0 q) = sgS SG b (128 * (i 1 : ℕ) + q.val) := by
    intro g hg
    rw [sgCat_apply, hg]
    exact congrArg _ (by show 128 * ((i 1 : ℕ) + q.val / 128) + q.val % 128 = _; omega)
  refine key ![_, _, _] ?_
  intro n r
  fin_cases n
  · exact (sgLoad m16 f _ _ ⟨(i 1 : ℕ), by omega⟩ (k0_off6_eq i) r).trans (hf _ (by show (i 1 : ℕ) < _; omega))
  · exact (sgLoad m16 f _ _ ⟨(i 1 : ℕ) + 1, by omega⟩ (k0_off4_eq i 0) r).trans (hf _ (by show (i 1 : ℕ) + 1 < _; omega))
  · exact (sgLoad m16 _ _ _ ⟨(i 1 : ℕ) + 2, by omega⟩ (k0_off4_eq i 1) r).trans (sg_new SG b i x hx P m16 _ _ rfl)
end

/-! ## The stores of scales -/

/-- Rows of the matrix of scales stored whole. -/
theorem scales10 (m : Memref sig .tc .vmem S1x10x128 .f32) (f : m.view.ty.Contents (Elt Ideal)) (sm : FVec Ideal S128x128 .f32) (y : S1x10x128.Idx) :
    m.view.read (Elt Ideal) (m.view.writes (Elt Ideal) f [⟨Rect.unit (s := S1x10x128) ![0, 0, 0] S1x10x128.size inb_S1x10x128_S1x10x128_0_0_0,
      shapeCast S1x10x128 (extractStridedSlice S10x128 ![4, 0] sm slices_S128x128_o4_0_S10x128) shapeCasts_S10x128_S1x10x128⟩]) y
      = sm (ix2 ⟨4 + (y 1).val, by have : (y 1).val < 10 := (y 1).isLt; omega⟩ (y 2)) := by
  have e : (Rect.unit (s := S1x10x128) ![0, 0, 0] S1x10x128.size inb_S1x10x128_S1x10x128_0_0_0).emb y = y := by
    funext a; apply Fin.ext; rw [unit_emb]; fin_cases a <;> simp
  have w := View.read_writes_cons_emb (Val := Elt Ideal) (v := m.view) (f := f) (Rect.unit (s := S1x10x128) ![0, 0, 0] S1x10x128.size inb_S1x10x128_S1x10x128_0_0_0)
    (shapeCast S1x10x128 (extractStridedSlice S10x128 ![4, 0] sm slices_S128x128_o4_0_S10x128) shapeCasts_S10x128_S1x10x128) [] y
  rw [e] at w
  refine w.trans ?_
  have e : ∀ (y : S1x10x128.Idx), shapeCast S1x10x128 (extractStridedSlice S10x128 ![4, 0] sm slices_S128x128_o4_0_S10x128) shapeCasts_S10x128_S1x10x128 y
      = sm (ix2 ⟨4 + (y 1).val, by have : (y 1).val < 10 := (y 1).isLt; omega⟩ (y 2)) := by
    intro y
    idx_vars y
    pointwise
  exact e y
theorem scales2 (o : ℕ) (ho : o ≤ 2) (sl : S128x128.Slices ![o, 0] S2x128) (m : Memref sig .tc .vmem S1x2x128 .f32) (f : m.view.ty.Contents (Elt Ideal)) (sm : FVec Ideal S128x128 .f32) (y : S1x2x128.Idx) :
    m.view.read (Elt Ideal) (m.view.writes (Elt Ideal) f [⟨Rect.unit (s := S1x2x128) ![0, 0, 0] S1x2x128.size inb_S1x2x128_S1x2x128_0_0_0,
      shapeCast S1x2x128 (extractStridedSlice S2x128 ![o, 0] sm sl) shapeCasts_S2x128_S1x2x128⟩]) y
      = sm (ix2 ⟨o + (y 1).val, by have : (y 1).val < 2 := (y 1).isLt; omega⟩ (y 2)) := by
  have e : (Rect.unit (s := S1x2x128) ![0, 0, 0] S1x2x128.size inb_S1x2x128_S1x2x128_0_0_0).emb y = y := by
    funext a; apply Fin.ext; rw [unit_emb]; fin_cases a <;> simp
  have w := View.read_writes_cons_emb (Val := Elt Ideal) (v := m.view) (f := f) (Rect.unit (s := S1x2x128) ![0, 0, 0] S1x2x128.size inb_S1x2x128_S1x2x128_0_0_0)
    (shapeCast S1x2x128 (extractStridedSlice S2x128 ![o, 0] sm sl) shapeCasts_S2x128_S1x2x128) [] y
  rw [e] at w
  refine w.trans ?_
  have e : ∀ (y : S1x2x128.Idx), shapeCast S1x2x128 (extractStridedSlice S2x128 ![o, 0] sm sl) shapeCasts_S2x128_S1x2x128 y
      = sm (ix2 ⟨o + (y 1).val, by have : (y 1).val < 2 := (y 1).isLt; omega⟩ (y 2)) := by
    intro y
    idx_vars y
    pointwise
  exact e y

end Cert.KernelIdeal.Voc

end
-- ==== Proof.KernelRunA.lean ====
module

public import proofs.«01_k».proof.Proof.KernelRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1972000 in
/-- The body's run where `scf.if` 0 is taken: from the inputs' blocks `x·` and the scratch at `s·` it runs to the continuation,
    each output and each scratch holding the stores listed here over what it held. -/
def krunA (c : Dev nD) (i : grid0.Coords) (arg2 : Memref sig .tc .vmem S1x128x2560 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x1x128 .i32) (harg5 : arg5.IsWhole) (arg6 : Memref sig .tc .vmem S1x128x2560 .bf16) (harg6 : arg6.IsWhole) (arg7 : Memref sig .tc .vmem S1x10x128x256 .fp8e4m3) (harg7 : arg7.IsWhole) (arg8 : Memref sig .tc .vmem S1x10x128 .f32) (harg8 : arg8.IsWhole) (arg9 : Memref sig .tc .vmem S1x2x128x256 .fp8e4m3) (harg9 : arg9.IsWhole) (arg10 : Memref sig .tc .vmem S1x2x128 .f32) (harg10 : arg10.IsWhole) (arg11 : Memref sig .tc .vmem S1x2x128x256 .fp8e4m3) (harg11 : arg11.IsWhole) (arg12 : Memref sig .tc .vmem S1x2x128 .f32) (harg12 : arg12.IsWhole) (arg13 : Memref sig .tc .vmem S2x896x256 .fp8e4m3) (harg13 : arg13.IsWhole) (arg14 : Memref sig .tc .vmem S2x896x256 .bf16) (harg14 : arg14.IsWhole) (arg15 : Memref sig .tc .vmem S7x8x128 .f32) (harg15 : arg15.IsWhole) (arg16 : Memref sig .tc .vmem S7x1x128 .i32) (harg16 : arg16.IsWhole) (hc0 : cond0_0 i)
    (x0 : Vec F S1x128x2560 .bf16) (x1 : Vec F S1x128x512 .bf16) (x2 : Vec F S1x128x512 .bf16) (x3 : Vec F S1x1x1x128 .i32)
    (s0 : Vec F S2x896x256 .fp8e4m3) (s1 : Vec F S2x896x256 .bf16) (s2 : Vec F S7x8x128 .f32) (s3 : Vec F S7x1x128 .i32) :
    Σ' (L6 : List (View.Piece (Elt F) S1x128x2560 .bf16)), Σ' (L7 : List (View.Piece (Elt F) S1x10x128x256 .fp8e4m3)), Σ' (L8 : List (View.Piece (Elt F) S1x10x128 .f32)), Σ' (L9 : List (View.Piece (Elt F) S1x2x128x256 .fp8e4m3)), Σ' (L10 : List (View.Piece (Elt F) S1x2x128 .f32)), Σ' (L11 : List (View.Piece (Elt F) S1x2x128x256 .fp8e4m3)), Σ' (L12 : List (View.Piece (Elt F) S1x2x128 .f32)), Σ' (L13 : List (View.Piece (Elt F) S2x896x256 .fp8e4m3)), Σ' (L14 : List (View.Piece (Elt F) S2x896x256 .bf16)), Σ' (L15 : List (View.Piece (Elt F) S7x8x128 .f32)),
    { L16 : List (View.Piece (Elt F) S7x1x128 .i32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s0 ∗ owns (c : Thread nD τ) arg14 fullShare s1 ∗ owns (c : Thread nD τ) arg15 fullShare s2 ∗ owns (c : Thread nD τ) arg16 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, owns (c : Thread nD τ) arg6 fullShare (arg6.view.read (Elt F) (arg6.view.writes (Elt F) f L6))) ∗ (∃ f, owns (c : Thread nD τ) arg7 fullShare (arg7.view.read (Elt F) (arg7.view.writes (Elt F) f L7))) ∗ (∃ f, owns (c : Thread nD τ) arg8 fullShare (arg8.view.read (Elt F) (arg8.view.writes (Elt F) f L8))) ∗ (∃ f, owns (c : Thread nD τ) arg9 fullShare (arg9.view.read (Elt F) (arg9.view.writes (Elt F) f L9))) ∗ (∃ f, owns (c : Thread nD τ) arg10 fullShare (arg10.view.read (Elt F) (arg10.view.writes (Elt F) f L10))) ∗ (∃ f, owns (c : Thread nD τ) arg11 fullShare (arg11.view.read (Elt F) (arg11.view.writes (Elt F) f L11))) ∗ (∃ f, owns (c : Thread nD τ) arg12 fullShare (arg12.view.read (Elt F) (arg12.view.writes (Elt F) f L12))) ∗ owns (c : Thread nD τ) arg13 fullShare (arg13.view.read (Elt F) (arg13.view.writes (Elt F) (harg13.unread s0) L13)) ∗ owns (c : Thread nD τ) arg14 fullShare (arg14.view.read (Elt F) (arg14.view.writes (Elt F) (harg14.unread s1) L14)) ∗ owns (c : Thread nD τ) arg15 fullShare (arg15.view.read (Elt F) (arg15.view.writes (Elt F) (harg15.unread s2) L15)) ∗ owns (c : Thread nD τ) arg16 fullShare (arg16.view.read (Elt F) (arg16.view.writes (Elt F) (harg16.unread s3) L16))) -∗ K ⟨⟩))
          ⊢ wp frame (wpE (defs₀ (F := F)) Variants.none c none) E (cc0_packed_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
    refine ⟨?_, ?_, ?_, ?_, ?_, ?_, ?_, ?_, ?_, ?_, ?_, ?_⟩
    rotate_left 11
    · intro E K
      simp only [cc0_packed_attention_eq_skeleton]; unfold cc0_packed_attention_skel
      simp only [k0_part56_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
      unfold owns
      iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%fs0, %hs0, HS0⟩, ⟨%fs1, %hs1, HS1⟩, ⟨%fs2, %hs2, HS2⟩, ⟨%fs3, %hs3, HS3⟩, Hk⟩
      obtain rfl := harg2.eq_unread hf0; obtain rfl := harg3.eq_unread hf1; obtain rfl := harg4.eq_unread hf2; obtain rfl := harg5.eq_unread hf3; obtain rfl := harg13.eq_unread hs0; obtain rfl := harg14.eq_unread hs1; obtain rfl := harg15.eq_unread hs2; obtain rfl := harg16.eq_unread hs3
      sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists f4, _; isplitr; swap; · iexact H4
        ipureintro; rfl
      isplitl [H5]
      · iexists f5, _; isplitr; swap; · iexact H5
        ipureintro; rfl
      isplitl [H6]
      · iexists f6, _; isplitr; swap; · iexact H6
        ipureintro; rfl
      isplitl [H7]
      · iexists f7, _; isplitr; swap; · iexact H7
        ipureintro; rfl
      isplitl [H8]
      · iexists f8, _; isplitr; swap; · iexact H8
        ipureintro; rfl
      isplitl [H9]
      · iexists f9, _; isplitr; swap; · iexact H9
        ipureintro; rfl
      isplitl [H10]
      · iexists f10, _; isplitr; swap; · iexact H10
        ipureintro; rfl
      isplitl [HS0]
      · iexists _; isplitr; swap; · iexact HS0
        ipureintro; rfl
      isplitl [HS1]
      · iexists _; isplitr; swap; · iexact HS1
        ipureintro; rfl
      isplitl [HS2]
      · iexists _; isplitr; swap; · iexact HS2
        ipureintro; rfl
      iexists _; isplitr; swap; · iexact HS3
      ipureintro; rfl

end Cert.KernelIdeal.Gen

end
-- ==== Proof.BridgeA.lean ====
module

public import proofs.«01_k».proof.Proof.Vocab
public import proofs.«01_k».proof.Proof.KernelRunA

/-! The stores of the body's run, case A, in the vocabulary's names. -/

@[expose] public section

set_option maxRecDepth 16384

noncomputable section

namespace Cert.KernelIdeal.Voc

open Idealize.ShloMosaic Cert.KernelIdeal Cert.KernelIdeal.Gen

variable {F : FTy → Type} [FloatOps F] [Named F]

section
variable (c : Dev nD) (i : grid0.Coords) (arg2 : Memref sig .tc .vmem S1x128x2560 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x1x128 .i32) (harg5 : arg5.IsWhole) (arg6 : Memref sig .tc .vmem S1x128x2560 .bf16) (harg6 : arg6.IsWhole) (arg7 : Memref sig .tc .vmem S1x10x128x256 .fp8e4m3) (harg7 : arg7.IsWhole) (arg8 : Memref sig .tc .vmem S1x10x128 .f32) (harg8 : arg8.IsWhole) (arg9 : Memref sig .tc .vmem S1x2x128x256 .fp8e4m3) (harg9 : arg9.IsWhole) (arg10 : Memref sig .tc .vmem S1x2x128 .f32) (harg10 : arg10.IsWhole) (arg11 : Memref sig .tc .vmem S1x2x128x256 .fp8e4m3) (harg11 : arg11.IsWhole) (arg12 : Memref sig .tc .vmem S1x2x128 .f32) (harg12 : arg12.IsWhole) (arg13 : Memref sig .tc .vmem S2x896x256 .fp8e4m3) (harg13 : arg13.IsWhole) (arg14 : Memref sig .tc .vmem S2x896x256 .bf16) (harg14 : arg14.IsWhole) (arg15 : Memref sig .tc .vmem S7x8x128 .f32) (harg15 : arg15.IsWhole) (arg16 : Memref sig .tc .vmem S7x1x128 .i32) (harg16 : arg16.IsWhole) (hc0 : cond0_0 i) (x0 : Vec F S1x128x2560 .bf16) (x1 : Vec F S1x128x512 .bf16) (x2 : Vec F S1x128x512 .bf16) (x3 : Vec F S1x1x1x128 .i32) (s0 : Vec F S2x896x256 .fp8e4m3) (s1 : Vec F S2x896x256 .bf16) (s2 : Vec F S7x8x128 .f32) (s3 : Vec F S7x1x128 .i32)

/-- The queries' codes. -/
theorem runA_7 : (krunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.1 = qPieces (xtile arg2 harg2 x0) := rfl
/-- The queries' scales. -/
theorem runA_8 : (krunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.1 = [⟨Rect.unit (s := S1x10x128) ![0, 0, 0] S1x10x128.size inb_S1x10x128_S1x10x128_0_0_0, shapeCast S1x10x128 (extractStridedSlice S10x128 ![4, 0] (smat (xtile arg2 harg2 x0) (ktile arg3 harg3 x1) (ktile arg4 harg4 x2)) slices_S128x128_o4_0_S10x128) shapeCasts_S10x128_S1x10x128⟩] := rfl
/-- The keys' codes. -/
theorem runA_9 : (krunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.2.1 = kPieces (ktile arg3 harg3 x1) := rfl
/-- The keys' scales. -/
theorem runA_10 : (krunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.2.2.1 = [⟨Rect.unit (s := S1x2x128) ![0, 0, 0] S1x2x128.size inb_S1x2x128_S1x2x128_0_0_0, shapeCast S1x2x128 (extractStridedSlice S2x128 ![0, 0] (smat (xtile arg2 harg2 x0) (ktile arg3 harg3 x1) (ktile arg4 harg4 x2)) slices_S128x128_o0_0_S2x128) shapeCasts_S2x128_S1x2x128⟩] := rfl
/-- The values' codes. -/
theorem runA_11 : (krunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.2.2.2.1 = kPieces (ktile arg4 harg4 x2) := rfl
/-- The values' scales. -/
theorem runA_12 : (krunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.2.2.2.2.1 = [⟨Rect.unit (s := S1x2x128) ![0, 0, 0] S1x2x128.size inb_S1x2x128_S1x2x128_0_0_0, shapeCast S1x2x128 (extractStridedSlice S2x128 ![2, 0] (smat (xtile arg2 harg2 x0) (ktile arg3 harg3 x1) (ktile arg4 harg4 x2)) slices_S128x128_o2_0_S2x128) shapeCasts_S2x128_S1x2x128⟩] := rfl
/-- The keys' window buffer. -/
theorem runA_13 : (krunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.2.2.2.2.2.1 = (kwPieces i (ktile arg3 harg3 x1) ++ kwPads) := rfl
/-- The values' window buffer. -/
theorem runA_14 : (krunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.2.2.2.2.2.2.1 = (vwPieces i (ktile arg4 harg4 x2) ++ vwPads) := rfl
/-- The key scales' buffer. -/
theorem runA_15 : (krunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.2.2.2.2.2.2.2.1 = (klPiece i (smat (xtile arg2 harg2 x0) (ktile arg3 harg3 x1) (ktile arg4 harg4 x2)) :: klPads) := rfl
/-- The document numbers' buffer. -/
theorem runA_16 : (krunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.2.2.2.2.2.2.2.2.1 = (sgPiece i (View.readAt (Elt F) arg5.view (Rect.unit (s := S1x1x1x128) ![0, 0, 0, 0] S1x1x1x128.size inb_S1x1x1x128_S1x1x1x128_0_0_0_0).toLoadRect (harg5.unread x3)) :: sgPads) := rfl
/-- The unit of rows 0 … and head group 0. -/
theorem runA_u00 : (krunA.sl.v1769 c i arg2 harg2 arg3 harg3 arg4 harg4 arg5 harg5 arg7 arg13 harg13 arg14 harg14 arg15 harg15 arg16 harg16 x0 x1 x2 x3 s0 s1 s2 s3) = (unit0 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1) ++ kwPads)) arg14 (arg14.view.writes (Elt F) (harg14.unread s1) (vwPieces i (ktile arg4 harg4 x2) ++ vwPads)) (klCat (View.readAt (Elt F) arg15.view (Rect.unit (s := S7x8x128) (k0_off5 i) S1x8x128.size (k0_off5_inb i)).toLoadRect (arg15.view.writes (Elt F) (harg15.unread s2) (klPiece i (smat (xtile arg2 harg2 x0) (ktile arg3 harg3 x1) (ktile arg4 harg4 x2)) :: klPads))) (View.readAt (Elt F) arg15.view (Rect.unit (s := S7x8x128) (k0_off3 i 1#32) S1x8x128.size (k0_off3_inb i 0)).toLoadRect (arg15.view.writes (Elt F) (harg15.unread s2) (klPiece i (smat (xtile arg2 harg2 x0) (ktile arg3 harg3 x1) (ktile arg4 harg4 x2)) :: klPads))) (arg15.view.readCov (klPiece i (smat (xtile arg2 harg2 x0) (ktile arg3 harg3 x1) (ktile arg4 harg4 x2)) :: klPads) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (View.readAt (Elt F) arg16.view (Rect.unit (s := S7x1x128) (k0_off4 i 1#32) S1x1x128.size (k0_off4_inb i 0)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: sgPads) (Rect.unit (s := S7x1x128) (k0_off4 i 2#32) S1x1x128.size (k0_off4_inb i 1)).toLoadRect)) i) 0 := rfl
/-- The unit of rows 0 … and head group 1. -/
theorem runA_u01 : (krunA.sl.v1847 c i arg2 harg2 arg3 harg3 arg4 harg4 arg5 harg5 arg7 arg13 harg13 arg14 harg14 arg15 harg15 arg16 harg16 x0 x1 x2 x3 s0 s1 s2 s3) = (unit1 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1) ++ kwPads)) arg14 (arg14.view.writes (Elt F) (harg14.unread s1) (vwPieces i (ktile arg4 harg4 x2) ++ vwPads)) (klCat (View.readAt (Elt F) arg15.view (Rect.unit (s := S7x8x128) (k0_off5 i) S1x8x128.size (k0_off5_inb i)).toLoadRect (arg15.view.writes (Elt F) (harg15.unread s2) (klPiece i (smat (xtile arg2 harg2 x0) (ktile arg3 harg3 x1) (ktile arg4 harg4 x2)) :: klPads))) (View.readAt (Elt F) arg15.view (Rect.unit (s := S7x8x128) (k0_off3 i 1#32) S1x8x128.size (k0_off3_inb i 0)).toLoadRect (arg15.view.writes (Elt F) (harg15.unread s2) (klPiece i (smat (xtile arg2 harg2 x0) (ktile arg3 harg3 x1) (ktile arg4 harg4 x2)) :: klPads))) (arg15.view.readCov (klPiece i (smat (xtile arg2 harg2 x0) (ktile arg3 harg3 x1) (ktile arg4 harg4 x2)) :: klPads) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (View.readAt (Elt F) arg16.view (Rect.unit (s := S7x1x128) (k0_off4 i 1#32) S1x1x128.size (k0_off4_inb i 0)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: sgPads) (Rect.unit (s := S7x1x128) (k0_off4 i 2#32) S1x1x128.size (k0_off4_inb i 1)).toLoadRect)) i) 0 := rfl
/-- The unit of rows 32 … and head group 0. -/
theorem runA_u10 : (krunA.sl.v1934 c i arg2 harg2 arg3 harg3 arg4 harg4 arg5 harg5 arg7 arg13 harg13 arg14 harg14 arg15 harg15 arg16 harg16 x0 x1 x2 x3 s0 s1 s2 s3) = (unit0 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1) ++ kwPads)) arg14 (arg14.view.writes (Elt F) (harg14.unread s1) (vwPieces i (ktile arg4 harg4 x2) ++ vwPads)) (klCat (View.readAt (Elt F) arg15.view (Rect.unit (s := S7x8x128) (k0_off5 i) S1x8x128.size (k0_off5_inb i)).toLoadRect (arg15.view.writes (Elt F) (harg15.unread s2) (klPiece i (smat (xtile arg2 harg2 x0) (ktile arg3 harg3 x1) (ktile arg4 harg4 x2)) :: klPads))) (View.readAt (Elt F) arg15.view (Rect.unit (s := S7x8x128) (k0_off3 i 1#32) S1x8x128.size (k0_off3_inb i 0)).toLoadRect (arg15.view.writes (Elt F) (harg15.unread s2) (klPiece i (smat (xtile arg2 harg2 x0) (ktile arg3 harg3 x1) (ktile arg4 harg4 x2)) :: klPads))) (arg15.view.readCov (klPiece i (smat (xtile arg2 harg2 x0) (ktile arg3 harg3 x1) (ktile arg4 harg4 x2)) :: klPads) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (View.readAt (Elt F) arg16.view (Rect.unit (s := S7x1x128) (k0_off4 i 1#32) S1x1x128.size (k0_off4_inb i 0)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: sgPads) (Rect.unit (s := S7x1x128) (k0_off4 i 2#32) S1x1x128.size (k0_off4_inb i 1)).toLoadRect)) i) 1 := rfl
/-- The unit of rows 32 … and head group 1. -/
theorem runA_u11 : (krunA.sl.v2012 c i arg2 harg2 arg3 harg3 arg4 harg4 arg5 harg5 arg7 arg13 harg13 arg14 harg14 arg15 harg15 arg16 harg16 x0 x1 x2 x3 s0 s1 s2 s3) = (unit1 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1) ++ kwPads)) arg14 (arg14.view.writes (Elt F) (harg14.unread s1) (vwPieces i (ktile arg4 harg4 x2) ++ vwPads)) (klCat (View.readAt (Elt F) arg15.view (Rect.unit (s := S7x8x128) (k0_off5 i) S1x8x128.size (k0_off5_inb i)).toLoadRect (arg15.view.writes (Elt F) (harg15.unread s2) (klPiece i (smat (xtile arg2 harg2 x0) (ktile arg3 harg3 x1) (ktile arg4 harg4 x2)) :: klPads))) (View.readAt (Elt F) arg15.view (Rect.unit (s := S7x8x128) (k0_off3 i 1#32) S1x8x128.size (k0_off3_inb i 0)).toLoadRect (arg15.view.writes (Elt F) (harg15.unread s2) (klPiece i (smat (xtile arg2 harg2 x0) (ktile arg3 harg3 x1) (ktile arg4 harg4 x2)) :: klPads))) (arg15.view.readCov (klPiece i (smat (xtile arg2 harg2 x0) (ktile arg3 harg3 x1) (ktile arg4 harg4 x2)) :: klPads) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (View.readAt (Elt F) arg16.view (Rect.unit (s := S7x1x128) (k0_off4 i 1#32) S1x1x128.size (k0_off4_inb i 0)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: sgPads) (Rect.unit (s := S7x1x128) (k0_off4 i 2#32) S1x1x128.size (k0_off4_inb i 1)).toLoadRect)) i) 1 := rfl
/-- The unit of rows 64 … and head group 0. -/
theorem runA_u20 : (krunA.sl.v2099 c i arg2 harg2 arg3 harg3 arg4 harg4 arg5 harg5 arg7 arg13 harg13 arg14 harg14 arg15 harg15 arg16 harg16 x0 x1 x2 x3 s0 s1 s2 s3) = (unit0 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1) ++ kwPads)) arg14 (arg14.view.writes (Elt F) (harg14.unread s1) (vwPieces i (ktile arg4 harg4 x2) ++ vwPads)) (klCat (View.readAt (Elt F) arg15.view (Rect.unit (s := S7x8x128) (k0_off5 i) S1x8x128.size (k0_off5_inb i)).toLoadRect (arg15.view.writes (Elt F) (harg15.unread s2) (klPiece i (smat (xtile arg2 harg2 x0) (ktile arg3 harg3 x1) (ktile arg4 harg4 x2)) :: klPads))) (View.readAt (Elt F) arg15.view (Rect.unit (s := S7x8x128) (k0_off3 i 1#32) S1x8x128.size (k0_off3_inb i 0)).toLoadRect (arg15.view.writes (Elt F) (harg15.unread s2) (klPiece i (smat (xtile arg2 harg2 x0) (ktile arg3 harg3 x1) (ktile arg4 harg4 x2)) :: klPads))) (arg15.view.readCov (klPiece i (smat (xtile arg2 harg2 x0) (ktile arg3 harg3 x1) (ktile arg4 harg4 x2)) :: klPads) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (View.readAt (Elt F) arg16.view (Rect.unit (s := S7x1x128) (k0_off4 i 1#32) S1x1x128.size (k0_off4_inb i 0)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: sgPads) (Rect.unit (s := S7x1x128) (k0_off4 i 2#32) S1x1x128.size (k0_off4_inb i 1)).toLoadRect)) i) 2 := rfl
/-- The unit of rows 64 … and head group 1. -/
theorem runA_u21 : (krunA.sl.v2177 c i arg2 harg2 arg3 harg3 arg4 harg4 arg5 harg5 arg7 arg13 harg13 arg14 harg14 arg15 harg15 arg16 harg16 x0 x1 x2 x3 s0 s1 s2 s3) = (unit1 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1) ++ kwPads)) arg14 (arg14.view.writes (Elt F) (harg14.unread s1) (vwPieces i (ktile arg4 harg4 x2) ++ vwPads)) (klCat (View.readAt (Elt F) arg15.view (Rect.unit (s := S7x8x128) (k0_off5 i) S1x8x128.size (k0_off5_inb i)).toLoadRect (arg15.view.writes (Elt F) (harg15.unread s2) (klPiece i (smat (xtile arg2 harg2 x0) (ktile arg3 harg3 x1) (ktile arg4 harg4 x2)) :: klPads))) (View.readAt (Elt F) arg15.view (Rect.unit (s := S7x8x128) (k0_off3 i 1#32) S1x8x128.size (k0_off3_inb i 0)).toLoadRect (arg15.view.writes (Elt F) (harg15.unread s2) (klPiece i (smat (xtile arg2 harg2 x0) (ktile arg3 harg3 x1) (ktile arg4 harg4 x2)) :: klPads))) (arg15.view.readCov (klPiece i (smat (xtile arg2 harg2 x0) (ktile arg3 harg3 x1) (ktile arg4 harg4 x2)) :: klPads) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (View.readAt (Elt F) arg16.view (Rect.unit (s := S7x1x128) (k0_off4 i 1#32) S1x1x128.size (k0_off4_inb i 0)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: sgPads) (Rect.unit (s := S7x1x128) (k0_off4 i 2#32) S1x1x128.size (k0_off4_inb i 1)).toLoadRect)) i) 2 := rfl
/-- The unit of rows 96 … and head group 0. -/
theorem runA_u30 : (krunA.sl.v2264 c i arg2 harg2 arg3 harg3 arg4 harg4 arg5 harg5 arg7 arg13 harg13 arg14 harg14 arg15 harg15 arg16 harg16 x0 x1 x2 x3 s0 s1 s2 s3) = (unit0 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1) ++ kwPads)) arg14 (arg14.view.writes (Elt F) (harg14.unread s1) (vwPieces i (ktile arg4 harg4 x2) ++ vwPads)) (klCat (View.readAt (Elt F) arg15.view (Rect.unit (s := S7x8x128) (k0_off5 i) S1x8x128.size (k0_off5_inb i)).toLoadRect (arg15.view.writes (Elt F) (harg15.unread s2) (klPiece i (smat (xtile arg2 harg2 x0) (ktile arg3 harg3 x1) (ktile arg4 harg4 x2)) :: klPads))) (View.readAt (Elt F) arg15.view (Rect.unit (s := S7x8x128) (k0_off3 i 1#32) S1x8x128.size (k0_off3_inb i 0)).toLoadRect (arg15.view.writes (Elt F) (harg15.unread s2) (klPiece i (smat (xtile arg2 harg2 x0) (ktile arg3 harg3 x1) (ktile arg4 harg4 x2)) :: klPads))) (arg15.view.readCov (klPiece i (smat (xtile arg2 harg2 x0) (ktile arg3 harg3 x1) (ktile arg4 harg4 x2)) :: klPads) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (View.readAt (Elt F) arg16.view (Rect.unit (s := S7x1x128) (k0_off4 i 1#32) S1x1x128.size (k0_off4_inb i 0)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: sgPads) (Rect.unit (s := S7x1x128) (k0_off4 i 2#32) S1x1x128.size (k0_off4_inb i 1)).toLoadRect)) i) 3 := rfl
/-- The unit of rows 96 … and head group 1. -/
theorem runA_u31 : (mean (krunA.sl.v2328 c i arg2 harg2 arg3 harg3 arg4 harg4 arg5 harg5 arg7 arg13 harg13 arg15 harg15 arg16 harg16 x0 x1 x2 x3 s0 s2 s3) (krunA.sl.v2309 c i arg4 harg4 arg14 harg14 x2 s1)) = (unit1 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1) ++ kwPads)) arg14 (arg14.view.writes (Elt F) (harg14.unread s1) (vwPieces i (ktile arg4 harg4 x2) ++ vwPads)) (klCat (View.readAt (Elt F) arg15.view (Rect.unit (s := S7x8x128) (k0_off5 i) S1x8x128.size (k0_off5_inb i)).toLoadRect (arg15.view.writes (Elt F) (harg15.unread s2) (klPiece i (smat (xtile arg2 harg2 x0) (ktile arg3 harg3 x1) (ktile arg4 harg4 x2)) :: klPads))) (View.readAt (Elt F) arg15.view (Rect.unit (s := S7x8x128) (k0_off3 i 1#32) S1x8x128.size (k0_off3_inb i 0)).toLoadRect (arg15.view.writes (Elt F) (harg15.unread s2) (klPiece i (smat (xtile arg2 harg2 x0) (ktile arg3 harg3 x1) (ktile arg4 harg4 x2)) :: klPads))) (arg15.view.readCov (klPiece i (smat (xtile arg2 harg2 x0) (ktile arg3 harg3 x1) (ktile arg4 harg4 x2)) :: klPads) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (View.readAt (Elt F) arg16.view (Rect.unit (s := S7x1x128) (k0_off4 i 1#32) S1x1x128.size (k0_off4_inb i 0)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: sgPads) (Rect.unit (s := S7x1x128) (k0_off4 i 2#32) S1x1x128.size (k0_off4_inb i 1)).toLoadRect)) i) 3 := rfl
/-- The result, over the run's names for its units. -/
theorem runA_6raw : (krunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).1 = outPieces ![(krunA.sl.v1769 c i arg2 harg2 arg3 harg3 arg4 harg4 arg5 harg5 arg7 arg13 harg13 arg14 harg14 arg15 harg15 arg16 harg16 x0 x1 x2 x3 s0 s1 s2 s3), (krunA.sl.v1934 c i arg2 harg2 arg3 harg3 arg4 harg4 arg5 harg5 arg7 arg13 harg13 arg14 harg14 arg15 harg15 arg16 harg16 x0 x1 x2 x3 s0 s1 s2 s3), (krunA.sl.v2099 c i arg2 harg2 arg3 harg3 arg4 harg4 arg5 harg5 arg7 arg13 harg13 arg14 harg14 arg15 harg15 arg16 harg16 x0 x1 x2 x3 s0 s1 s2 s3), (krunA.sl.v2264 c i arg2 harg2 arg3 harg3 arg4 harg4 arg5 harg5 arg7 arg13 harg13 arg14 harg14 arg15 harg15 arg16 harg16 x0 x1 x2 x3 s0 s1 s2 s3)] ![(krunA.sl.v1847 c i arg2 harg2 arg3 harg3 arg4 harg4 arg5 harg5 arg7 arg13 harg13 arg14 harg14 arg15 harg15 arg16 harg16 x0 x1 x2 x3 s0 s1 s2 s3), (krunA.sl.v2012 c i arg2 harg2 arg3 harg3 arg4 harg4 arg5 harg5 arg7 arg13 harg13 arg14 harg14 arg15 harg15 arg16 harg16 x0 x1 x2 x3 s0 s1 s2 s3), (krunA.sl.v2177 c i arg2 harg2 arg3 harg3 arg4 harg4 arg5 harg5 arg7 arg13 harg13 arg14 harg14 arg15 harg15 arg16 harg16 x0 x1 x2 x3 s0 s1 s2 s3), (mean (krunA.sl.v2328 c i arg2 harg2 arg3 harg3 arg4 harg4 arg5 harg5 arg7 arg13 harg13 arg15 harg15 arg16 harg16 x0 x1 x2 x3 s0 s2 s3) (krunA.sl.v2309 c i arg4 harg4 arg14 harg14 x2 s1))] := rfl
/-- The result. -/
theorem runA_6 : (krunA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).1 = outPieces (unit0 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1) ++ kwPads)) arg14 (arg14.view.writes (Elt F) (harg14.unread s1) (vwPieces i (ktile arg4 harg4 x2) ++ vwPads)) (klCat (View.readAt (Elt F) arg15.view (Rect.unit (s := S7x8x128) (k0_off5 i) S1x8x128.size (k0_off5_inb i)).toLoadRect (arg15.view.writes (Elt F) (harg15.unread s2) (klPiece i (smat (xtile arg2 harg2 x0) (ktile arg3 harg3 x1) (ktile arg4 harg4 x2)) :: klPads))) (View.readAt (Elt F) arg15.view (Rect.unit (s := S7x8x128) (k0_off3 i 1#32) S1x8x128.size (k0_off3_inb i 0)).toLoadRect (arg15.view.writes (Elt F) (harg15.unread s2) (klPiece i (smat (xtile arg2 harg2 x0) (ktile arg3 harg3 x1) (ktile arg4 harg4 x2)) :: klPads))) (arg15.view.readCov (klPiece i (smat (xtile arg2 harg2 x0) (ktile arg3 harg3 x1) (ktile arg4 harg4 x2)) :: klPads) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (View.readAt (Elt F) arg16.view (Rect.unit (s := S7x1x128) (k0_off4 i 1#32) S1x1x128.size (k0_off4_inb i 0)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: sgPads) (Rect.unit (s := S7x1x128) (k0_off4 i 2#32) S1x1x128.size (k0_off4_inb i 1)).toLoadRect)) i) (unit1 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1) ++ kwPads)) arg14 (arg14.view.writes (Elt F) (harg14.unread s1) (vwPieces i (ktile arg4 harg4 x2) ++ vwPads)) (klCat (View.readAt (Elt F) arg15.view (Rect.unit (s := S7x8x128) (k0_off5 i) S1x8x128.size (k0_off5_inb i)).toLoadRect (arg15.view.writes (Elt F) (harg15.unread s2) (klPiece i (smat (xtile arg2 harg2 x0) (ktile arg3 harg3 x1) (ktile arg4 harg4 x2)) :: klPads))) (View.readAt (Elt F) arg15.view (Rect.unit (s := S7x8x128) (k0_off3 i 1#32) S1x8x128.size (k0_off3_inb i 0)).toLoadRect (arg15.view.writes (Elt F) (harg15.unread s2) (klPiece i (smat (xtile arg2 harg2 x0) (ktile arg3 harg3 x1) (ktile arg4 harg4 x2)) :: klPads))) (arg15.view.readCov (klPiece i (smat (xtile arg2 harg2 x0) (ktile arg3 harg3 x1) (ktile arg4 harg4 x2)) :: klPads) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (View.readAt (Elt F) arg16.view (Rect.unit (s := S7x1x128) (k0_off4 i 1#32) S1x1x128.size (k0_off4_inb i 0)).toLoadRect (arg16.view.writes (Elt F) (harg16.unread s3) (sgPiece i (View.readAt (Elt F) arg5.view (Rect.unit (s := S1x1x1x128) ![0, 0, 0, 0] S1x1x1x128.size inb_S1x1x1x128_S1x1x1x128_0_0_0_0).toLoadRect (harg5.unread x3)) :: sgPads))) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: sgPads) (Rect.unit (s := S7x1x128) (k0_off4 i 2#32) S1x1x128.size (k0_off4_inb i 1)).toLoadRect)) i) := by
  rw [runA_6raw]
  congr 1
  · funext j
    fin_cases j
    · exact runA_u00 c i arg2 harg2 arg3 harg3 arg4 harg4 arg5 harg5 arg7 arg13 harg13 arg14 harg14 arg15 harg15 arg16 harg16 x0 x1 x2 x3 s0 s1 s2 s3
    · exact runA_u10 c i arg2 harg2 arg3 harg3 arg4 harg4 arg5 harg5 arg7 arg13 harg13 arg14 harg14 arg15 harg15 arg16 harg16 x0 x1 x2 x3 s0 s1 s2 s3
    · exact runA_u20 c i arg2 harg2 arg3 harg3 arg4 harg4 arg5 harg5 arg7 arg13 harg13 arg14 harg14 arg15 harg15 arg16 harg16 x0 x1 x2 x3 s0 s1 s2 s3
    · exact runA_u30 c i arg2 harg2 arg3 harg3 arg4 harg4 arg5 harg5 arg7 arg13 harg13 arg14 harg14 arg15 harg15 arg16 harg16 x0 x1 x2 x3 s0 s1 s2 s3
  · funext j
    fin_cases j
    · exact runA_u01 c i arg2 harg2 arg3 harg3 arg4 harg4 arg5 harg5 arg7 arg13 harg13 arg14 harg14 arg15 harg15 arg16 harg16 x0 x1 x2 x3 s0 s1 s2 s3
    · exact runA_u11 c i arg2 harg2 arg3 harg3 arg4 harg4 arg5 harg5 arg7 arg13 harg13 arg14 harg14 arg15 harg15 arg16 harg16 x0 x1 x2 x3 s0 s1 s2 s3
    · exact runA_u21 c i arg2 harg2 arg3 harg3 arg4 harg4 arg5 harg5 arg7 arg13 harg13 arg14 harg14 arg15 harg15 arg16 harg16 x0 x1 x2 x3 s0 s1 s2 s3
    · exact runA_u31 c i arg2 harg2 arg3 harg3 arg4 harg4 arg5 harg5 arg7 arg13 harg13 arg14 harg14 arg15 harg15 arg16 harg16 x0 x1 x2 x3 s0 s1 s2 s3

end

end Cert.KernelIdeal.Voc

end
-- ==== Proof.KernelRunB.lean ====
module

public import proofs.«01_k».proof.Proof.KernelRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1972000 in
/-- The body's run where `scf.if` 0 is not taken: from the inputs' blocks `x·` and the scratch at `s·` it runs to the continuation,
    each output and each scratch holding the stores listed here over what it held. -/
def krunB (c : Dev nD) (i : grid0.Coords) (arg2 : Memref sig .tc .vmem S1x128x2560 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x1x128 .i32) (harg5 : arg5.IsWhole) (arg6 : Memref sig .tc .vmem S1x128x2560 .bf16) (harg6 : arg6.IsWhole) (arg7 : Memref sig .tc .vmem S1x10x128x256 .fp8e4m3) (harg7 : arg7.IsWhole) (arg8 : Memref sig .tc .vmem S1x10x128 .f32) (harg8 : arg8.IsWhole) (arg9 : Memref sig .tc .vmem S1x2x128x256 .fp8e4m3) (harg9 : arg9.IsWhole) (arg10 : Memref sig .tc .vmem S1x2x128 .f32) (harg10 : arg10.IsWhole) (arg11 : Memref sig .tc .vmem S1x2x128x256 .fp8e4m3) (harg11 : arg11.IsWhole) (arg12 : Memref sig .tc .vmem S1x2x128 .f32) (harg12 : arg12.IsWhole) (arg13 : Memref sig .tc .vmem S2x896x256 .fp8e4m3) (harg13 : arg13.IsWhole) (arg14 : Memref sig .tc .vmem S2x896x256 .bf16) (harg14 : arg14.IsWhole) (arg15 : Memref sig .tc .vmem S7x8x128 .f32) (harg15 : arg15.IsWhole) (arg16 : Memref sig .tc .vmem S7x1x128 .i32) (harg16 : arg16.IsWhole) (hc0 : ¬cond0_0 i)
    (x0 : Vec F S1x128x2560 .bf16) (x1 : Vec F S1x128x512 .bf16) (x2 : Vec F S1x128x512 .bf16) (x3 : Vec F S1x1x1x128 .i32)
    (s0 : Vec F S2x896x256 .fp8e4m3) (s1 : Vec F S2x896x256 .bf16) (s2 : Vec F S7x8x128 .f32) (s3 : Vec F S7x1x128 .i32) :
    Σ' (L6 : List (View.Piece (Elt F) S1x128x2560 .bf16)), Σ' (L7 : List (View.Piece (Elt F) S1x10x128x256 .fp8e4m3)), Σ' (L8 : List (View.Piece (Elt F) S1x10x128 .f32)), Σ' (L9 : List (View.Piece (Elt F) S1x2x128x256 .fp8e4m3)), Σ' (L10 : List (View.Piece (Elt F) S1x2x128 .f32)), Σ' (L11 : List (View.Piece (Elt F) S1x2x128x256 .fp8e4m3)), Σ' (L12 : List (View.Piece (Elt F) S1x2x128 .f32)), Σ' (L13 : List (View.Piece (Elt F) S2x896x256 .fp8e4m3)), Σ' (L14 : List (View.Piece (Elt F) S2x896x256 .bf16)), Σ' (L15 : List (View.Piece (Elt F) S7x8x128 .f32)),
    { L16 : List (View.Piece (Elt F) S7x1x128 .i32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s0 ∗ owns (c : Thread nD τ) arg14 fullShare s1 ∗ owns (c : Thread nD τ) arg15 fullShare s2 ∗ owns (c : Thread nD τ) arg16 fullShare s3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, owns (c : Thread nD τ) arg6 fullShare (arg6.view.read (Elt F) (arg6.view.writes (Elt F) f L6))) ∗ (∃ f, owns (c : Thread nD τ) arg7 fullShare (arg7.view.read (Elt F) (arg7.view.writes (Elt F) f L7))) ∗ (∃ f, owns (c : Thread nD τ) arg8 fullShare (arg8.view.read (Elt F) (arg8.view.writes (Elt F) f L8))) ∗ (∃ f, owns (c : Thread nD τ) arg9 fullShare (arg9.view.read (Elt F) (arg9.view.writes (Elt F) f L9))) ∗ (∃ f, owns (c : Thread nD τ) arg10 fullShare (arg10.view.read (Elt F) (arg10.view.writes (Elt F) f L10))) ∗ (∃ f, owns (c : Thread nD τ) arg11 fullShare (arg11.view.read (Elt F) (arg11.view.writes (Elt F) f L11))) ∗ (∃ f, owns (c : Thread nD τ) arg12 fullShare (arg12.view.read (Elt F) (arg12.view.writes (Elt F) f L12))) ∗ owns (c : Thread nD τ) arg13 fullShare (arg13.view.read (Elt F) (arg13.view.writes (Elt F) (harg13.unread s0) L13)) ∗ owns (c : Thread nD τ) arg14 fullShare (arg14.view.read (Elt F) (arg14.view.writes (Elt F) (harg14.unread s1) L14)) ∗ owns (c : Thread nD τ) arg15 fullShare (arg15.view.read (Elt F) (arg15.view.writes (Elt F) (harg15.unread s2) L15)) ∗ owns (c : Thread nD τ) arg16 fullShare (arg16.view.read (Elt F) (arg16.view.writes (Elt F) (harg16.unread s3) L16))) -∗ K ⟨⟩))
          ⊢ wp frame (wpE (defs₀ (F := F)) Variants.none c none) E (cc0_packed_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
    refine ⟨?_, ?_, ?_, ?_, ?_, ?_, ?_, ?_, ?_, ?_, ?_, ?_⟩
    rotate_left 11
    · intro E K
      simp only [cc0_packed_attention_eq_skeleton]; unfold cc0_packed_attention_skel
      simp only [k0_part56_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
      unfold owns
      iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%fs0, %hs0, HS0⟩, ⟨%fs1, %hs1, HS1⟩, ⟨%fs2, %hs2, HS2⟩, ⟨%fs3, %hs3, HS3⟩, Hk⟩
      obtain rfl := harg2.eq_unread hf0; obtain rfl := harg3.eq_unread hf1; obtain rfl := harg4.eq_unread hf2; obtain rfl := harg5.eq_unread hf3; obtain rfl := harg13.eq_unread hs0; obtain rfl := harg14.eq_unread hs1; obtain rfl := harg15.eq_unread hs2; obtain rfl := harg16.eq_unread hs3
      sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists f4, _; isplitr; swap; · iexact H4
        ipureintro; rfl
      isplitl [H5]
      · iexists f5, _; isplitr; swap; · iexact H5
        ipureintro; rfl
      isplitl [H6]
      · iexists f6, _; isplitr; swap; · iexact H6
        ipureintro; rfl
      isplitl [H7]
      · iexists f7, _; isplitr; swap; · iexact H7
        ipureintro; rfl
      isplitl [H8]
      · iexists f8, _; isplitr; swap; · iexact H8
        ipureintro; rfl
      isplitl [H9]
      · iexists f9, _; isplitr; swap; · iexact H9
        ipureintro; rfl
      isplitl [H10]
      · iexists f10, _; isplitr; swap; · iexact H10
        ipureintro; rfl
      isplitl [HS0]
      · iexists _; isplitr; swap; · iexact HS0
        ipureintro; rfl
      isplitl [HS1]
      · iexists _; isplitr; swap; · iexact HS1
        ipureintro; rfl
      isplitl [HS2]
      · iexists _; isplitr; swap; · iexact HS2
        ipureintro; rfl
      iexists _; isplitr; swap; · iexact HS3
      ipureintro; rfl

end Cert.KernelIdeal.Gen

end
-- ==== Proof.BridgeB.lean ====
module

public import proofs.«01_k».proof.Proof.Vocab
public import proofs.«01_k».proof.Proof.KernelRunB

/-! The stores of the body's run, case B, in the vocabulary's names. -/

@[expose] public section

set_option maxRecDepth 16384

noncomputable section

namespace Cert.KernelIdeal.Voc

open Idealize.ShloMosaic Cert.KernelIdeal Cert.KernelIdeal.Gen

variable {F : FTy → Type} [FloatOps F] [Named F]

section
variable (c : Dev nD) (i : grid0.Coords) (arg2 : Memref sig .tc .vmem S1x128x2560 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x1x128 .i32) (harg5 : arg5.IsWhole) (arg6 : Memref sig .tc .vmem S1x128x2560 .bf16) (harg6 : arg6.IsWhole) (arg7 : Memref sig .tc .vmem S1x10x128x256 .fp8e4m3) (harg7 : arg7.IsWhole) (arg8 : Memref sig .tc .vmem S1x10x128 .f32) (harg8 : arg8.IsWhole) (arg9 : Memref sig .tc .vmem S1x2x128x256 .fp8e4m3) (harg9 : arg9.IsWhole) (arg10 : Memref sig .tc .vmem S1x2x128 .f32) (harg10 : arg10.IsWhole) (arg11 : Memref sig .tc .vmem S1x2x128x256 .fp8e4m3) (harg11 : arg11.IsWhole) (arg12 : Memref sig .tc .vmem S1x2x128 .f32) (harg12 : arg12.IsWhole) (arg13 : Memref sig .tc .vmem S2x896x256 .fp8e4m3) (harg13 : arg13.IsWhole) (arg14 : Memref sig .tc .vmem S2x896x256 .bf16) (harg14 : arg14.IsWhole) (arg15 : Memref sig .tc .vmem S7x8x128 .f32) (harg15 : arg15.IsWhole) (arg16 : Memref sig .tc .vmem S7x1x128 .i32) (harg16 : arg16.IsWhole) (hc0 : ¬ cond0_0 i) (x0 : Vec F S1x128x2560 .bf16) (x1 : Vec F S1x128x512 .bf16) (x2 : Vec F S1x128x512 .bf16) (x3 : Vec F S1x1x1x128 .i32) (s0 : Vec F S2x896x256 .fp8e4m3) (s1 : Vec F S2x896x256 .bf16) (s2 : Vec F S7x8x128 .f32) (s3 : Vec F S7x1x128 .i32)

/-- The queries' codes. -/
theorem runB_7 : (krunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.1 = qPieces (xtile arg2 harg2 x0) := rfl
/-- The queries' scales. -/
theorem runB_8 : (krunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.1 = [⟨Rect.unit (s := S1x10x128) ![0, 0, 0] S1x10x128.size inb_S1x10x128_S1x10x128_0_0_0, shapeCast S1x10x128 (extractStridedSlice S10x128 ![4, 0] (smat (xtile arg2 harg2 x0) (ktile arg3 harg3 x1) (ktile arg4 harg4 x2)) slices_S128x128_o4_0_S10x128) shapeCasts_S10x128_S1x10x128⟩] := rfl
/-- The keys' codes. -/
theorem runB_9 : (krunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.2.1 = kPieces (ktile arg3 harg3 x1) := rfl
/-- The keys' scales. -/
theorem runB_10 : (krunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.2.2.1 = [⟨Rect.unit (s := S1x2x128) ![0, 0, 0] S1x2x128.size inb_S1x2x128_S1x2x128_0_0_0, shapeCast S1x2x128 (extractStridedSlice S2x128 ![0, 0] (smat (xtile arg2 harg2 x0) (ktile arg3 harg3 x1) (ktile arg4 harg4 x2)) slices_S128x128_o0_0_S2x128) shapeCasts_S2x128_S1x2x128⟩] := rfl
/-- The values' codes. -/
theorem runB_11 : (krunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.2.2.2.1 = kPieces (ktile arg4 harg4 x2) := rfl
/-- The values' scales. -/
theorem runB_12 : (krunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.2.2.2.2.1 = [⟨Rect.unit (s := S1x2x128) ![0, 0, 0] S1x2x128.size inb_S1x2x128_S1x2x128_0_0_0, shapeCast S1x2x128 (extractStridedSlice S2x128 ![2, 0] (smat (xtile arg2 harg2 x0) (ktile arg3 harg3 x1) (ktile arg4 harg4 x2)) slices_S128x128_o2_0_S2x128) shapeCasts_S2x128_S1x2x128⟩] := rfl
/-- The keys' window buffer. -/
theorem runB_13 : (krunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.2.2.2.2.2.1 = (kwPieces i (ktile arg3 harg3 x1)) := rfl
/-- The values' window buffer. -/
theorem runB_14 : (krunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.2.2.2.2.2.2.1 = (vwPieces i (ktile arg4 harg4 x2)) := rfl
/-- The key scales' buffer. -/
theorem runB_15 : (krunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.2.2.2.2.2.2.2.1 = (klPiece i (smat (xtile arg2 harg2 x0) (ktile arg3 harg3 x1) (ktile arg4 harg4 x2)) :: []) := rfl
/-- The document numbers' buffer. -/
theorem runB_16 : (krunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).2.2.2.2.2.2.2.2.2.2.1 = (sgPiece i (View.readAt (Elt F) arg5.view (Rect.unit (s := S1x1x1x128) ![0, 0, 0, 0] S1x1x1x128.size inb_S1x1x1x128_S1x1x1x128_0_0_0_0).toLoadRect (harg5.unread x3)) :: []) := rfl
/-- The unit of rows 0 … and head group 0. -/
theorem runB_u00 : (krunB.sl.v1769 c i arg2 harg2 arg3 harg3 arg4 harg4 arg5 harg5 arg7 arg13 harg13 arg14 harg14 arg15 harg15 arg16 harg16 x0 x1 x2 x3 s0 s1 s2 s3) = (unit0 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1))) arg14 (arg14.view.writes (Elt F) (harg14.unread s1) (vwPieces i (ktile arg4 harg4 x2))) (klCat (View.readAt (Elt F) arg15.view (Rect.unit (s := S7x8x128) (k0_off5 i) S1x8x128.size (k0_off5_inb i)).toLoadRect (harg15.unread s2)) (View.readAt (Elt F) arg15.view (Rect.unit (s := S7x8x128) (k0_off3 i 1#32) S1x8x128.size (k0_off3_inb i 0)).toLoadRect (harg15.unread s2)) (arg15.view.readCov (klPiece i (smat (xtile arg2 harg2 x0) (ktile arg3 harg3 x1) (ktile arg4 harg4 x2)) :: []) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (harg16.unread s3)) (View.readAt (Elt F) arg16.view (Rect.unit (s := S7x1x128) (k0_off4 i 1#32) S1x1x128.size (k0_off4_inb i 0)).toLoadRect (harg16.unread s3)) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: []) (Rect.unit (s := S7x1x128) (k0_off4 i 2#32) S1x1x128.size (k0_off4_inb i 1)).toLoadRect)) i) 0 := rfl
/-- The unit of rows 0 … and head group 1. -/
theorem runB_u01 : (krunB.sl.v1847 c i arg2 harg2 arg3 harg3 arg4 harg4 arg5 harg5 arg7 arg13 harg13 arg14 harg14 arg15 harg15 arg16 harg16 x0 x1 x2 x3 s0 s1 s2 s3) = (unit1 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1))) arg14 (arg14.view.writes (Elt F) (harg14.unread s1) (vwPieces i (ktile arg4 harg4 x2))) (klCat (View.readAt (Elt F) arg15.view (Rect.unit (s := S7x8x128) (k0_off5 i) S1x8x128.size (k0_off5_inb i)).toLoadRect (harg15.unread s2)) (View.readAt (Elt F) arg15.view (Rect.unit (s := S7x8x128) (k0_off3 i 1#32) S1x8x128.size (k0_off3_inb i 0)).toLoadRect (harg15.unread s2)) (arg15.view.readCov (klPiece i (smat (xtile arg2 harg2 x0) (ktile arg3 harg3 x1) (ktile arg4 harg4 x2)) :: []) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (harg16.unread s3)) (View.readAt (Elt F) arg16.view (Rect.unit (s := S7x1x128) (k0_off4 i 1#32) S1x1x128.size (k0_off4_inb i 0)).toLoadRect (harg16.unread s3)) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: []) (Rect.unit (s := S7x1x128) (k0_off4 i 2#32) S1x1x128.size (k0_off4_inb i 1)).toLoadRect)) i) 0 := rfl
/-- The unit of rows 32 … and head group 0. -/
theorem runB_u10 : (krunB.sl.v1934 c i arg2 harg2 arg3 harg3 arg4 harg4 arg5 harg5 arg7 arg13 harg13 arg14 harg14 arg15 harg15 arg16 harg16 x0 x1 x2 x3 s0 s1 s2 s3) = (unit0 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1))) arg14 (arg14.view.writes (Elt F) (harg14.unread s1) (vwPieces i (ktile arg4 harg4 x2))) (klCat (View.readAt (Elt F) arg15.view (Rect.unit (s := S7x8x128) (k0_off5 i) S1x8x128.size (k0_off5_inb i)).toLoadRect (harg15.unread s2)) (View.readAt (Elt F) arg15.view (Rect.unit (s := S7x8x128) (k0_off3 i 1#32) S1x8x128.size (k0_off3_inb i 0)).toLoadRect (harg15.unread s2)) (arg15.view.readCov (klPiece i (smat (xtile arg2 harg2 x0) (ktile arg3 harg3 x1) (ktile arg4 harg4 x2)) :: []) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (harg16.unread s3)) (View.readAt (Elt F) arg16.view (Rect.unit (s := S7x1x128) (k0_off4 i 1#32) S1x1x128.size (k0_off4_inb i 0)).toLoadRect (harg16.unread s3)) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: []) (Rect.unit (s := S7x1x128) (k0_off4 i 2#32) S1x1x128.size (k0_off4_inb i 1)).toLoadRect)) i) 1 := rfl
/-- The unit of rows 32 … and head group 1. -/
theorem runB_u11 : (krunB.sl.v2012 c i arg2 harg2 arg3 harg3 arg4 harg4 arg5 harg5 arg7 arg13 harg13 arg14 harg14 arg15 harg15 arg16 harg16 x0 x1 x2 x3 s0 s1 s2 s3) = (unit1 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1))) arg14 (arg14.view.writes (Elt F) (harg14.unread s1) (vwPieces i (ktile arg4 harg4 x2))) (klCat (View.readAt (Elt F) arg15.view (Rect.unit (s := S7x8x128) (k0_off5 i) S1x8x128.size (k0_off5_inb i)).toLoadRect (harg15.unread s2)) (View.readAt (Elt F) arg15.view (Rect.unit (s := S7x8x128) (k0_off3 i 1#32) S1x8x128.size (k0_off3_inb i 0)).toLoadRect (harg15.unread s2)) (arg15.view.readCov (klPiece i (smat (xtile arg2 harg2 x0) (ktile arg3 harg3 x1) (ktile arg4 harg4 x2)) :: []) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (harg16.unread s3)) (View.readAt (Elt F) arg16.view (Rect.unit (s := S7x1x128) (k0_off4 i 1#32) S1x1x128.size (k0_off4_inb i 0)).toLoadRect (harg16.unread s3)) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: []) (Rect.unit (s := S7x1x128) (k0_off4 i 2#32) S1x1x128.size (k0_off4_inb i 1)).toLoadRect)) i) 1 := rfl
/-- The unit of rows 64 … and head group 0. -/
theorem runB_u20 : (krunB.sl.v2099 c i arg2 harg2 arg3 harg3 arg4 harg4 arg5 harg5 arg7 arg13 harg13 arg14 harg14 arg15 harg15 arg16 harg16 x0 x1 x2 x3 s0 s1 s2 s3) = (unit0 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1))) arg14 (arg14.view.writes (Elt F) (harg14.unread s1) (vwPieces i (ktile arg4 harg4 x2))) (klCat (View.readAt (Elt F) arg15.view (Rect.unit (s := S7x8x128) (k0_off5 i) S1x8x128.size (k0_off5_inb i)).toLoadRect (harg15.unread s2)) (View.readAt (Elt F) arg15.view (Rect.unit (s := S7x8x128) (k0_off3 i 1#32) S1x8x128.size (k0_off3_inb i 0)).toLoadRect (harg15.unread s2)) (arg15.view.readCov (klPiece i (smat (xtile arg2 harg2 x0) (ktile arg3 harg3 x1) (ktile arg4 harg4 x2)) :: []) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (harg16.unread s3)) (View.readAt (Elt F) arg16.view (Rect.unit (s := S7x1x128) (k0_off4 i 1#32) S1x1x128.size (k0_off4_inb i 0)).toLoadRect (harg16.unread s3)) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: []) (Rect.unit (s := S7x1x128) (k0_off4 i 2#32) S1x1x128.size (k0_off4_inb i 1)).toLoadRect)) i) 2 := rfl
/-- The unit of rows 64 … and head group 1. -/
theorem runB_u21 : (krunB.sl.v2177 c i arg2 harg2 arg3 harg3 arg4 harg4 arg5 harg5 arg7 arg13 harg13 arg14 harg14 arg15 harg15 arg16 harg16 x0 x1 x2 x3 s0 s1 s2 s3) = (unit1 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1))) arg14 (arg14.view.writes (Elt F) (harg14.unread s1) (vwPieces i (ktile arg4 harg4 x2))) (klCat (View.readAt (Elt F) arg15.view (Rect.unit (s := S7x8x128) (k0_off5 i) S1x8x128.size (k0_off5_inb i)).toLoadRect (harg15.unread s2)) (View.readAt (Elt F) arg15.view (Rect.unit (s := S7x8x128) (k0_off3 i 1#32) S1x8x128.size (k0_off3_inb i 0)).toLoadRect (harg15.unread s2)) (arg15.view.readCov (klPiece i (smat (xtile arg2 harg2 x0) (ktile arg3 harg3 x1) (ktile arg4 harg4 x2)) :: []) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (harg16.unread s3)) (View.readAt (Elt F) arg16.view (Rect.unit (s := S7x1x128) (k0_off4 i 1#32) S1x1x128.size (k0_off4_inb i 0)).toLoadRect (harg16.unread s3)) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: []) (Rect.unit (s := S7x1x128) (k0_off4 i 2#32) S1x1x128.size (k0_off4_inb i 1)).toLoadRect)) i) 2 := rfl
/-- The unit of rows 96 … and head group 0. -/
theorem runB_u30 : (krunB.sl.v2264 c i arg2 harg2 arg3 harg3 arg4 harg4 arg5 harg5 arg7 arg13 harg13 arg14 harg14 arg15 harg15 arg16 harg16 x0 x1 x2 x3 s0 s1 s2 s3) = (unit0 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1))) arg14 (arg14.view.writes (Elt F) (harg14.unread s1) (vwPieces i (ktile arg4 harg4 x2))) (klCat (View.readAt (Elt F) arg15.view (Rect.unit (s := S7x8x128) (k0_off5 i) S1x8x128.size (k0_off5_inb i)).toLoadRect (harg15.unread s2)) (View.readAt (Elt F) arg15.view (Rect.unit (s := S7x8x128) (k0_off3 i 1#32) S1x8x128.size (k0_off3_inb i 0)).toLoadRect (harg15.unread s2)) (arg15.view.readCov (klPiece i (smat (xtile arg2 harg2 x0) (ktile arg3 harg3 x1) (ktile arg4 harg4 x2)) :: []) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (harg16.unread s3)) (View.readAt (Elt F) arg16.view (Rect.unit (s := S7x1x128) (k0_off4 i 1#32) S1x1x128.size (k0_off4_inb i 0)).toLoadRect (harg16.unread s3)) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: []) (Rect.unit (s := S7x1x128) (k0_off4 i 2#32) S1x1x128.size (k0_off4_inb i 1)).toLoadRect)) i) 3 := rfl
/-- The unit of rows 96 … and head group 1. -/
theorem runB_u31 : (mean (krunB.sl.v2328 c i arg2 harg2 arg3 harg3 arg4 harg4 arg5 harg5 arg7 arg13 harg13 arg15 harg15 arg16 harg16 x0 x1 x2 x3 s0 s2 s3) (krunB.sl.v2309 c i arg4 harg4 arg14 harg14 x2 s1)) = (unit1 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1))) arg14 (arg14.view.writes (Elt F) (harg14.unread s1) (vwPieces i (ktile arg4 harg4 x2))) (klCat (View.readAt (Elt F) arg15.view (Rect.unit (s := S7x8x128) (k0_off5 i) S1x8x128.size (k0_off5_inb i)).toLoadRect (harg15.unread s2)) (View.readAt (Elt F) arg15.view (Rect.unit (s := S7x8x128) (k0_off3 i 1#32) S1x8x128.size (k0_off3_inb i 0)).toLoadRect (harg15.unread s2)) (arg15.view.readCov (klPiece i (smat (xtile arg2 harg2 x0) (ktile arg3 harg3 x1) (ktile arg4 harg4 x2)) :: []) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (harg16.unread s3)) (View.readAt (Elt F) arg16.view (Rect.unit (s := S7x1x128) (k0_off4 i 1#32) S1x1x128.size (k0_off4_inb i 0)).toLoadRect (harg16.unread s3)) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: []) (Rect.unit (s := S7x1x128) (k0_off4 i 2#32) S1x1x128.size (k0_off4_inb i 1)).toLoadRect)) i) 3 := rfl
/-- The result, over the run's names for its units. -/
theorem runB_6raw : (krunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).1 = outPieces ![(krunB.sl.v1769 c i arg2 harg2 arg3 harg3 arg4 harg4 arg5 harg5 arg7 arg13 harg13 arg14 harg14 arg15 harg15 arg16 harg16 x0 x1 x2 x3 s0 s1 s2 s3), (krunB.sl.v1934 c i arg2 harg2 arg3 harg3 arg4 harg4 arg5 harg5 arg7 arg13 harg13 arg14 harg14 arg15 harg15 arg16 harg16 x0 x1 x2 x3 s0 s1 s2 s3), (krunB.sl.v2099 c i arg2 harg2 arg3 harg3 arg4 harg4 arg5 harg5 arg7 arg13 harg13 arg14 harg14 arg15 harg15 arg16 harg16 x0 x1 x2 x3 s0 s1 s2 s3), (krunB.sl.v2264 c i arg2 harg2 arg3 harg3 arg4 harg4 arg5 harg5 arg7 arg13 harg13 arg14 harg14 arg15 harg15 arg16 harg16 x0 x1 x2 x3 s0 s1 s2 s3)] ![(krunB.sl.v1847 c i arg2 harg2 arg3 harg3 arg4 harg4 arg5 harg5 arg7 arg13 harg13 arg14 harg14 arg15 harg15 arg16 harg16 x0 x1 x2 x3 s0 s1 s2 s3), (krunB.sl.v2012 c i arg2 harg2 arg3 harg3 arg4 harg4 arg5 harg5 arg7 arg13 harg13 arg14 harg14 arg15 harg15 arg16 harg16 x0 x1 x2 x3 s0 s1 s2 s3), (krunB.sl.v2177 c i arg2 harg2 arg3 harg3 arg4 harg4 arg5 harg5 arg7 arg13 harg13 arg14 harg14 arg15 harg15 arg16 harg16 x0 x1 x2 x3 s0 s1 s2 s3), (mean (krunB.sl.v2328 c i arg2 harg2 arg3 harg3 arg4 harg4 arg5 harg5 arg7 arg13 harg13 arg15 harg15 arg16 harg16 x0 x1 x2 x3 s0 s2 s3) (krunB.sl.v2309 c i arg4 harg4 arg14 harg14 x2 s1))] := rfl
/-- The result. -/
theorem runB_6 : (krunB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 s0 s1 s2 s3).1 = outPieces (unit0 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1))) arg14 (arg14.view.writes (Elt F) (harg14.unread s1) (vwPieces i (ktile arg4 harg4 x2))) (klCat (View.readAt (Elt F) arg15.view (Rect.unit (s := S7x8x128) (k0_off5 i) S1x8x128.size (k0_off5_inb i)).toLoadRect (harg15.unread s2)) (View.readAt (Elt F) arg15.view (Rect.unit (s := S7x8x128) (k0_off3 i 1#32) S1x8x128.size (k0_off3_inb i 0)).toLoadRect (harg15.unread s2)) (arg15.view.readCov (klPiece i (smat (xtile arg2 harg2 x0) (ktile arg3 harg3 x1) (ktile arg4 harg4 x2)) :: []) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (harg16.unread s3)) (View.readAt (Elt F) arg16.view (Rect.unit (s := S7x1x128) (k0_off4 i 1#32) S1x1x128.size (k0_off4_inb i 0)).toLoadRect (harg16.unread s3)) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: []) (Rect.unit (s := S7x1x128) (k0_off4 i 2#32) S1x1x128.size (k0_off4_inb i 1)).toLoadRect)) i) (unit1 arg7 (xtile arg2 harg2 x0) (View.readAt (Elt F) arg5.view (Rect.unit (s := S1x1x1x128) ![0, 0, 0, 0] S1x1x1x128.size inb_S1x1x1x128_S1x1x1x128_0_0_0_0).toLoadRect (harg5.unread x3)) arg13 (arg13.view.writes (Elt F) (harg13.unread s0) (kwPieces i (ktile arg3 harg3 x1))) arg14 (arg14.view.writes (Elt F) (harg14.unread s1) (vwPieces i (ktile arg4 harg4 x2))) (klCat (View.readAt (Elt F) arg15.view (Rect.unit (s := S7x8x128) (k0_off5 i) S1x8x128.size (k0_off5_inb i)).toLoadRect (harg15.unread s2)) (View.readAt (Elt F) arg15.view (Rect.unit (s := S7x8x128) (k0_off3 i 1#32) S1x8x128.size (k0_off3_inb i 0)).toLoadRect (harg15.unread s2)) (arg15.view.readCov (klPiece i (smat (xtile arg2 harg2 x0) (ktile arg3 harg3 x1) (ktile arg4 harg4 x2)) :: []) (Rect.unit (s := S7x8x128) (k0_off3 i 2#32) S1x8x128.size (k0_off3_inb i 1)).toLoadRect)) (sgCat (View.readAt (Elt F) arg16.view (Rect.unit (s := S7x1x128) (k0_off6 i) S1x1x128.size (k0_off6_inb i)).toLoadRect (harg16.unread s3)) (View.readAt (Elt F) arg16.view (Rect.unit (s := S7x1x128) (k0_off4 i 1#32) S1x1x128.size (k0_off4_inb i 0)).toLoadRect (harg16.unread s3)) (arg16.view.readCov (Val := Elt F) (sgPiece i (View.readAt (Elt F) arg5.view (Rect.unit (s := S1x1x1x128) ![0, 0, 0, 0] S1x1x1x128.size inb_S1x1x1x128_S1x1x1x128_0_0_0_0).toLoadRect (harg5.unread x3)) :: []) (Rect.unit (s := S7x1x128) (k0_off4 i 2#32) S1x1x128.size (k0_off4_inb i 1)).toLoadRect)) i) := by
  rw [runB_6raw]
  congr 1
  · funext j
    fin_cases j
    · exact runB_u00 c i arg2 harg2 arg3 harg3 arg4 harg4 arg5 harg5 arg7 arg13 harg13 arg14 harg14 arg15 harg15 arg16 harg16 x0 x1 x2 x3 s0 s1 s2 s3
    · exact runB_u10 c i arg2 harg2 arg3 harg3 arg4 harg4 arg5 harg5 arg7 arg13 harg13 arg14 harg14 arg15 harg15 arg16 harg16 x0 x1 x2 x3 s0 s1 s2 s3
    · exact runB_u20 c i arg2 harg2 arg3 harg3 arg4 harg4 arg5 harg5 arg7 arg13 harg13 arg14 harg14 arg15 harg15 arg16 harg16 x0 x1 x2 x3 s0 s1 s2 s3
    · exact runB_u30 c i arg2 harg2 arg3 harg3 arg4 harg4 arg5 harg5 arg7 arg13 harg13 arg14 harg14 arg15 harg15 arg16 harg16 x0 x1 x2 x3 s0 s1 s2 s3
  · funext j
    fin_cases j
    · exact runB_u01 c i arg2 harg2 arg3 harg3 arg4 harg4 arg5 harg5 arg7 arg13 harg13 arg14 harg14 arg15 harg15 arg16 harg16 x0 x1 x2 x3 s0 s1 s2 s3
    · exact runB_u11 c i arg2 harg2 arg3 harg3 arg4 harg4 arg5 harg5 arg7 arg13 harg13 arg14 harg14 arg15 harg15 arg16 harg16 x0 x1 x2 x3 s0 s1 s2 s3
    · exact runB_u21 c i arg2 harg2 arg3 harg3 arg4 harg4 arg5 harg5 arg7 arg13 harg13 arg14 harg14 arg15 harg15 arg16 harg16 x0 x1 x2 x3 s0 s1 s2 s3
    · exact runB_u31 c i arg2 harg2 arg3 harg3 arg4 harg4 arg5 harg5 arg7 arg13 harg13 arg14 harg14 arg15 harg15 arg16 harg16 x0 x1 x2 x3 s0 s1 s2 s3

end

end Cert.KernelIdeal.Voc

end
-- ==== Proof.Point.lean ====
module

public import proofs.«01_k».proof.Proof.Step
public import proofs.«01_k».proof.Proof.BridgeA
public import proofs.«01_k».proof.Proof.BridgeB

/-! What a grid point leaves: the blocks of the seven results, and the buffers kept for the next point. -/

@[expose] public section

set_option maxRecDepth 16384

noncomputable section

namespace Cert.KernelIdeal.Voc

open Idealize.ShloMosaic Cert.KernelIdeal Cert.KernelIdeal.Gen

/-- Block `n` of batch `b` of the attention result, -/
def outB (X0 X1 X2 : ℕ → ℕ → ℕ → EReal) (SG : ℕ → ℕ → BitVec 32) (b n : ℕ) : Vec Ideal S1x128x2560 .bf16 := fun y =>
  OUT X0 X1 X2 SG b (128 * n + (y 1).val) ((y 2).val / 256) ⟨(y 2).val % 256, by omega⟩
/-- of the queries' codes and scales, -/
def qcB (X : ℕ → ℕ → ℕ → EReal) (b n : ℕ) : Vec Ideal S1x10x128x256 .fp8e4m3 := fun y => QC X b (y 1).val (128 * n + (y 2).val) (y 3)
def qsB (X : ℕ → ℕ → ℕ → EReal) (b n : ℕ) : Vec Ideal S1x10x128 .f32 := fun y => QS X b (y 1).val (128 * n + (y 2).val)
/-- and of the keys' (the values') codes and scales. -/
def kcB (X : ℕ → ℕ → ℕ → EReal) (b n : ℕ) : Vec Ideal S1x2x128x256 .fp8e4m3 := fun y => QC X b (y 1).val (128 * n + (y 2).val) (y 3)
def ksB (X : ℕ → ℕ → ℕ → EReal) (b n : ℕ) : Vec Ideal S1x2x128 .f32 := fun y => QS X b (y 1).val (128 * n + (y 2).val)

section
variable (X0 X1 X2 : ℕ → ℕ → ℕ → EReal) (SG : ℕ → ℕ → BitVec 32) (b : ℕ)
variable (c : Dev nD) (i : grid0.Coords) (arg2 : Memref sig .tc .vmem S1x128x2560 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x1x128 .i32) (harg5 : arg5.IsWhole) (arg6 : Memref sig .tc .vmem S1x128x2560 .bf16) (harg6 : arg6.IsWhole) (arg7 : Memref sig .tc .vmem S1x10x128x256 .fp8e4m3) (harg7 : arg7.IsWhole) (arg8 : Memref sig .tc .vmem S1x10x128 .f32) (harg8 : arg8.IsWhole) (arg9 : Memref sig .tc .vmem S1x2x128x256 .fp8e4m3) (harg9 : arg9.IsWhole) (arg10 : Memref sig .tc .vmem S1x2x128 .f32) (harg10 : arg10.IsWhole) (arg11 : Memref sig .tc .vmem S1x2x128x256 .fp8e4m3) (harg11 : arg11.IsWhole) (arg12 : Memref sig .tc .vmem S1x2x128 .f32) (harg12 : arg12.IsWhole) (arg13 : Memref sig .tc .vmem S2x896x256 .fp8e4m3) (harg13 : arg13.IsWhole) (arg14 : Memref sig .tc .vmem S2x896x256 .bf16) (harg14 : arg14.IsWhole) (arg15 : Memref sig .tc .vmem S7x8x128 .f32) (harg15 : arg15.IsWhole) (arg16 : Memref sig .tc .vmem S7x1x128 .i32) (harg16 : arg16.IsWhole)
  (x0 : Vec Ideal S1x128x2560 .bf16) (x1 : Vec Ideal S1x128x512 .bf16) (x2 : Vec Ideal S1x128x512 .bf16) (x3 : Vec Ideal S1x1x1x128 .i32)
  (s0 : Vec Ideal S2x896x256 .fp8e4m3) (s1 : Vec Ideal S2x896x256 .bf16) (s2 : Vec Ideal S7x8x128 .f32) (s3 : Vec Ideal S7x1x128 .i32)
  (hx0 : ∀ r C, x0 (ix3 0 r C) = X0 b (128 * (i 1 : ℕ) + r.val) C.val) (hx1 : ∀ r C, x1 (ix3 0 r C) = X1 b (128 * (i 1 : ℕ) + r.val) C.val)
  (hx2 : ∀ r C, x2 (ix3 0 r C) = X2 b (128 * (i 1 : ℕ) + r.val) C.val) (hx3 : ∀ r, x3 (ix4 0 0 0 r) = SG b (128 * (i 1 : ℕ) + r.val))

/-! ### Case A: the first block of a batch -/

include hx1 in
theorem kwA (hi : (i 1 : ℕ) = 0) (y : S2x896x256.Idx) (hy : (y 1).val < 128 * (i 1 : ℕ) + 384) :
    arg13.view.read (Elt Ideal) (arg13.view.writes (Elt Ideal) (harg13.unread s0) (kwPieces i (ktile arg3 harg3 x1) ++ kwPads)) y = kwS X1 b (y 0).val (y 1).val (y 2) := by
  rw [View.writes_append]
  exact kw_step X1 b i arg3 harg3 x1 hx1 arg13 _ (fun y hy => kwPads_hold X1 b i hi arg13 _ y hy) y hy
include hx2 in
theorem vwA (hi : (i 1 : ℕ) = 0) (y : S2x896x256.Idx) (hy : (y 1).val < 128 * (i 1 : ℕ) + 384) :
    arg14.view.read (Elt Ideal) (arg14.view.writes (Elt Ideal) (harg14.unread s1) (vwPieces i (ktile arg4 harg4 x2) ++ vwPads)) y = vwS X2 b (y 0).val (y 1).val (y 2) := by
  rw [View.writes_append]
  exact vw_step X2 b i arg4 harg4 x2 hx2 arg14 _ (fun y hy => vwPads_hold X2 b i hi arg14 _ y hy) y hy

variable (hcA : cond0_0 i)

include hx0 in
theorem ptA_7  (g : arg7.view.ty.Contents (Elt Ideal)) :
    arg7.view.read (Elt Ideal) (arg7.view.writes (Elt Ideal) g (krunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3).2.1) = qcB X0 b (i 1 : ℕ) := by
  rw [runA_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3]
  funext y
  exact (q_read arg7 g _ y).trans (xtile_codes X0 b _ arg2 harg2 x0 hx0 (y 1) (y 2) (y 3))
include hx0 in
theorem ptA_8  (g : arg8.view.ty.Contents (Elt Ideal)) :
    arg8.view.read (Elt Ideal) (arg8.view.writes (Elt Ideal) g (krunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3).2.2.1) = qsB X0 b (i 1 : ℕ) := by
  rw [runA_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3]
  funext y
  have h1 : (y 1).val < 10 := (y 1).isLt
  refine (scales10 arg8 g _ y).trans ((smat_apply _ _ _ _ _).trans ?_)
  rw [dif_neg (by show ¬ 4 + (y 1).val < 2; omega), dif_neg (by show ¬ 4 + (y 1).val < 4; omega), dif_pos (by show 4 + (y 1).val < 14; omega)]
  refine (xtile_scale X0 b _ arg2 harg2 x0 hx0 _ _).trans ?_
  exact congrArg (fun h => QS X0 b h (128 * (i 1 : ℕ) + (y 2).val)) (by show 4 + (y 1).val - 4 = _; omega)
include hx1 in
theorem ptA_9  (g : arg9.view.ty.Contents (Elt Ideal)) :
    arg9.view.read (Elt Ideal) (arg9.view.writes (Elt Ideal) g (krunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3).2.2.2.1) = kcB X1 b (i 1 : ℕ) := by
  rw [runA_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3]
  funext y
  exact (k_read arg9 g _ y).trans (ktile_codes X1 b _ arg3 harg3 x1 hx1 (y 1) (y 2) (y 3))
include hx1 in
theorem ptA_10  (g : arg10.view.ty.Contents (Elt Ideal)) :
    arg10.view.read (Elt Ideal) (arg10.view.writes (Elt Ideal) g (krunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3).2.2.2.2.1) = ksB X1 b (i 1 : ℕ) := by
  rw [runA_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3]
  funext y
  have h1 : (y 1).val < 2 := (y 1).isLt
  refine (scales2 0 (by omega) _ arg10 g _ y).trans ((smat_apply _ _ _ _ _).trans ?_)
  rw [dif_pos (by show 0 + (y 1).val < 2; omega)]
  refine (ktile_scale X1 b _ arg3 harg3 x1 hx1 _ _).trans ?_
  exact congrArg (fun h => QS X1 b h (128 * (i 1 : ℕ) + (y 2).val)) (by show 0 + (y 1).val = _; omega)
include hx2 in
theorem ptA_11  (g : arg11.view.ty.Contents (Elt Ideal)) :
    arg11.view.read (Elt Ideal) (arg11.view.writes (Elt Ideal) g (krunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3).2.2.2.2.2.1) = kcB X2 b (i 1 : ℕ) := by
  rw [runA_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3]
  funext y
  exact (k_read arg11 g _ y).trans (ktile_codes X2 b _ arg4 harg4 x2 hx2 (y 1) (y 2) (y 3))
include hx2 in
theorem ptA_12  (g : arg12.view.ty.Contents (Elt Ideal)) :
    arg12.view.read (Elt Ideal) (arg12.view.writes (Elt Ideal) g (krunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3).2.2.2.2.2.2.1) = ksB X2 b (i 1 : ℕ) := by
  rw [runA_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3]
  funext y
  have h1 : (y 1).val < 2 := (y 1).isLt
  refine (scales2 2 (by omega) _ arg12 g _ y).trans ((smat_apply _ _ _ _ _).trans ?_)
  rw [dif_neg (by show ¬ 2 + (y 1).val < 2; omega), dif_pos (by show 2 + (y 1).val < 4; omega)]
  refine (ktile_scale X2 b _ arg4 harg4 x2 hx2 _ _).trans ?_
  exact congrArg (fun h => QS X2 b h (128 * (i 1 : ℕ) + (y 2).val)) (by show 2 + (y 1).val - 2 = _; omega)
include hx0 hx1 hx2 hx3 in
theorem ptA_6 (hi : (i 1 : ℕ) = 0) (g : arg6.view.ty.Contents (Elt Ideal)) :
    arg6.view.read (Elt Ideal) (arg6.view.writes (Elt Ideal) g (krunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3).1) = outB X0 X1 X2 SG b (i 1 : ℕ) := by
  rw [runA_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3, sg_read arg5 harg5 x3]
  funext y
  refine (out_read arg6 g _ _ y).trans ?_
  refine out_spec X0 X1 X2 SG b i arg2 harg2 x0 hx0 x3 hx3 arg7 arg13 _ arg14 _ ?_ ?_ _ ?_ _ ?_ y
  · intro y hy
    apply kwA <;> assumption
  · intro y hy
    apply vwA <;> assumption
  · intro h q hh
    exact kl_cat X1 b i arg3 harg3 x1 hx1 (xtile arg2 harg2 x0) (ktile arg4 harg4 x2) klPads arg15 (arg15.view.writes (Elt Ideal) (harg15.unread s2) (klPiece i (smat (xtile arg2 harg2 x0) (ktile arg3 harg3 x1) (ktile arg4 harg4 x2)) :: klPads))
      (fun y hy h1 => kl_step X1 b i arg3 harg3 x1 hx1 (xtile arg2 harg2 x0) (ktile arg4 harg4 x2) klPads arg15 (harg15.unread s2) (fun y hy h1 => klPads_hold X1 b arg15 _ y (by omega)) y (by omega) h1) h q hh
  · intro q
    exact sg_cat SG b i x3 hx3 (sgPads (F := Ideal)) arg16 (arg16.view.writes (Elt Ideal) (harg16.unread s3) (sgPiece (F := Ideal) i x3 :: sgPads))
      (fun y hy => sg_step SG b i x3 hx3 (sgPads (F := Ideal)) arg16 (harg16.unread s3) (fun y hy => sgPads_hold b SG arg16 _ y (by omega)) y (by omega)) q

include hx0 hx1 hx2 hx3 in
theorem invA (hi : (i 1 : ℕ) = 0) : Inv X1 X2 SG b ((i 1 : ℕ) + 3)
    (arg13.view.read (Elt Ideal) (arg13.view.writes (Elt Ideal) (harg13.unread s0) (krunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3).2.2.2.2.2.2.2.1))
    (arg14.view.read (Elt Ideal) (arg14.view.writes (Elt Ideal) (harg14.unread s1) (krunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3).2.2.2.2.2.2.2.2.1))
    (arg15.view.read (Elt Ideal) (arg15.view.writes (Elt Ideal) (harg15.unread s2) (krunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3).2.2.2.2.2.2.2.2.2.1))
    (arg16.view.read (Elt Ideal) (arg16.view.writes (Elt Ideal) (harg16.unread s3) (krunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3).2.2.2.2.2.2.2.2.2.2.1)) := by
  refine ⟨?_, ?_, ?_, ?_⟩
  · intro y hy
    rw [runA_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3]
    apply kwA <;> first | assumption | omega
  · intro y hy
    rw [runA_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3]
    apply vwA <;> first | assumption | omega
  · intro y hy h1
    rw [runA_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3]
    exact kl_step X1 b i arg3 harg3 x1 hx1 (xtile arg2 harg2 x0) (ktile arg4 harg4 x2) klPads arg15 (harg15.unread s2) (fun y hy h1 => klPads_hold X1 b arg15 _ y (by omega)) y hy h1
  · intro y hy
    rw [runA_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3, sg_read arg5 harg5 x3]
    exact sg_step SG b i x3 hx3 (sgPads (F := Ideal)) arg16 (harg16.unread s3) (fun y hy => sgPads_hold b SG arg16 _ y (by omega)) y hy

/-! ### Case B: a later block of a batch -/

include hx1 in
theorem kwB (hI : Inv X1 X2 SG b ((i 1 : ℕ) + 2) s0 s1 s2 s3) (y : S2x896x256.Idx) (hy : (y 1).val < 128 * (i 1 : ℕ) + 384) :
    arg13.view.read (Elt Ideal) (arg13.view.writes (Elt Ideal) (harg13.unread s0) (kwPieces i (ktile arg3 harg3 x1))) y = kwS X1 b (y 0).val (y 1).val (y 2) := by
  exact kw_step X1 b i arg3 harg3 x1 hx1 arg13 _ (fun y hy => (congrFun (harg13.read_unread s0) y).trans (hI.kw y (by omega))) y hy
include hx2 in
theorem vwB (hI : Inv X1 X2 SG b ((i 1 : ℕ) + 2) s0 s1 s2 s3) (y : S2x896x256.Idx) (hy : (y 1).val < 128 * (i 1 : ℕ) + 384) :
    arg14.view.read (Elt Ideal) (arg14.view.writes (Elt Ideal) (harg14.unread s1) (vwPieces i (ktile arg4 harg4 x2))) y = vwS X2 b (y 0).val (y 1).val (y 2) := by
  exact vw_step X2 b i arg4 harg4 x2 hx2 arg14 _ (fun y hy => (congrFun (harg14.read_unread s1) y).trans (hI.vw y (by omega))) y hy

variable (hcB : ¬ cond0_0 i)

include hx0 in
theorem ptB_7  (g : arg7.view.ty.Contents (Elt Ideal)) :
    arg7.view.read (Elt Ideal) (arg7.view.writes (Elt Ideal) g (krunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3).2.1) = qcB X0 b (i 1 : ℕ) := by
  rw [runB_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3]
  funext y
  exact (q_read arg7 g _ y).trans (xtile_codes X0 b _ arg2 harg2 x0 hx0 (y 1) (y 2) (y 3))
include hx0 in
theorem ptB_8  (g : arg8.view.ty.Contents (Elt Ideal)) :
    arg8.view.read (Elt Ideal) (arg8.view.writes (Elt Ideal) g (krunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3).2.2.1) = qsB X0 b (i 1 : ℕ) := by
  rw [runB_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3]
  funext y
  have h1 : (y 1).val < 10 := (y 1).isLt
  refine (scales10 arg8 g _ y).trans ((smat_apply _ _ _ _ _).trans ?_)
  rw [dif_neg (by show ¬ 4 + (y 1).val < 2; omega), dif_neg (by show ¬ 4 + (y 1).val < 4; omega), dif_pos (by show 4 + (y 1).val < 14; omega)]
  refine (xtile_scale X0 b _ arg2 harg2 x0 hx0 _ _).trans ?_
  exact congrArg (fun h => QS X0 b h (128 * (i 1 : ℕ) + (y 2).val)) (by show 4 + (y 1).val - 4 = _; omega)
include hx1 in
theorem ptB_9  (g : arg9.view.ty.Contents (Elt Ideal)) :
    arg9.view.read (Elt Ideal) (arg9.view.writes (Elt Ideal) g (krunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3).2.2.2.1) = kcB X1 b (i 1 : ℕ) := by
  rw [runB_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3]
  funext y
  exact (k_read arg9 g _ y).trans (ktile_codes X1 b _ arg3 harg3 x1 hx1 (y 1) (y 2) (y 3))
include hx1 in
theorem ptB_10  (g : arg10.view.ty.Contents (Elt Ideal)) :
    arg10.view.read (Elt Ideal) (arg10.view.writes (Elt Ideal) g (krunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3).2.2.2.2.1) = ksB X1 b (i 1 : ℕ) := by
  rw [runB_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3]
  funext y
  have h1 : (y 1).val < 2 := (y 1).isLt
  refine (scales2 0 (by omega) _ arg10 g _ y).trans ((smat_apply _ _ _ _ _).trans ?_)
  rw [dif_pos (by show 0 + (y 1).val < 2; omega)]
  refine (ktile_scale X1 b _ arg3 harg3 x1 hx1 _ _).trans ?_
  exact congrArg (fun h => QS X1 b h (128 * (i 1 : ℕ) + (y 2).val)) (by show 0 + (y 1).val = _; omega)
include hx2 in
theorem ptB_11  (g : arg11.view.ty.Contents (Elt Ideal)) :
    arg11.view.read (Elt Ideal) (arg11.view.writes (Elt Ideal) g (krunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3).2.2.2.2.2.1) = kcB X2 b (i 1 : ℕ) := by
  rw [runB_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3]
  funext y
  exact (k_read arg11 g _ y).trans (ktile_codes X2 b _ arg4 harg4 x2 hx2 (y 1) (y 2) (y 3))
include hx2 in
theorem ptB_12  (g : arg12.view.ty.Contents (Elt Ideal)) :
    arg12.view.read (Elt Ideal) (arg12.view.writes (Elt Ideal) g (krunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3).2.2.2.2.2.2.1) = ksB X2 b (i 1 : ℕ) := by
  rw [runB_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3]
  funext y
  have h1 : (y 1).val < 2 := (y 1).isLt
  refine (scales2 2 (by omega) _ arg12 g _ y).trans ((smat_apply _ _ _ _ _).trans ?_)
  rw [dif_neg (by show ¬ 2 + (y 1).val < 2; omega), dif_pos (by show 2 + (y 1).val < 4; omega)]
  refine (ktile_scale X2 b _ arg4 harg4 x2 hx2 _ _).trans ?_
  exact congrArg (fun h => QS X2 b h (128 * (i 1 : ℕ) + (y 2).val)) (by show 2 + (y 1).val - 2 = _; omega)
include hx0 hx1 hx2 hx3 in
theorem ptB_6 (hI : Inv X1 X2 SG b ((i 1 : ℕ) + 2) s0 s1 s2 s3) (g : arg6.view.ty.Contents (Elt Ideal)) :
    arg6.view.read (Elt Ideal) (arg6.view.writes (Elt Ideal) g (krunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3).1) = outB X0 X1 X2 SG b (i 1 : ℕ) := by
  rw [runB_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3, sg_read arg5 harg5 x3]
  funext y
  refine (out_read arg6 g _ _ y).trans ?_
  refine out_spec X0 X1 X2 SG b i arg2 harg2 x0 hx0 x3 hx3 arg7 arg13 _ arg14 _ ?_ ?_ _ ?_ _ ?_ y
  · intro y hy
    apply kwB <;> assumption
  · intro y hy
    apply vwB <;> assumption
  · intro h q hh
    exact kl_cat X1 b i arg3 harg3 x1 hx1 (xtile arg2 harg2 x0) (ktile arg4 harg4 x2) [] arg15 (harg15.unread s2)
      (fun y hy h1 => (congrFun (harg15.read_unread s2) y).trans (hI.kl y hy h1)) h q hh
  · intro q
    exact sg_cat SG b i x3 hx3 [] arg16 (harg16.unread s3)
      (fun y hy => (congrFun (harg16.read_unread s3) y).trans (hI.sg y hy)) q

include hx0 hx1 hx2 hx3 in
theorem invB (hI : Inv X1 X2 SG b ((i 1 : ℕ) + 2) s0 s1 s2 s3) : Inv X1 X2 SG b ((i 1 : ℕ) + 3)
    (arg13.view.read (Elt Ideal) (arg13.view.writes (Elt Ideal) (harg13.unread s0) (krunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3).2.2.2.2.2.2.2.1))
    (arg14.view.read (Elt Ideal) (arg14.view.writes (Elt Ideal) (harg14.unread s1) (krunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3).2.2.2.2.2.2.2.2.1))
    (arg15.view.read (Elt Ideal) (arg15.view.writes (Elt Ideal) (harg15.unread s2) (krunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3).2.2.2.2.2.2.2.2.2.1))
    (arg16.view.read (Elt Ideal) (arg16.view.writes (Elt Ideal) (harg16.unread s3) (krunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3).2.2.2.2.2.2.2.2.2.2.1)) := by
  refine ⟨?_, ?_, ?_, ?_⟩
  · intro y hy
    rw [runB_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3]
    apply kwB <;> first | assumption | omega
  · intro y hy
    rw [runB_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3]
    apply vwB <;> first | assumption | omega
  · intro y hy h1
    rw [runB_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3]
    exact kl_step X1 b i arg3 harg3 x1 hx1 (xtile arg2 harg2 x0) (ktile arg4 harg4 x2) [] arg15 (harg15.unread s2) (fun y hy h1 => (congrFun (harg15.read_unread s2) y).trans (hI.kl y hy h1)) y hy h1
  · intro y hy
    rw [runB_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3, sg_read arg5 harg5 x3]
    exact sg_step SG b i x3 hx3 [] arg16 (harg16.unread s3) (fun y hy => (congrFun (harg16.read_unread s3) y).trans (hI.sg y hy)) y hy

end

end Cert.KernelIdeal.Voc

end
-- ==== Proof.Geom.lean ====
module

public import Idealize.ShloMosaic.Lib.Pipeline.Value
public import proofs.«01_k».proof.Proof.Point

/-! Where each window's block lies in its array: point `t` is block `t % 5` of batch `t / 5`. -/

@[expose] public section

set_option maxRecDepth 16384

noncomputable section

namespace Cert.KernelIdeal.Voc

open Idealize.ShloMosaic Idealize.ShloMosaic.TcCoe Cert.KernelIdeal Cert.KernelIdeal.Gen

theorem N15 (t : Fin cfg0.N) : t.val < 15 := lt_of_lt_of_eq t.isLt (show cfg0.N = 15 from N_0)
theorem coord0 (t : Fin cfg0.N) : (grid0.coords t 0).val = t.val / 5 := by
  have e0 : (grid0.coords t 0).val = t.val / 5 % 3 := Pipeline.Grid.coords_val t 0 (by decide) rfl
  have := N15 t
  omega
theorem coord1 (t : Fin cfg0.N) : (grid0.coords t 1).val = t.val % 5 := by
  have e1 : (grid0.coords t 1).val = t.val / 1 % 5 := Pipeline.Grid.coords_val t 1 (by decide) rfl
  omega

/-! ### Window 0 -/

theorem index0 : ∀ t : Fin cfg0.N, win0_0.index t 0 = t.val / 5 ∧ win0_0.index t 1 = t.val % 5 ∧ win0_0.index t 2 = 0 :=
  (by decide +kernel : ∀ t : Fin grid0.N, win0_0.index t 0 = t.val / 5 ∧ win0_0.index t 1 = t.val % 5 ∧ win0_0.index t 2 = 0)
/-- The array read through point `t`'s block. -/
theorem read0 {α : Type} (G : S3x640x2560.Idx → α) (t : Fin cfg0.N) (x : S1x128x2560.Idx) :
    G (((cfg0.win 0).blk t).view.emb x) = G (ix3 ⟨t.val / 5, by have := N15 t; omega⟩ ⟨128 * (t.val % 5) + (x 1).val, by have : (x 1).val < 128 := (x 1).isLt; omega⟩ (x 2)) := by
  obtain ⟨e0, e1, e2⟩ := index0 t
  refine congrArg G ?_
  funext a
  apply Fin.ext
  fin_cases a
  · show win0_0.index t 0 * 1 + 1 * (x 0).val = t.val / 5
    have h : (x 0).val < 1 := (x 0).isLt
    rw [e0]; omega
  · show win0_0.index t 1 * 128 + 1 * (x 1).val = 128 * (t.val % 5) + (x 1).val
    have h : (x 1).val < 128 := (x 1).isLt
    rw [e1]; omega
  · show win0_0.index t 2 * 2560 + 1 * (x 2).val = (x 2).val
    have h : (x 2).val < 2560 := (x 2).isLt
    rw [e2]; omega

/-! ### Window 1 -/

theorem index1 : ∀ t : Fin cfg0.N, win0_1.index t 0 = t.val / 5 ∧ win0_1.index t 1 = t.val % 5 ∧ win0_1.index t 2 = 0 :=
  (by decide +kernel : ∀ t : Fin grid0.N, win0_1.index t 0 = t.val / 5 ∧ win0_1.index t 1 = t.val % 5 ∧ win0_1.index t 2 = 0)
/-- The array read through point `t`'s block. -/
theorem read1 {α : Type} (G : S3x640x512.Idx → α) (t : Fin cfg0.N) (x : S1x128x512.Idx) :
    G (((cfg0.win 1).blk t).view.emb x) = G (ix3 ⟨t.val / 5, by have := N15 t; omega⟩ ⟨128 * (t.val % 5) + (x 1).val, by have : (x 1).val < 128 := (x 1).isLt; omega⟩ (x 2)) := by
  obtain ⟨e0, e1, e2⟩ := index1 t
  refine congrArg G ?_
  funext a
  apply Fin.ext
  fin_cases a
  · show win0_1.index t 0 * 1 + 1 * (x 0).val = t.val / 5
    have h : (x 0).val < 1 := (x 0).isLt
    rw [e0]; omega
  · show win0_1.index t 1 * 128 + 1 * (x 1).val = 128 * (t.val % 5) + (x 1).val
    have h : (x 1).val < 128 := (x 1).isLt
    rw [e1]; omega
  · show win0_1.index t 2 * 512 + 1 * (x 2).val = (x 2).val
    have h : (x 2).val < 512 := (x 2).isLt
    rw [e2]; omega

/-! ### Window 2 -/

theorem index2 : ∀ t : Fin cfg0.N, win0_2.index t 0 = t.val / 5 ∧ win0_2.index t 1 = t.val % 5 ∧ win0_2.index t 2 = 0 :=
  (by decide +kernel : ∀ t : Fin grid0.N, win0_2.index t 0 = t.val / 5 ∧ win0_2.index t 1 = t.val % 5 ∧ win0_2.index t 2 = 0)
/-- The array read through point `t`'s block. -/
theorem read2 {α : Type} (G : S3x640x512.Idx → α) (t : Fin cfg0.N) (x : S1x128x512.Idx) :
    G (((cfg0.win 2).blk t).view.emb x) = G (ix3 ⟨t.val / 5, by have := N15 t; omega⟩ ⟨128 * (t.val % 5) + (x 1).val, by have : (x 1).val < 128 := (x 1).isLt; omega⟩ (x 2)) := by
  obtain ⟨e0, e1, e2⟩ := index2 t
  refine congrArg G ?_
  funext a
  apply Fin.ext
  fin_cases a
  · show win0_2.index t 0 * 1 + 1 * (x 0).val = t.val / 5
    have h : (x 0).val < 1 := (x 0).isLt
    rw [e0]; omega
  · show win0_2.index t 1 * 128 + 1 * (x 1).val = 128 * (t.val % 5) + (x 1).val
    have h : (x 1).val < 128 := (x 1).isLt
    rw [e1]; omega
  · show win0_2.index t 2 * 512 + 1 * (x 2).val = (x 2).val
    have h : (x 2).val < 512 := (x 2).isLt
    rw [e2]; omega

/-! ### Window 3 -/

theorem index3 : ∀ t : Fin cfg0.N, win0_3.index t 0 = t.val / 5 ∧ win0_3.index t 1 = t.val % 5 ∧ win0_3.index t 2 = 0 ∧ win0_3.index t 3 = 0 :=
  (by decide +kernel : ∀ t : Fin grid0.N, win0_3.index t 0 = t.val / 5 ∧ win0_3.index t 1 = t.val % 5 ∧ win0_3.index t 2 = 0 ∧ win0_3.index t 3 = 0)
/-- The array read through point `t`'s block. -/
theorem read3 {α : Type} (G : S3x5x1x128.Idx → α) (t : Fin cfg0.N) (x : S1x1x1x128.Idx) :
    G (((cfg0.win 3).blk t).view.emb x) = G (ix4 ⟨t.val / 5, by have := N15 t; omega⟩ ⟨t.val % 5, by omega⟩ (x 2) (x 3)) := by
  obtain ⟨e0, e1, e2, e3⟩ := index3 t
  refine congrArg G ?_
  funext a
  apply Fin.ext
  fin_cases a
  · show win0_3.index t 0 * 1 + 1 * (x 0).val = t.val / 5
    have h : (x 0).val < 1 := (x 0).isLt
    rw [e0]; omega
  · show win0_3.index t 1 * 1 + 1 * (x 1).val = t.val % 5
    have h : (x 1).val < 1 := (x 1).isLt
    rw [e1]; omega
  · show win0_3.index t 2 * 1 + 1 * (x 2).val = (x 2).val
    have h : (x 2).val < 1 := (x 2).isLt
    rw [e2]; omega
  · show win0_3.index t 3 * 128 + 1 * (x 3).val = (x 3).val
    have h : (x 3).val < 128 := (x 3).isLt
    rw [e3]; omega

/-! ### Window 4 -/

theorem index4 : ∀ t : Fin cfg0.N, win0_4.index t 0 = t.val / 5 ∧ win0_4.index t 1 = t.val % 5 ∧ win0_4.index t 2 = 0 :=
  (by decide +kernel : ∀ t : Fin grid0.N, win0_4.index t 0 = t.val / 5 ∧ win0_4.index t 1 = t.val % 5 ∧ win0_4.index t 2 = 0)
/-- The array read through point `t`'s block. -/
theorem read4 {α : Type} (G : S3x640x2560.Idx → α) (t : Fin cfg0.N) (x : S1x128x2560.Idx) :
    G (((cfg0.win 4).blk t).view.emb x) = G (ix3 ⟨t.val / 5, by have := N15 t; omega⟩ ⟨128 * (t.val % 5) + (x 1).val, by have : (x 1).val < 128 := (x 1).isLt; omega⟩ (x 2)) := by
  obtain ⟨e0, e1, e2⟩ := index4 t
  refine congrArg G ?_
  funext a
  apply Fin.ext
  fin_cases a
  · show win0_4.index t 0 * 1 + 1 * (x 0).val = t.val / 5
    have h : (x 0).val < 1 := (x 0).isLt
    rw [e0]; omega
  · show win0_4.index t 1 * 128 + 1 * (x 1).val = 128 * (t.val % 5) + (x 1).val
    have h : (x 1).val < 128 := (x 1).isLt
    rw [e1]; omega
  · show win0_4.index t 2 * 2560 + 1 * (x 2).val = (x 2).val
    have h : (x 2).val < 2560 := (x 2).isLt
    rw [e2]; omega
theorem cover4 (i : S3x640x2560.Idx) : ∃ t : Fin cfg0.N, (cfg0.win 4).flush t = true ∧ i ∈ ((cfg0.win 4).blk t).view.set := by
  have h0 : (i 0).val < 3 := (i 0).isLt
  have h1 : (i 1).val < 640 := (i 1).isLt
  have h2 : (i 2).val < 2560 := (i 2).isLt
  have hN : cfg0.N = 15 := N_0
  refine ⟨⟨5 * (i 0).val + (i 1).val / 128, by omega⟩, flush0_4 _, ?_⟩
  generalize ht : (⟨5 * (i 0).val + (i 1).val / 128, _⟩ : Fin cfg0.N) = t
  have hv : t.val = 5 * (i 0).val + (i 1).val / 128 := by rw [← ht]
  obtain ⟨e0, e1, e2⟩ := index4 t
  show i ∈ ((View.whole main_v1_0).slice (win0_4.rect t)).set
  rw [View.set_slice_whole, Rect.mem_set_unit]
  intro a
  fin_cases a
  · show win0_4.index t 0 * 1 ≤ (i 0).val ∧ (i 0).val < win0_4.index t 0 * 1 + 1
    rw [e0]; omega
  · show win0_4.index t 1 * 128 ≤ (i 1).val ∧ (i 1).val < win0_4.index t 1 * 128 + 128
    rw [e1]; omega
  · show win0_4.index t 2 * 2560 ≤ (i 2).val ∧ (i 2).val < win0_4.index t 2 * 2560 + 2560
    rw [e2]; omega

/-! ### Window 5 -/

theorem index5 : ∀ t : Fin cfg0.N, win0_5.index t 0 = t.val / 5 ∧ win0_5.index t 1 = 0 ∧ win0_5.index t 2 = t.val % 5 ∧ win0_5.index t 3 = 0 :=
  (by decide +kernel : ∀ t : Fin grid0.N, win0_5.index t 0 = t.val / 5 ∧ win0_5.index t 1 = 0 ∧ win0_5.index t 2 = t.val % 5 ∧ win0_5.index t 3 = 0)
/-- The array read through point `t`'s block. -/
theorem read5 {α : Type} (G : S3x10x640x256.Idx → α) (t : Fin cfg0.N) (x : S1x10x128x256.Idx) :
    G (((cfg0.win 5).blk t).view.emb x) = G (ix4 ⟨t.val / 5, by have := N15 t; omega⟩ (x 1) ⟨128 * (t.val % 5) + (x 2).val, by have : (x 2).val < 128 := (x 2).isLt; omega⟩ (x 3)) := by
  obtain ⟨e0, e1, e2, e3⟩ := index5 t
  refine congrArg G ?_
  funext a
  apply Fin.ext
  fin_cases a
  · show win0_5.index t 0 * 1 + 1 * (x 0).val = t.val / 5
    have h : (x 0).val < 1 := (x 0).isLt
    rw [e0]; omega
  · show win0_5.index t 1 * 10 + 1 * (x 1).val = (x 1).val
    have h : (x 1).val < 10 := (x 1).isLt
    rw [e1]; omega
  · show win0_5.index t 2 * 128 + 1 * (x 2).val = 128 * (t.val % 5) + (x 2).val
    have h : (x 2).val < 128 := (x 2).isLt
    rw [e2]; omega
  · show win0_5.index t 3 * 256 + 1 * (x 3).val = (x 3).val
    have h : (x 3).val < 256 := (x 3).isLt
    rw [e3]; omega
theorem cover5 (i : S3x10x640x256.Idx) : ∃ t : Fin cfg0.N, (cfg0.win 5).flush t = true ∧ i ∈ ((cfg0.win 5).blk t).view.set := by
  have h0 : (i 0).val < 3 := (i 0).isLt
  have h1 : (i 1).val < 10 := (i 1).isLt
  have h2 : (i 2).val < 640 := (i 2).isLt
  have h3 : (i 3).val < 256 := (i 3).isLt
  have hN : cfg0.N = 15 := N_0
  refine ⟨⟨5 * (i 0).val + (i 2).val / 128, by omega⟩, flush0_5 _, ?_⟩
  generalize ht : (⟨5 * (i 0).val + (i 2).val / 128, _⟩ : Fin cfg0.N) = t
  have hv : t.val = 5 * (i 0).val + (i 2).val / 128 := by rw [← ht]
  obtain ⟨e0, e1, e2, e3⟩ := index5 t
  show i ∈ ((View.whole main_v1_1).slice (win0_5.rect t)).set
  rw [View.set_slice_whole, Rect.mem_set_unit]
  intro a
  fin_cases a
  · show win0_5.index t 0 * 1 ≤ (i 0).val ∧ (i 0).val < win0_5.index t 0 * 1 + 1
    rw [e0]; omega
  · show win0_5.index t 1 * 10 ≤ (i 1).val ∧ (i 1).val < win0_5.index t 1 * 10 + 10
    rw [e1]; omega
  · show win0_5.index t 2 * 128 ≤ (i 2).val ∧ (i 2).val < win0_5.index t 2 * 128 + 128
    rw [e2]; omega
  · show win0_5.index t 3 * 256 ≤ (i 3).val ∧ (i 3).val < win0_5.index t 3 * 256 + 256
    rw [e3]; omega

/-! ### Window 6 -/

theorem index6 : ∀ t : Fin cfg0.N, win0_6.index t 0 = t.val / 5 ∧ win0_6.index t 1 = 0 ∧ win0_6.index t 2 = t.val % 5 :=
  (by decide +kernel : ∀ t : Fin grid0.N, win0_6.index t 0 = t.val / 5 ∧ win0_6.index t 1 = 0 ∧ win0_6.index t 2 = t.val % 5)
/-- The array read through point `t`'s block. -/
theorem read6 {α : Type} (G : S3x10x640.Idx → α) (t : Fin cfg0.N) (x : S1x10x128.Idx) :
    G (((cfg0.win 6).blk t).view.emb x) = G (ix3 ⟨t.val / 5, by have := N15 t; omega⟩ (x 1) ⟨128 * (t.val % 5) + (x 2).val, by have : (x 2).val < 128 := (x 2).isLt; omega⟩) := by
  obtain ⟨e0, e1, e2⟩ := index6 t
  refine congrArg G ?_
  funext a
  apply Fin.ext
  fin_cases a
  · show win0_6.index t 0 * 1 + 1 * (x 0).val = t.val / 5
    have h : (x 0).val < 1 := (x 0).isLt
    rw [e0]; omega
  · show win0_6.index t 1 * 10 + 1 * (x 1).val = (x 1).val
    have h : (x 1).val < 10 := (x 1).isLt
    rw [e1]; omega
  · show win0_6.index t 2 * 128 + 1 * (x 2).val = 128 * (t.val % 5) + (x 2).val
    have h : (x 2).val < 128 := (x 2).isLt
    rw [e2]; omega
theorem cover6 (i : S3x10x640.Idx) : ∃ t : Fin cfg0.N, (cfg0.win 6).flush t = true ∧ i ∈ ((cfg0.win 6).blk t).view.set := by
  have h0 : (i 0).val < 3 := (i 0).isLt
  have h1 : (i 1).val < 10 := (i 1).isLt
  have h2 : (i 2).val < 640 := (i 2).isLt
  have hN : cfg0.N = 15 := N_0
  refine ⟨⟨5 * (i 0).val + (i 2).val / 128, by omega⟩, flush0_6 _, ?_⟩
  generalize ht : (⟨5 * (i 0).val + (i 2).val / 128, _⟩ : Fin cfg0.N) = t
  have hv : t.val = 5 * (i 0).val + (i 2).val / 128 := by rw [← ht]
  obtain ⟨e0, e1, e2⟩ := index6 t
  show i ∈ ((View.whole main_v1_2).slice (win0_6.rect t)).set
  rw [View.set_slice_whole, Rect.mem_set_unit]
  intro a
  fin_cases a
  · show win0_6.index t 0 * 1 ≤ (i 0).val ∧ (i 0).val < win0_6.index t 0 * 1 + 1
    rw [e0]; omega
  · show win0_6.index t 1 * 10 ≤ (i 1).val ∧ (i 1).val < win0_6.index t 1 * 10 + 10
    rw [e1]; omega
  · show win0_6.index t 2 * 128 ≤ (i 2).val ∧ (i 2).val < win0_6.index t 2 * 128 + 128
    rw [e2]; omega

/-! ### Window 7 -/

theorem index7 : ∀ t : Fin cfg0.N, win0_7.index t 0 = t.val / 5 ∧ win0_7.index t 1 = 0 ∧ win0_7.index t 2 = t.val % 5 ∧ win0_7.index t 3 = 0 :=
  (by decide +kernel : ∀ t : Fin grid0.N, win0_7.index t 0 = t.val / 5 ∧ win0_7.index t 1 = 0 ∧ win0_7.index t 2 = t.val % 5 ∧ win0_7.index t 3 = 0)
/-- The array read through point `t`'s block. -/
theorem read7 {α : Type} (G : S3x2x640x256.Idx → α) (t : Fin cfg0.N) (x : S1x2x128x256.Idx) :
    G (((cfg0.win 7).blk t).view.emb x) = G (ix4 ⟨t.val / 5, by have := N15 t; omega⟩ (x 1) ⟨128 * (t.val % 5) + (x 2).val, by have : (x 2).val < 128 := (x 2).isLt; omega⟩ (x 3)) := by
  obtain ⟨e0, e1, e2, e3⟩ := index7 t
  refine congrArg G ?_
  funext a
  apply Fin.ext
  fin_cases a
  · show win0_7.index t 0 * 1 + 1 * (x 0).val = t.val / 5
    have h : (x 0).val < 1 := (x 0).isLt
    rw [e0]; omega
  · show win0_7.index t 1 * 2 + 1 * (x 1).val = (x 1).val
    have h : (x 1).val < 2 := (x 1).isLt
    rw [e1]; omega
  · show win0_7.index t 2 * 128 + 1 * (x 2).val = 128 * (t.val % 5) + (x 2).val
    have h : (x 2).val < 128 := (x 2).isLt
    rw [e2]; omega
  · show win0_7.index t 3 * 256 + 1 * (x 3).val = (x 3).val
    have h : (x 3).val < 256 := (x 3).isLt
    rw [e3]; omega
theorem cover7 (i : S3x2x640x256.Idx) : ∃ t : Fin cfg0.N, (cfg0.win 7).flush t = true ∧ i ∈ ((cfg0.win 7).blk t).view.set := by
  have h0 : (i 0).val < 3 := (i 0).isLt
  have h1 : (i 1).val < 2 := (i 1).isLt
  have h2 : (i 2).val < 640 := (i 2).isLt
  have h3 : (i 3).val < 256 := (i 3).isLt
  have hN : cfg0.N = 15 := N_0
  refine ⟨⟨5 * (i 0).val + (i 2).val / 128, by omega⟩, flush0_7 _, ?_⟩
  generalize ht : (⟨5 * (i 0).val + (i 2).val / 128, _⟩ : Fin cfg0.N) = t
  have hv : t.val = 5 * (i 0).val + (i 2).val / 128 := by rw [← ht]
  obtain ⟨e0, e1, e2, e3⟩ := index7 t
  show i ∈ ((View.whole main_v1_3).slice (win0_7.rect t)).set
  rw [View.set_slice_whole, Rect.mem_set_unit]
  intro a
  fin_cases a
  · show win0_7.index t 0 * 1 ≤ (i 0).val ∧ (i 0).val < win0_7.index t 0 * 1 + 1
    rw [e0]; omega
  · show win0_7.index t 1 * 2 ≤ (i 1).val ∧ (i 1).val < win0_7.index t 1 * 2 + 2
    rw [e1]; omega
  · show win0_7.index t 2 * 128 ≤ (i 2).val ∧ (i 2).val < win0_7.index t 2 * 128 + 128
    rw [e2]; omega
  · show win0_7.index t 3 * 256 ≤ (i 3).val ∧ (i 3).val < win0_7.index t 3 * 256 + 256
    rw [e3]; omega

/-! ### Window 8 -/

theorem index8 : ∀ t : Fin cfg0.N, win0_8.index t 0 = t.val / 5 ∧ win0_8.index t 1 = 0 ∧ win0_8.index t 2 = t.val % 5 :=
  (by decide +kernel : ∀ t : Fin grid0.N, win0_8.index t 0 = t.val / 5 ∧ win0_8.index t 1 = 0 ∧ win0_8.index t 2 = t.val % 5)
/-- The array read through point `t`'s block. -/
theorem read8 {α : Type} (G : S3x2x640.Idx → α) (t : Fin cfg0.N) (x : S1x2x128.Idx) :
    G (((cfg0.win 8).blk t).view.emb x) = G (ix3 ⟨t.val / 5, by have := N15 t; omega⟩ (x 1) ⟨128 * (t.val % 5) + (x 2).val, by have : (x 2).val < 128 := (x 2).isLt; omega⟩) := by
  obtain ⟨e0, e1, e2⟩ := index8 t
  refine congrArg G ?_
  funext a
  apply Fin.ext
  fin_cases a
  · show win0_8.index t 0 * 1 + 1 * (x 0).val = t.val / 5
    have h : (x 0).val < 1 := (x 0).isLt
    rw [e0]; omega
  · show win0_8.index t 1 * 2 + 1 * (x 1).val = (x 1).val
    have h : (x 1).val < 2 := (x 1).isLt
    rw [e1]; omega
  · show win0_8.index t 2 * 128 + 1 * (x 2).val = 128 * (t.val % 5) + (x 2).val
    have h : (x 2).val < 128 := (x 2).isLt
    rw [e2]; omega
theorem cover8 (i : S3x2x640.Idx) : ∃ t : Fin cfg0.N, (cfg0.win 8).flush t = true ∧ i ∈ ((cfg0.win 8).blk t).view.set := by
  have h0 : (i 0).val < 3 := (i 0).isLt
  have h1 : (i 1).val < 2 := (i 1).isLt
  have h2 : (i 2).val < 640 := (i 2).isLt
  have hN : cfg0.N = 15 := N_0
  refine ⟨⟨5 * (i 0).val + (i 2).val / 128, by omega⟩, flush0_8 _, ?_⟩
  generalize ht : (⟨5 * (i 0).val + (i 2).val / 128, _⟩ : Fin cfg0.N) = t
  have hv : t.val = 5 * (i 0).val + (i 2).val / 128 := by rw [← ht]
  obtain ⟨e0, e1, e2⟩ := index8 t
  show i ∈ ((View.whole main_v1_4).slice (win0_8.rect t)).set
  rw [View.set_slice_whole, Rect.mem_set_unit]
  intro a
  fin_cases a
  · show win0_8.index t 0 * 1 ≤ (i 0).val ∧ (i 0).val < win0_8.index t 0 * 1 + 1
    rw [e0]; omega
  · show win0_8.index t 1 * 2 ≤ (i 1).val ∧ (i 1).val < win0_8.index t 1 * 2 + 2
    rw [e1]; omega
  · show win0_8.index t 2 * 128 ≤ (i 2).val ∧ (i 2).val < win0_8.index t 2 * 128 + 128
    rw [e2]; omega

/-! ### Window 9 -/

theorem index9 : ∀ t : Fin cfg0.N, win0_9.index t 0 = t.val / 5 ∧ win0_9.index t 1 = 0 ∧ win0_9.index t 2 = t.val % 5 ∧ win0_9.index t 3 = 0 :=
  (by decide +kernel : ∀ t : Fin grid0.N, win0_9.index t 0 = t.val / 5 ∧ win0_9.index t 1 = 0 ∧ win0_9.index t 2 = t.val % 5 ∧ win0_9.index t 3 = 0)
/-- The array read through point `t`'s block. -/
theorem read9 {α : Type} (G : S3x2x640x256.Idx → α) (t : Fin cfg0.N) (x : S1x2x128x256.Idx) :
    G (((cfg0.win 9).blk t).view.emb x) = G (ix4 ⟨t.val / 5, by have := N15 t; omega⟩ (x 1) ⟨128 * (t.val % 5) + (x 2).val, by have : (x 2).val < 128 := (x 2).isLt; omega⟩ (x 3)) := by
  obtain ⟨e0, e1, e2, e3⟩ := index9 t
  refine congrArg G ?_
  funext a
  apply Fin.ext
  fin_cases a
  · show win0_9.index t 0 * 1 + 1 * (x 0).val = t.val / 5
    have h : (x 0).val < 1 := (x 0).isLt
    rw [e0]; omega
  · show win0_9.index t 1 * 2 + 1 * (x 1).val = (x 1).val
    have h : (x 1).val < 2 := (x 1).isLt
    rw [e1]; omega
  · show win0_9.index t 2 * 128 + 1 * (x 2).val = 128 * (t.val % 5) + (x 2).val
    have h : (x 2).val < 128 := (x 2).isLt
    rw [e2]; omega
  · show win0_9.index t 3 * 256 + 1 * (x 3).val = (x 3).val
    have h : (x 3).val < 256 := (x 3).isLt
    rw [e3]; omega
theorem cover9 (i : S3x2x640x256.Idx) : ∃ t : Fin cfg0.N, (cfg0.win 9).flush t = true ∧ i ∈ ((cfg0.win 9).blk t).view.set := by
  have h0 : (i 0).val < 3 := (i 0).isLt
  have h1 : (i 1).val < 2 := (i 1).isLt
  have h2 : (i 2).val < 640 := (i 2).isLt
  have h3 : (i 3).val < 256 := (i 3).isLt
  have hN : cfg0.N = 15 := N_0
  refine ⟨⟨5 * (i 0).val + (i 2).val / 128, by omega⟩, flush0_9 _, ?_⟩
  generalize ht : (⟨5 * (i 0).val + (i 2).val / 128, _⟩ : Fin cfg0.N) = t
  have hv : t.val = 5 * (i 0).val + (i 2).val / 128 := by rw [← ht]
  obtain ⟨e0, e1, e2, e3⟩ := index9 t
  show i ∈ ((View.whole main_v1_5).slice (win0_9.rect t)).set
  rw [View.set_slice_whole, Rect.mem_set_unit]
  intro a
  fin_cases a
  · show win0_9.index t 0 * 1 ≤ (i 0).val ∧ (i 0).val < win0_9.index t 0 * 1 + 1
    rw [e0]; omega
  · show win0_9.index t 1 * 2 ≤ (i 1).val ∧ (i 1).val < win0_9.index t 1 * 2 + 2
    rw [e1]; omega
  · show win0_9.index t 2 * 128 ≤ (i 2).val ∧ (i 2).val < win0_9.index t 2 * 128 + 128
    rw [e2]; omega
  · show win0_9.index t 3 * 256 ≤ (i 3).val ∧ (i 3).val < win0_9.index t 3 * 256 + 256
    rw [e3]; omega

/-! ### Window 10 -/

theorem index10 : ∀ t : Fin cfg0.N, win0_10.index t 0 = t.val / 5 ∧ win0_10.index t 1 = 0 ∧ win0_10.index t 2 = t.val % 5 :=
  (by decide +kernel : ∀ t : Fin grid0.N, win0_10.index t 0 = t.val / 5 ∧ win0_10.index t 1 = 0 ∧ win0_10.index t 2 = t.val % 5)
/-- The array read through point `t`'s block. -/
theorem read10 {α : Type} (G : S3x2x640.Idx → α) (t : Fin cfg0.N) (x : S1x2x128.Idx) :
    G (((cfg0.win 10).blk t).view.emb x) = G (ix3 ⟨t.val / 5, by have := N15 t; omega⟩ (x 1) ⟨128 * (t.val % 5) + (x 2).val, by have : (x 2).val < 128 := (x 2).isLt; omega⟩) := by
  obtain ⟨e0, e1, e2⟩ := index10 t
  refine congrArg G ?_
  funext a
  apply Fin.ext
  fin_cases a
  · show win0_10.index t 0 * 1 + 1 * (x 0).val = t.val / 5
    have h : (x 0).val < 1 := (x 0).isLt
    rw [e0]; omega
  · show win0_10.index t 1 * 2 + 1 * (x 1).val = (x 1).val
    have h : (x 1).val < 2 := (x 1).isLt
    rw [e1]; omega
  · show win0_10.index t 2 * 128 + 1 * (x 2).val = 128 * (t.val % 5) + (x 2).val
    have h : (x 2).val < 128 := (x 2).isLt
    rw [e2]; omega
theorem cover10 (i : S3x2x640.Idx) : ∃ t : Fin cfg0.N, (cfg0.win 10).flush t = true ∧ i ∈ ((cfg0.win 10).blk t).view.set := by
  have h0 : (i 0).val < 3 := (i 0).isLt
  have h1 : (i 1).val < 2 := (i 1).isLt
  have h2 : (i 2).val < 640 := (i 2).isLt
  have hN : cfg0.N = 15 := N_0
  refine ⟨⟨5 * (i 0).val + (i 2).val / 128, by omega⟩, flush0_10 _, ?_⟩
  generalize ht : (⟨5 * (i 0).val + (i 2).val / 128, _⟩ : Fin cfg0.N) = t
  have hv : t.val = 5 * (i 0).val + (i 2).val / 128 := by rw [← ht]
  obtain ⟨e0, e1, e2⟩ := index10 t
  show i ∈ ((View.whole main_v1_6).slice (win0_10.rect t)).set
  rw [View.set_slice_whole, Rect.mem_set_unit]
  intro a
  fin_cases a
  · show win0_10.index t 0 * 1 ≤ (i 0).val ∧ (i 0).val < win0_10.index t 0 * 1 + 1
    rw [e0]; omega
  · show win0_10.index t 1 * 2 ≤ (i 1).val ∧ (i 1).val < win0_10.index t 1 * 2 + 2
    rw [e1]; omega
  · show win0_10.index t 2 * 128 ≤ (i 2).val ∧ (i 2).val < win0_10.index t 2 * 128 + 128
    rw [e2]; omega

end Cert.KernelIdeal.Voc

end
-- ==== Proof.PointWp.lean ====
module

public import proofs.«01_k».proof.Proof.Point

/-! The body's run at a point, its results named by the spec. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Voc

local notation "𝕄" => MT nD τ sig Unit (Elt Ideal) ℕ (UR sig nD τ) ℕ

theorem owns_eq {c : Dev nD} {sp : Space} {S : Shape} {e : EltTy} {M : Memref sig .tc sp S e} {d d' : Vec Ideal S e} (h : d = d') :
    (owns (c : Thread nD τ) M fullShare d : sProp 𝕄) ⊢ owns (c : Thread nD τ) M fullShare d' := by
  rw [h]

section
variable (X0 X1 X2 : ℕ → ℕ → ℕ → EReal) (SG : ℕ → ℕ → BitVec 32) (b : ℕ)
variable (c : Dev nD) (i : grid0.Coords) (arg2 : Memref sig .tc .vmem S1x128x2560 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x1x1x128 .i32) (harg5 : arg5.IsWhole) (arg6 : Memref sig .tc .vmem S1x128x2560 .bf16) (harg6 : arg6.IsWhole) (arg7 : Memref sig .tc .vmem S1x10x128x256 .fp8e4m3) (harg7 : arg7.IsWhole) (arg8 : Memref sig .tc .vmem S1x10x128 .f32) (harg8 : arg8.IsWhole) (arg9 : Memref sig .tc .vmem S1x2x128x256 .fp8e4m3) (harg9 : arg9.IsWhole) (arg10 : Memref sig .tc .vmem S1x2x128 .f32) (harg10 : arg10.IsWhole) (arg11 : Memref sig .tc .vmem S1x2x128x256 .fp8e4m3) (harg11 : arg11.IsWhole) (arg12 : Memref sig .tc .vmem S1x2x128 .f32) (harg12 : arg12.IsWhole) (arg13 : Memref sig .tc .vmem S2x896x256 .fp8e4m3) (harg13 : arg13.IsWhole) (arg14 : Memref sig .tc .vmem S2x896x256 .bf16) (harg14 : arg14.IsWhole) (arg15 : Memref sig .tc .vmem S7x8x128 .f32) (harg15 : arg15.IsWhole) (arg16 : Memref sig .tc .vmem S7x1x128 .i32) (harg16 : arg16.IsWhole)
  (x0 : Vec Ideal S1x128x2560 .bf16) (x1 : Vec Ideal S1x128x512 .bf16) (x2 : Vec Ideal S1x128x512 .bf16) (x3 : Vec Ideal S1x1x1x128 .i32) (s0 : Vec Ideal S2x896x256 .fp8e4m3) (s1 : Vec Ideal S2x896x256 .bf16) (s2 : Vec Ideal S7x8x128 .f32) (s3 : Vec Ideal S7x1x128 .i32)
  (hx0 : ∀ r C, x0 (ix3 0 r C) = X0 b (128 * (i 1 : ℕ) + r.val) C.val) (hx1 : ∀ r C, x1 (ix3 0 r C) = X1 b (128 * (i 1 : ℕ) + r.val) C.val)
  (hx2 : ∀ r C, x2 (ix3 0 r C) = X2 b (128 * (i 1 : ℕ) + r.val) C.val) (hx3 : ∀ r, x3 (ix4 0 0 0 r) = SG b (128 * (i 1 : ℕ) + r.val))

include hx0 hx1 hx2 hx3 in
set_option maxHeartbeats 1600000 in
theorem wpA (hcA : cond0_0 i) (hi : (i 1 : ℕ) = 0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s0 ∗ owns (c : Thread nD τ) arg14 fullShare s1 ∗ owns (c : Thread nD τ) arg15 fullShare s2 ∗ owns (c : Thread nD τ) arg16 fullShare s3
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outB X0 X1 X2 SG b (i 1 : ℕ)) ∗ owns (c : Thread nD τ) arg7 fullShare (qcB X0 b (i 1 : ℕ)) ∗ owns (c : Thread nD τ) arg8 fullShare (qsB X0 b (i 1 : ℕ)) ∗ owns (c : Thread nD τ) arg9 fullShare (kcB X1 b (i 1 : ℕ)) ∗ owns (c : Thread nD τ) arg10 fullShare (ksB X1 b (i 1 : ℕ)) ∗ owns (c : Thread nD τ) arg11 fullShare (kcB X2 b (i 1 : ℕ)) ∗ owns (c : Thread nD τ) arg12 fullShare (ksB X2 b (i 1 : ℕ))
          ∗ (∃ u0 u1 u2 u3, ⌜Inv X1 X2 SG b ((i 1 : ℕ) + 3) u0 u1 u2 u3⌝ ∗ owns (c : Thread nD τ) arg13 fullShare u0 ∗ owns (c : Thread nD τ) arg14 fullShare u1 ∗ owns (c : Thread nD τ) arg15 fullShare u2 ∗ owns (c : Thread nD τ) arg16 fullShare u3)) -∗ K ⟨⟩))
    ⊢ wp frame (wpE (defs₀ (F := Ideal)) Variants.none c none) E (cc0_packed_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, HS0, HS1, HS2, HS3, Hk⟩
  iapply ((krunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcA x0 x1 x2 x3 s0 s1 s2 s3).2.2.2.2.2.2.2.2.2.2.property E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, ⟨%f4, H4⟩, ⟨%f5, H5⟩, ⟨%f6, H6⟩, ⟨%f7, H7⟩, ⟨%f8, H8⟩, ⟨%f9, H9⟩, ⟨%f10, H10⟩, HS0, HS1, HS2, HS3⟩
  iapply Hk
  isplitl [H0]; · iexact H0
  isplitl [H1]; · iexact H1
  isplitl [H2]; · iexact H2
  isplitl [H3]; · iexact H3
  isplitl [H4]; · iapply (owns_eq (ptA_6 X0 X1 X2 SG b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 s0 s1 s2 s3 hx0 hx1 hx2 hx3 hcA hi f4)); iexact H4
  isplitl [H5]; · iapply (owns_eq (ptA_7 X0 b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 s0 s1 s2 s3 hx0 hcA f5)); iexact H5
  isplitl [H6]; · iapply (owns_eq (ptA_8 X0 b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 s0 s1 s2 s3 hx0 hcA f6)); iexact H6
  isplitl [H7]; · iapply (owns_eq (ptA_9 X1 b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 s0 s1 s2 s3 hx1 hcA f7)); iexact H7
  isplitl [H8]; · iapply (owns_eq (ptA_10 X1 b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 s0 s1 s2 s3 hx1 hcA f8)); iexact H8
  isplitl [H9]; · iapply (owns_eq (ptA_11 X2 b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 s0 s1 s2 s3 hx2 hcA f9)); iexact H9
  isplitl [H10]; · iapply (owns_eq (ptA_12 X2 b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 s0 s1 s2 s3 hx2 hcA f10)); iexact H10
  iexists _, _, _, _
  isplitr
  · ipureintro
    exact invA X0 X1 X2 SG b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 s0 s1 s2 s3 hx0 hx1 hx2 hx3 hcA hi
  isplitl [HS0]; · iexact HS0
  isplitl [HS1]; · iexact HS1
  isplitl [HS2]; · iexact HS2
  iexact HS3

include hx0 hx1 hx2 hx3 in
set_option maxHeartbeats 1600000 in
theorem wpB (hcB : ¬ cond0_0 i) (hi : Inv X1 X2 SG b ((i 1 : ℕ) + 2) s0 s1 s2 s3) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s0 ∗ owns (c : Thread nD τ) arg14 fullShare s1 ∗ owns (c : Thread nD τ) arg15 fullShare s2 ∗ owns (c : Thread nD τ) arg16 fullShare s3
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outB X0 X1 X2 SG b (i 1 : ℕ)) ∗ owns (c : Thread nD τ) arg7 fullShare (qcB X0 b (i 1 : ℕ)) ∗ owns (c : Thread nD τ) arg8 fullShare (qsB X0 b (i 1 : ℕ)) ∗ owns (c : Thread nD τ) arg9 fullShare (kcB X1 b (i 1 : ℕ)) ∗ owns (c : Thread nD τ) arg10 fullShare (ksB X1 b (i 1 : ℕ)) ∗ owns (c : Thread nD τ) arg11 fullShare (kcB X2 b (i 1 : ℕ)) ∗ owns (c : Thread nD τ) arg12 fullShare (ksB X2 b (i 1 : ℕ))
          ∗ (∃ u0 u1 u2 u3, ⌜Inv X1 X2 SG b ((i 1 : ℕ) + 3) u0 u1 u2 u3⌝ ∗ owns (c : Thread nD τ) arg13 fullShare u0 ∗ owns (c : Thread nD τ) arg14 fullShare u1 ∗ owns (c : Thread nD τ) arg15 fullShare u2 ∗ owns (c : Thread nD τ) arg16 fullShare u3)) -∗ K ⟨⟩))
    ⊢ wp frame (wpE (defs₀ (F := Ideal)) Variants.none c none) E (cc0_packed_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, HS0, HS1, HS2, HS3, Hk⟩
  iapply ((krunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hcB x0 x1 x2 x3 s0 s1 s2 s3).2.2.2.2.2.2.2.2.2.2.property E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, ⟨%f4, H4⟩, ⟨%f5, H5⟩, ⟨%f6, H6⟩, ⟨%f7, H7⟩, ⟨%f8, H8⟩, ⟨%f9, H9⟩, ⟨%f10, H10⟩, HS0, HS1, HS2, HS3⟩
  iapply Hk
  isplitl [H0]; · iexact H0
  isplitl [H1]; · iexact H1
  isplitl [H2]; · iexact H2
  isplitl [H3]; · iexact H3
  isplitl [H4]; · iapply (owns_eq (ptB_6 X0 X1 X2 SG b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 s0 s1 s2 s3 hx0 hx1 hx2 hx3 hcB hi f4)); iexact H4
  isplitl [H5]; · iapply (owns_eq (ptB_7 X0 b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 s0 s1 s2 s3 hx0 hcB f5)); iexact H5
  isplitl [H6]; · iapply (owns_eq (ptB_8 X0 b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 s0 s1 s2 s3 hx0 hcB f6)); iexact H6
  isplitl [H7]; · iapply (owns_eq (ptB_9 X1 b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 s0 s1 s2 s3 hx1 hcB f7)); iexact H7
  isplitl [H8]; · iapply (owns_eq (ptB_10 X1 b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 s0 s1 s2 s3 hx1 hcB f8)); iexact H8
  isplitl [H9]; · iapply (owns_eq (ptB_11 X2 b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 s0 s1 s2 s3 hx2 hcB f9)); iexact H9
  isplitl [H10]; · iapply (owns_eq (ptB_12 X2 b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 s0 s1 s2 s3 hx2 hcB f10)); iexact H10
  iexists _, _, _, _
  isplitr
  · ipureintro
    exact invB X0 X1 X2 SG b c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 s0 s1 s2 s3 hx0 hx1 hx2 hx3 hcB hi
  isplitl [HS0]; · iexact HS0
  isplitl [HS1]; · iexact HS1
  isplitl [HS2]; · iexact HS2
  iexact HS3

end

end Cert.KernelIdeal.Run

end
-- ==== Proof.Run.lean ====
module

public import Idealize.ShloMosaic.Lib.Claim
public import proofs.«01_k».proof.Proof.Geom
public import proofs.«01_k».proof.Proof.PointWp

/-! The kernel's run at the ideal instance: what it leaves in its seven results. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Voc

local notation "𝕄" => MT nD τ sig Unit (Elt Ideal) ℕ (UR sig nD τ) ℕ

/-! ## The arrays at natural-number coordinates -/

/-- An array of queries, of keys or values, and of document numbers (in blocks), read at natural-number coordinates. -/
def natQ (A : S3x640x2560.Idx → EReal) (b T C : ℕ) : EReal := if h : b < 3 ∧ T < 640 ∧ C < 2560 then A (ix3 ⟨b, h.1⟩ ⟨T, h.2.1⟩ ⟨C, h.2.2⟩) else 0
def natK (A : S3x640x512.Idx → EReal) (b T C : ℕ) : EReal := if h : b < 3 ∧ T < 640 ∧ C < 512 then A (ix3 ⟨b, h.1⟩ ⟨T, h.2.1⟩ ⟨C, h.2.2⟩) else 0
def natS (A : S3x5x1x128.Idx → BitVec 32) (b T : ℕ) : BitVec 32 := if h : b < 3 ∧ T < 640 then A (ix4 ⟨b, h.1⟩ ⟨T / 128, by omega⟩ 0 ⟨T % 128, by omega⟩) else 0

variable (m : (ℓ : Loc nD τ sig) → Buf (Elt Ideal) ℓ) (ρ : Dev nD → PrngReg)

/-- The argument arrays as the kernel's grid finds them. -/
def X0 (c : Dev nD) : ℕ → ℕ → ℕ → EReal := natQ (V m c (Pipeline.arrRef spec0 0))
def X1 (c : Dev nD) : ℕ → ℕ → ℕ → EReal := natK (V m c (Pipeline.arrRef spec0 1))
def X2 (c : Dev nD) : ℕ → ℕ → ℕ → EReal := natK (V m c (Pipeline.arrRef spec0 2))
def SG (c : Dev nD) : ℕ → ℕ → BitVec 32 := natS (V m c (Pipeline.arrRef spec0 3))

theorem blk0 (c : Dev nD) (t : Fin cfg0.N) (r : Fin 128) (C : Fin 2560) :
    (show Vec Ideal S1x128x2560 .bf16 from iblk m c 0 t) (ix3 0 r C) = X0 m c (grid0.coords t 0).val (128 * (grid0.coords t 1).val + r.val) C.val := by
  have hN := N15 t
  refine (read0 (V m c (Pipeline.arrRef spec0 0)) t (ix3 0 r C)).trans ?_
  rw [coord0, coord1]
  unfold X0 natQ
  rw [dif_pos (by omega)]
  rfl
theorem blk1 (c : Dev nD) (t : Fin cfg0.N) (r : Fin 128) (C : Fin 512) :
    (show Vec Ideal S1x128x512 .bf16 from iblk m c 1 t) (ix3 0 r C) = X1 m c (grid0.coords t 0).val (128 * (grid0.coords t 1).val + r.val) C.val := by
  have hN := N15 t
  refine (read1 (V m c (Pipeline.arrRef spec0 1)) t (ix3 0 r C)).trans ?_
  rw [coord0, coord1]
  unfold X1 natK
  rw [dif_pos (by omega)]
  rfl
theorem blk2 (c : Dev nD) (t : Fin cfg0.N) (r : Fin 128) (C : Fin 512) :
    (show Vec Ideal S1x128x512 .bf16 from iblk m c 2 t) (ix3 0 r C) = X2 m c (grid0.coords t 0).val (128 * (grid0.coords t 1).val + r.val) C.val := by
  have hN := N15 t
  refine (read2 (V m c (Pipeline.arrRef spec0 2)) t (ix3 0 r C)).trans ?_
  rw [coord0, coord1]
  unfold X2 natK
  rw [dif_pos (by omega)]
  rfl
theorem blk3 (c : Dev nD) (t : Fin cfg0.N) (r : Fin 128) :
    (show Vec Ideal S1x1x1x128 .i32 from iblk m c 3 t) (ix4 0 0 0 r) = SG m c (grid0.coords t 0).val (128 * (grid0.coords t 1).val + r.val) := by
  have hN := N15 t
  have key : ∀ (A : S3x5x1x128.Idx → BitVec 32), A (((cfg0.win 3).blk t).view.emb (ix4 0 0 0 r : S1x1x1x128.Idx)) = natS A (grid0.coords t 0).val (128 * (grid0.coords t 1).val + r.val) := by
    intro A
    refine (read3 A t (ix4 0 0 0 r)).trans ?_
    rw [coord0, coord1]
    unfold natS
    rw [dif_pos (by omega)]
    refine congrArg A ?_
    funext a
    apply Fin.ext
    fin_cases a
    · rfl
    · show t.val % 5 = (128 * (t.val % 5) + r.val) / 128
      omega
    · rfl
    · show r.val = (128 * (t.val % 5) + r.val) % 128
      omega
  exact key (V m c (Pipeline.arrRef spec0 3))

/-! ## The proof data -/

/-- Before point `n`: past a batch's first block, the buffers kept between points hold the spec up to this block. -/
def Phi (c : Dev nD) (n : ℕ) : sProp 𝕄 :=
  iprop((∃ s0 s1 s2 s3, ⌜n % 5 ≠ 0 → Inv (X1 m c) (X2 m c) (SG m c) (n / 5) (n % 5 + 2) s0 s1 s2 s3⌝
    ∗ owns (c : Thread nD τ) scM0_0 fullShare s0 ∗ owns (c : Thread nD τ) scM0_1 fullShare s1 ∗ owns (c : Thread nD τ) scM0_2 fullShare s2 ∗ owns (c : Thread nD τ) scM0_3 fullShare s3)
    ∗ (∃ r, prngReg c r))

/-- The arrays as the grid finds them; each input's block left in place and each result's block as the spec says. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB (X0 m c) (X1 m c) (X2 m c) (SG m c) (grid0.coords t 0).val (grid0.coords t 1).val
    | ⟨5, _⟩ => qcB (X0 m c) (grid0.coords t 0).val (grid0.coords t 1).val
    | ⟨6, _⟩ => qsB (X0 m c) (grid0.coords t 0).val (grid0.coords t 1).val
    | ⟨7, _⟩ => kcB (X1 m c) (grid0.coords t 0).val (grid0.coords t 1).val
    | ⟨8, _⟩ => ksB (X1 m c) (grid0.coords t 0).val (grid0.coords t 1).val
    | ⟨9, _⟩ => kcB (X2 m c) (grid0.coords t 0).val (grid0.coords t 1).val
    | ⟨10, _⟩ => ksB (X2 m c) (grid0.coords t 0).val (grid0.coords t 1).val
  Φ t := Phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outB (X0 m c) (X1 m c) (X2 m c) (SG m c) (grid0.coords t 0).val (grid0.coords t 1).val := by dsimp only [dats]
theorem after0_5 (c : Dev nD) (t : Fin cfg0.N) : (dats m 0 c).after 5 t = qcB (X0 m c) (grid0.coords t 0).val (grid0.coords t 1).val := by dsimp only [dats]
theorem after0_6 (c : Dev nD) (t : Fin cfg0.N) : (dats m 0 c).after 6 t = qsB (X0 m c) (grid0.coords t 0).val (grid0.coords t 1).val := by dsimp only [dats]
theorem after0_7 (c : Dev nD) (t : Fin cfg0.N) : (dats m 0 c).after 7 t = kcB (X1 m c) (grid0.coords t 0).val (grid0.coords t 1).val := by dsimp only [dats]
theorem after0_8 (c : Dev nD) (t : Fin cfg0.N) : (dats m 0 c).after 8 t = ksB (X1 m c) (grid0.coords t 0).val (grid0.coords t 1).val := by dsimp only [dats]
theorem after0_9 (c : Dev nD) (t : Fin cfg0.N) : (dats m 0 c).after 9 t = kcB (X2 m c) (grid0.coords t 0).val (grid0.coords t 1).val := by dsimp only [dats]
theorem after0_10 (c : Dev nD) (t : Fin cfg0.N) : (dats m 0 c).after 10 t = ksB (X2 m c) (grid0.coords t 0).val (grid0.coords t 1).val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 4800000 in
/-- From the blocks and the kept buffers the body leaves the results' blocks and the kept buffers one block further. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.castSucc = Phi m c t.val from rfl, show (dats m 0 c).Φ t.succ = Phi m c (t.val + 1) from rfl,
    after0_0, after0_1, after0_2, after0_3, after0_4, after0_5, after0_6, after0_7, after0_8, after0_9, after0_10]
  unfold Phi
  have hN := N15 t
  have e0 := coord0 t
  have e1 := coord1 t
  have b0 := blk0 m c t
  have b1 := blk1 m c t
  have b2 := blk2 m c t
  have b3 := blk3 m c t
  by_cases h0 : t.val % 5 = 0
  · iintro ⟨⟨⟨%s0, %s1, %s2, %s3, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hi : (grid0.coords t 1 : ℕ) = 0 := e1.trans h0
    iapply (wpA (X0 m c) (X1 m c) (X2 m c) (SG m c) (grid0.coords t 0).val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) s0 s1 s2 s3 b0 b1 b2 b3 ((hcond0_0 t).mpr h0) hi Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, %u0, %u1, %u2, %u3, %hu, HS0, HS1, HS2, HS3⟩
    isplitl [HS0 HS1 HS2 HS3 Hg]
    · isplitl [HS0 HS1 HS2 HS3]
      · iexists u0, u1, u2, u3
        isplitr
        · ipureintro
          intro hn
          have hb : (t.val + 1) / 5 = (grid0.coords t 0).val := by omega
          have hk : (t.val + 1) % 5 + 2 = (grid0.coords t 1 : ℕ) + 3 := by omega
          rw [hb, hk]
          exact hu
        · isplitl [HS0]
          · iexact HS0
          isplitl [HS1]
          · iexact HS1
          isplitl [HS2]
          · iexact HS2
          iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨⟨⟨%s0, %s1, %s2, %s3, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hJ : Inv (X1 m c) (X2 m c) (SG m c) (grid0.coords t 0).val ((grid0.coords t 1 : ℕ) + 2) s0 s1 s2 s3 := by rw [e0, e1]; exact hI h0
    iapply (wpB (X0 m c) (X1 m c) (X2 m c) (SG m c) (grid0.coords t 0).val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) s0 s1 s2 s3 b0 b1 b2 b3 (fun h => h0 ((hcond0_0 t).mp h)) hJ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, %u0, %u1, %u2, %u3, %hu, HS0, HS1, HS2, HS3⟩
    isplitl [HS0 HS1 HS2 HS3 Hg]
    · isplitl [HS0 HS1 HS2 HS3]
      · iexists u0, u1, u2, u3
        isplitr
        · ipureintro
          intro hn
          have hb : (t.val + 1) / 5 = (grid0.coords t 0).val := by omega
          have hk : (t.val + 1) % 5 + 2 = (grid0.coords t 1 : ℕ) + 3 := by omega
          rw [hb, hk]
          exact hu
        · isplitl [HS0]
          · iexact HS0
          isplitl [HS1]
          · iexact HS1
          isplitl [HS2]
          · iexact HS2
          iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := Ideal) .tc cfg0.body (cfg0.bodyArgs t (cfg0.slots t)) = bodyAt0 t := by
  unfold defs₀; rw [Defs.onTc_tc]
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

theorem Phi_in (c : Dev nD) : (Pipeline.ΦA spec0 c : sProp 𝕄) ⊢ Phi m c 0 := by
  rw [PhiA0_eq]
  unfold Phi
  iintro ⟨⟨⟨%s0, HS0⟩, ⟨%s1, HS1⟩, ⟨%s2, HS2⟩, ⟨%s3, HS3⟩⟩, Hg⟩
  isplitl [HS0 HS1 HS2 HS3]
  · iexists s0, s1, s2, s3
    isplitr
    · ipureintro
      intro h
      exact absurd rfl h
    isplitl [HS0]
    · iexact HS0
    isplitl [HS1]
    · iexact HS1
    isplitl [HS2]
    · iexact HS2
    iexact HS3
  iexact Hg
theorem Phi_out (c : Dev nD) (n : ℕ) : Phi m c n ⊢ (Pipeline.ΦA spec0 c : sProp 𝕄) := by
  rw [PhiA0_eq]
  unfold Phi
  iintro ⟨⟨%s0, %s1, %s2, %s3, %hI, HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
/-- Every execution terminates with the pipeline's arrays as the proof data says and the counters at zero. -/
theorem run_main_quiescent : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Phi_in m c) (hout := fun c => Phi_out m c _)
theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged and the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Quant.lean ====
module

public import proofs.«01_k».proof.Proof.Read

/-! The quantiser's scale, found from a pattern of bits, is a power of two: the one that the logarithm gives. -/

@[expose] public section

set_option maxRecDepth 16384

noncomputable section

namespace Cert.KernelIdeal.Voc

open Idealize.ShloMosaic

/-! ## The values of the patterns -/

/-- The real that the pattern `B` denotes, were there no infinities. -/
def valR (B : ℕ) : ℝ := if B / 128 = 0 then ((B % 128 : ℕ) : ℝ) * (2 : ℝ) ^ (-133 : ℤ) else ((128 + B % 128 : ℕ) : ℝ) * (2 : ℝ) ^ ((B / 128 : ℕ) - 134 : ℤ)
/-- The extended real that the pattern `B` denotes. -/
def val (B : ℕ) : EReal := FloatOps.ofBits (F := Ideal) .bf16 (BitVec.ofNat 16 B)

theorem val_eq (B : ℕ) (h : B < 32640) : val B = ((valR B : ℝ) : EReal) := by
  have e0 : ((BitVec.ofNat 16 B).extractLsb' 15 1 == 1#1) = false := by
    rw [beq_eq_false_iff_ne]
    intro he
    have := congrArg BitVec.toNat he
    simp [BitVec.extractLsb'_toNat, Nat.shiftRight_eq_div_pow] at this
    omega
  have e1 : ((BitVec.ofNat 16 B).extractLsb' 7 8).toNat = B / 128 := by
    simp [BitVec.extractLsb'_toNat, Nat.shiftRight_eq_div_pow]; omega
  have e2 : ((BitVec.ofNat 16 B).extractLsb' 0 7).toNat = B % 128 := by
    simp [BitVec.extractLsb'_toNat, Nat.shiftRight_eq_div_pow]
  show Ideal.ieee 8 7 (BitVec.ofNat 16 B) = _
  unfold Ideal.ieee valR
  simp only [e1, e2]
  rw [show ((BitVec.ofNat 16 B).extractLsb' (8 + 7) 1 == 1#1) = false from e0]
  rw [if_neg (by omega)]
  by_cases hz : B / 128 = 0
  · rw [if_pos hz, if_pos hz]
    norm_num
  · rw [if_neg hz, if_neg hz]
    norm_num
    rw [sub_sub]
    norm_num
theorem val_top : val 32640 = ⊤ := by
  show Ideal.ieee 8 7 (BitVec.ofNat 16 32640) = _
  simp [Ideal.ieee]

theorem valR_succ (B : ℕ) : valR B ≤ valR (B + 1) := by
  unfold valR
  by_cases h : B % 128 = 127
  · have a1 : (B + 1) % 128 = 0 := by omega
    have a2 : (B + 1) / 128 = B / 128 + 1 := by omega
    rw [a1, a2, h, if_neg (by omega : ¬ B / 128 + 1 = 0)]
    by_cases hz : B / 128 = 0
    · rw [if_pos hz, hz]; norm_num
    · rw [if_neg hz]
      have : ((B / 128 + 1 : ℕ) - 134 : ℤ) = ((B / 128 : ℕ) - 134 : ℤ) + 1 := by push_cast; ring
      rw [this, zpow_add₀ (by norm_num)]
      have hp : (0 : ℝ) < (2 : ℝ) ^ ((B / 128 : ℕ) - 134 : ℤ) := by positivity
      push_cast
      push_cast at hp
      nlinarith
  · have a1 : (B + 1) % 128 = B % 128 + 1 := by omega
    have a2 : (B + 1) / 128 = B / 128 := by omega
    rw [a1, a2]
    split_ifs
    · exact mul_le_mul_of_nonneg_right (by push_cast; linarith) (by positivity)
    · exact mul_le_mul_of_nonneg_right (by push_cast; linarith) (by positivity)
theorem valR_mono : Monotone valR := monotone_nat_of_le_succ valR_succ
theorem val_mono {B C : ℕ} (h : B ≤ C) (hC : C ≤ 32640) : val B ≤ val C := by
  rcases Nat.lt_or_ge C 32640 with h' | h'
  · rw [val_eq B (by omega), val_eq C h', EReal.coe_le_coe_iff]
    exact valR_mono h
  · rw [show C = 32640 by omega, val_top]
    exact le_top

/-! ## The search -/

/-- What the search knows with `n` left to decide. -/
def Found (a : EReal) (n : ℕ) (b : BitVec 16) : Prop :=
  ∃ B : ℕ, b = BitVec.ofNat 16 B ∧ n ∣ B ∧ B < 32640 ∧ B + n ≤ 32768 ∧ val B ≤ a ∧ (B + n ≤ 32640 → a < val (B + n))

theorem found_step (a : EReal) (ha : a < ⊤) (n : ℕ) (b : BitVec 16)
    (hn : ∀ B : ℕ, 2 * n ∣ B → B < 32640 → B + 2 * n ≤ 32768 → B + n ≤ 32640) (h : Found a (2 * n) b) :
    Found a n (stepE a (BitVec.ofNat 16 n) b) := by
  obtain ⟨B, rfl, hd, hB, hle, hv, hnx⟩ := h
  have hc := hn B hd hB hle
  have hdn : n ∣ B := (Dvd.intro_left 2 rfl).trans hd
  have e : BitVec.ofNat 16 B + BitVec.ofNat 16 n = BitVec.ofNat 16 (B + n) := (BitVec.ofNat_add B n).symm
  unfold stepE
  rw [e]
  by_cases hle' : (FloatOps.ofBits (F := Ideal) .bf16 (BitVec.ofNat 16 (B + n)) : EReal) ≤ a
  · rw [if_pos hle']
    have hlt : B + n < 32640 := by
      rcases Nat.lt_or_ge (B + n) 32640 with h' | h'
      · exact h'
      · have e' : B + n = 32640 := by omega
        have : val (B + n) ≤ a := hle'
        rw [e', val_top] at this
        exact absurd ha (not_lt.mpr this)
    refine ⟨B + n, rfl, (Nat.dvd_add_right hdn).mpr (dvd_refl n), hlt, by omega, hle', fun h' => ?_⟩
    have := hnx (by omega)
    rwa [show B + n + n = B + 2 * n by omega]
  · rw [if_neg hle']
    exact ⟨B, rfl, hdn, hB, by omega, hv, fun _ => not_le.mp hle'⟩

/-- The pattern found is the last whose value is at most `a`. -/
theorem bitsE_found (a : EReal) (h0 : 0 ≤ a) (ha : a < ⊤) :
    ∃ B : ℕ, bitsE a = BitVec.ofNat 16 B ∧ B < 32640 ∧ val B ≤ a ∧ a < val (B + 1) := by
  have s0 : Found a 32768 0#16 := ⟨0, rfl, dvd_zero _, by norm_num, by norm_num, by
    rw [val_eq 0 (by norm_num)]; unfold valR; simpa using h0, fun h => absurd h (by norm_num)⟩
  have s1 := found_step a ha 16384 _ (fun B => by omega) s0
  have s2 := found_step a ha 8192 _ (fun B => by omega) s1
  have s3 := found_step a ha 4096 _ (fun B => by omega) s2
  have s4 := found_step a ha 2048 _ (fun B => by omega) s3
  have s5 := found_step a ha 1024 _ (fun B => by omega) s4
  have s6 := found_step a ha 512 _ (fun B => by omega) s5
  have s7 := found_step a ha 256 _ (fun B => by omega) s6
  have s8 := found_step a ha 128 _ (fun B => by omega) s7
  have s9 := found_step a ha 64 _ (fun B => by omega) s8
  have s10 := found_step a ha 32 _ (fun B => by omega) s9
  have s11 := found_step a ha 16 _ (fun B => by omega) s10
  have s12 := found_step a ha 8 _ (fun B => by omega) s11
  have s13 := found_step a ha 4 _ (fun B => by omega) s12
  have s14 := found_step a ha 2 _ (fun B => by omega) s13
  have s15 := found_step a ha 1 _ (fun B => by omega) s14
  obtain ⟨B, hb, -, hB, -, hv, hn⟩ := s15
  exact ⟨B, hb, hB, hv, hn (by omega)⟩

/-! ## The power of two -/

theorem and_mask (x : ℕ) (h : x < 32768) : x &&& 32640 = 128 * (x / 128) := by
  have h1 : x / 128 &&& 255 = x / 128 := by
    rw [show (255 : ℕ) = 2 ^ 8 - 1 by norm_num, Nat.and_two_pow_sub_one_eq_mod]; omega
  apply Nat.eq_of_testBit_eq
  intro j
  have hx : x = 2 ^ 7 * (x / 128) + x % 128 := by omega
  rw [Nat.testBit_and, show (32640 : ℕ) = 2 ^ 7 * 255 + 0 by norm_num, Nat.testBit_two_pow_mul_add _ (by norm_num),
    show 128 * (x / 128) = 2 ^ 7 * (x / 128) + 0 by norm_num, Nat.testBit_two_pow_mul_add _ (by norm_num)]
  by_cases hj : j < 7
  · simp [hj]
  · conv_lhs => rw [hx, Nat.testBit_two_pow_mul_add _ (by omega : x % 128 < 2 ^ 7)]
    simp only [hj, if_false]
    rw [← Nat.testBit_and, h1]

theorem slt_no : ∀ K : Fin 246, (BitVec.ofNat 16 (128 * (K.val + 10))).slt 1280#16 = false := by decide

theorem val_pow (J : ℕ) (h1 : 1 ≤ J) (h2 : J < 255) : val (128 * J) = (((2 : ℝ) ^ ((J : ℤ) - 127) : ℝ) : EReal) := by
  rw [val_eq _ (by omega)]
  unfold valR
  have a1 : 128 * J / 128 = J := by omega
  have a2 : 128 * J % 128 = 0 := by omega
  rw [a1, a2, if_neg (by omega)]
  congr 1
  rw [show ((J : ℤ) - 127) = ((J : ℤ) - 134) + 7 by ring, zpow_add₀ (by norm_num)]
  norm_num; ring

theorem val_448 (J : ℕ) (h1 : 1 ≤ J) (h2 : J < 255) : val (128 * J + 96) = ((448 * (2 : ℝ) ^ ((J : ℤ) - 135) : ℝ) : EReal) := by
  rw [val_eq _ (by omega)]
  unfold valR
  have a1 : (128 * J + 96) / 128 = J := by omega
  have a2 : (128 * J + 96) % 128 = 96 := by omega
  rw [a1, a2, if_neg (by omega)]
  congr 1
  rw [show ((J : ℤ) - 134) = ((J : ℤ) - 135) + 1 by ring, zpow_add₀ (by norm_num)]
  norm_num; ring

/-- The rounded pattern between two thresholds. -/
theorem expoE_eq (r : ℝ) (K : ℕ) (h1 : 10 ≤ K) (h2 : K ≤ 255) (hlo : 448 * (2 : ℝ) ^ ((K : ℤ) - 136) ≤ r)
    (hhi : r < 448 * (2 : ℝ) ^ ((K : ℤ) - 135)) : expoE ((r : ℝ) : EReal) = BitVec.ofNat 16 (128 * K) := by
  have h0 : (0 : ℝ) ≤ r := le_trans (by positivity) hlo
  obtain ⟨B, hb, hB, hv, hn⟩ := bitsE_found ((r : ℝ) : EReal) (by exact_mod_cast h0) (EReal.coe_lt_top r)
  have b1 : 128 * (K - 1) + 96 ≤ B := by
    by_contra hc
    have := val_mono (B := B + 1) (C := 128 * (K - 1) + 96) (by omega) (by omega)
    rw [val_448 (K - 1) (by omega) (by omega)] at this
    have hlt := lt_of_lt_of_le hn this
    rw [EReal.coe_lt_coe_iff] at hlt
    rw [show (((K - 1 : ℕ) : ℤ) - 135) = (K : ℤ) - 136 by omega] at hlt
    linarith
  have b2 : B < 128 * K + 96 := by
    by_contra hc
    have hK : K < 255 := by omega
    have := val_mono (B := 128 * K + 96) (C := B) (by omega) (by omega)
    rw [val_448 K (by omega) hK] at this
    have hle := le_trans this hv
    rw [EReal.coe_le_coe_iff] at hle
    linarith
  unfold expoE
  rw [hb]
  apply BitVec.eq_of_toNat_eq
  rw [BitVec.toNat_and]
  have e : (BitVec.ofNat 16 B + 32#16).toNat = B + 32 := by
    rw [BitVec.toNat_add, BitVec.toNat_ofNat, BitVec.toNat_ofNat]; omega
  rw [e]
  show (B + 32) &&& 32640 = _
  rw [and_mask _ (by omega), BitVec.toNat_ofNat]
  omega

/-- The exponent that the logarithm gives. -/
def expR (r : ℝ) : ℤ := ⌊Real.log (r * 448⁻¹) / Real.log 2⌋ + 1

theorem expR_bounds (r : ℝ) (hr : 0 < r) : 448 * (2 : ℝ) ^ (expR r - 1) ≤ r ∧ r < 448 * (2 : ℝ) ^ (expR r) := by
  have hq : 0 < r * 448⁻¹ := by positivity
  have hl : (0 : ℝ) < Real.log 2 := Real.log_pos (by norm_num)
  have e : (2 : ℝ) ^ (Real.log (r * 448⁻¹) / Real.log 2) = r * 448⁻¹ := by
    rw [Real.rpow_def_of_pos (by norm_num), mul_div_cancel₀ _ hl.ne', Real.exp_log hq]
  have l1 := Real.rpow_le_rpow_of_exponent_le (x := 2) (by norm_num) (Int.floor_le (Real.log (r * 448⁻¹) / Real.log 2))
  have l2 := Real.rpow_lt_rpow_of_exponent_lt (x := 2) (by norm_num) (Int.lt_floor_add_one (Real.log (r * 448⁻¹) / Real.log 2))
  rw [e] at l1 l2
  rw [Real.rpow_intCast] at l1
  have l2' : r * 448⁻¹ < (2 : ℝ) ^ (expR r) := by
    have := l2
    rw [show ((⌊Real.log (r * 448⁻¹) / Real.log 2⌋ : ℝ) + 1) = ((⌊Real.log (r * 448⁻¹) / Real.log 2⌋ + 1 : ℤ) : ℝ) by push_cast; rfl, Real.rpow_intCast] at this
    exact this
  have e1 : expR r - 1 = ⌊Real.log (r * 448⁻¹) / Real.log 2⌋ := by unfold expR; ring
  rw [e1]
  constructor
  · linarith
  · linarith

/-- A row's greatest magnitude in the range of the quantiser: zero, or a real between two bounds. -/
def Good (a : EReal) : Prop := a = 0 ∨ ∃ r : ℝ, a = (r : EReal) ∧ 448 * (2 : ℝ) ^ (-126 : ℤ) ≤ r ∧ r ≤ 255 * (2 : ℝ) ^ (120 : ℤ)

/-- The exponent of the scale of a row whose greatest magnitude is `a`. -/
def expZ (a : EReal) : ℤ := if a = 0 then 0 else expR a.toReal

theorem expR_range (r : ℝ) (h1 : 448 * (2 : ℝ) ^ (-126 : ℤ) ≤ r) (h2 : r ≤ 255 * (2 : ℝ) ^ (120 : ℤ)) : -125 ≤ expR r ∧ expR r ≤ 120 := by
  have hr : 0 < r := lt_of_lt_of_le (by positivity) h1
  obtain ⟨l1, l2⟩ := expR_bounds r hr
  constructor
  · have : (2 : ℝ) ^ (-126 : ℤ) < (2 : ℝ) ^ (expR r) := by linarith
    have := (zpow_lt_zpow_iff_right₀ (by norm_num : (1 : ℝ) < 2)).mp this
    omega
  · have hp : (0 : ℝ) < (2 : ℝ) ^ (120 : ℤ) := by positivity
    have : (2 : ℝ) ^ (expR r - 1) < (2 : ℝ) ^ (120 : ℤ) := by linarith
    have := (zpow_lt_zpow_iff_right₀ (by norm_num : (1 : ℝ) < 2)).mp this
    omega

theorem expoE_zero : expoE 0 = 0#16 := by
  obtain ⟨B, hb, hB, hv, hn⟩ := bitsE_found 0 le_rfl EReal.zero_lt_top
  have : B = 0 := by
    by_contra hc
    have h1 := le_trans (val_mono (B := 1) (C := B) (by omega) (by omega)) hv
    rw [val_eq 1 (by norm_num)] at h1
    unfold valR at h1
    norm_num at h1
  unfold expoE
  rw [hb, this]
  decide

/-- The scale and its reciprocal are that power of two and its reciprocal. -/
theorem scaleE_eq (a : EReal) (h : Good a) : scaleE a = (((2 : ℝ) ^ expZ a : ℝ) : EReal) ∧ invE a = (((2 : ℝ) ^ (-expZ a) : ℝ) : EReal) := by
  rcases h with rfl | ⟨r, rfl, h1, h2⟩
  · have one : val 16256 = ((1 : ℝ) : EReal) := by
      rw [show 16256 = 128 * 127 by norm_num, val_pow 127 (by norm_num) (by norm_num)]; norm_num
    unfold scaleE invE expZ
    rw [expoE_zero, if_pos rfl, if_pos (by decide), if_pos (by decide)]
    norm_num
  · have hr : 0 < r := lt_of_lt_of_le (by positivity) h1
    have hne : ((r : ℝ) : EReal) ≠ 0 := by exact_mod_cast hr.ne'
    obtain ⟨l1, l2⟩ := expR_bounds r hr
    obtain ⟨m1, m2⟩ := expR_range r h1 h2
    have hz : expZ ((r : ℝ) : EReal) = expR r := by unfold expZ; rw [if_neg hne, EReal.toReal_coe]
    rw [hz]
    generalize expR r = z at *
    obtain ⟨K, hK⟩ : ∃ K : ℕ, (K : ℤ) = z + 135 := ⟨(z + 135).toNat, by omega⟩
    have hK1 : 10 ≤ K := by omega
    have hK2 : K ≤ 255 := by omega
    have hx := expoE_eq r K hK1 hK2 (by rw [show (K : ℤ) - 136 = z - 1 by omega]; exact l1) (by rw [show (K : ℤ) - 135 = z by omega]; exact l2)
    have hs := slt_no ⟨K - 10, by omega⟩
    rw [show K - 10 + 10 = K by omega] at hs
    unfold scaleE invE
    rw [hx, hs]
    have d1 : BitVec.ofNat 16 (128 * K) - 1024#16 = BitVec.ofNat 16 (128 * (K - 8)) := by
      apply BitVec.eq_of_toNat_eq
      rw [BitVec.toNat_sub, BitVec.toNat_ofNat, BitVec.toNat_ofNat, BitVec.toNat_ofNat]
      omega
    have d2 : 33536#16 - BitVec.ofNat 16 (128 * K) = BitVec.ofNat 16 (128 * (262 - K)) := by
      apply BitVec.eq_of_toNat_eq
      rw [BitVec.toNat_sub, BitVec.toNat_ofNat, BitVec.toNat_ofNat, BitVec.toNat_ofNat]
      omega
    rw [d1, d2]
    constructor
    · refine (val_pow (K - 8) (by omega) (by omega)).trans ?_
      congr 2; omega
    · refine (val_pow (262 - K) (by omega) (by omega)).trans ?_
      congr 2; omega

end Cert.KernelIdeal.Voc

end
-- ==== Proof.RefRead.lean ====
module

public import Idealize.ShloMosaic.Lib.Pointwise
public import proofs.«01_k».proof.Proof.Quant
public import proofs.«01_k».proof.Proof.Gen.ReferenceIdeal.Frame

/-! The reference's quantiser and attention read at an index. -/

@[expose] public section

set_option maxRecDepth 16384
set_option maxHeartbeats 20000

noncomputable section

namespace Cert.ReferenceIdeal.Rd

open Idealize.ShloMosaic Cert.ReferenceIdeal Cert.ReferenceIdeal.Gen
open Cert.KernelIdeal.Voc (amaxE clipE f32_ninf f32_448 f32_n448)

/-- The exponent that the reference finds for a row whose greatest magnitude is `a`. -/
def rE (a : EReal) : EReal :=
  if a = 0 then 0 else (Ideal.liftRound Int.floor (Ideal.div (Ideal.log (a * ((448⁻¹ : ℝ) : EReal))) ((Real.log 2 : ℝ) : EReal)) + 1)

theorem inv448 : (Named.named (F := Ideal) (φ := .f32) κ "inv_e4m3_max" 0x3B124925#32 : EReal) = ((448⁻¹ : ℝ) : EReal) := rfl
theorem ln2 : (Named.named (F := Ideal) (φ := .f32) κ "ln2" 0x3F317218#32 : EReal) = ((Real.log 2 : ℝ) : EReal) := rfl
theorem absE (x : EReal) : (FloatOps.absf (F := Ideal) (φ := .f32) x : EReal) = max x (-x) := rfl
theorem exp2E (x : EReal) : (FloatOps.exp2 (F := Ideal) (φ := .f32) x : EReal) = Ideal.exp2 x := rfl
theorem f32_one : Ideal.ofBits .f32 0x3F800000#32 = (1 : EReal) := by
  simp [Ideal.ofBits, Ideal.ieee]; try rw [← EReal.coe_mul]; norm_num

/-- The exponent of a row's scale, from the row's greatest magnitude, in the reference's operations. -/
def qexp {F : FTy → Type} [FloatOps F] [Named F] (a : F .f32) : F .f32 :=
  Scalar.select (FloatOps.cmpf .oeq a (Scalar.ofBits .f32 0x00000000#32)) (Scalar.ofBits .f32 0x00000000#32)
    (FloatOps.addf (FloatOps.floor (FloatOps.divf (FloatOps.log (FloatOps.mulf a (Named.named κ "inv_e4m3_max" 0x3B124925#32))) (Named.named κ "ln2" 0x3F317218#32))) (Scalar.ofBits .f32 0x3F800000#32))
/-- The greatest magnitudes of the query's rows. -/
def amxQ {F : FTy → Type} [FloatOps F] [Named F] (x : FVec F S3x10x640x256 .bf16) : FVec F S3x10x640 .f32 :=
  multiReduction .maximumf [3] S3x10x640 (absf (k0_pay2 x)) 0xFF800000#32 reduces_S3x10x640x256_S3x10x640 (.inl rfl) rfl
/-- The greatest magnitudes of the key's (the value's) rows. -/
def amxK {F : FTy → Type} [FloatOps F] [Named F] (x : FVec F S3x2x640x256 .bf16) : FVec F S3x2x640 .f32 :=
  multiReduction .maximumf [3] S3x2x640 (absf (k0_pay6 x)) 0xFF800000#32 reduces_S3x2x640x256_S3x2x640 (.inl rfl) rfl

section
variable {F : FTy → Type} [FloatOps F] [Named F]
theorem pay3_eq (x : FVec F S3x10x640x256 .bf16) (y : S3x10x640.Idx) : k0_pay3 x y = qexp (amxQ x y) := rfl
theorem pay4_eq (x : FVec F S3x10x640x256 .bf16) (y : S3x10x640.Idx) : k0_pay4 x y = FloatOps.exp2 (qexp (amxQ x y)) := rfl
theorem pay9_eq (x : FVec F S3x2x640x256 .bf16) (y : S3x2x640.Idx) : k0_pay9 (k0_pay7 x) (k0_pay8 x) y = qexp (amxK x y) := rfl
theorem pay10_eq (x : FVec F S3x2x640x256 .bf16) (y : S3x2x640.Idx) : k0_pay10 (k0_pay7 x) (k0_pay8 x) y = FloatOps.exp2 (qexp (amxK x y)) := rfl
theorem pay13_eq (x : FVec F S3x2x640x256 .bf16) (y : S3x2x640.Idx) : k0_pay13 x y = qexp (amxK x y) := rfl
theorem pay14_eq (x : FVec F S3x2x640x256 .bf16) (y : S3x2x640.Idx) : k0_pay14 x y = FloatOps.exp2 (qexp (amxK x y)) := rfl
/-- The query's codes, from the entries and the exponents. -/
def quantQ (X : FVec F S3x10x640x256 .f32) (E : FVec F S3x10x640 .f32) : FVec F S3x10x640x256 .fp8e4m3 :=
  truncf .fp8e4m3 (minimumf (broadcast S3x10x640x256 (Scalar.ofBits .f32 0x43E00000#32)) (maximumf (broadcast S3x10x640x256 (Scalar.ofBits .f32 0xC3E00000#32))
    (mulf X (broadcastTo S3x10x640x256 (shapeCast S3x10x640x1 (exp2 (subf (broadcast S3x10x640 (Scalar.ofBits .f32 0x00000000#32)) E)) shapeCasts_S3x10x640_S3x10x640x1) broadcasts_S3x10x640x1_S3x10x640x256)))) bitsLt_fp8e4m3_f32
/-- The value's codes, from the entries and the exponents. -/
def quantK (X : FVec F S3x2x640x256 .f32) (E : FVec F S3x2x640 .f32) : FVec F S3x2x640x256 .fp8e4m3 :=
  truncf .fp8e4m3 (minimumf (broadcast S3x2x640x256 (Scalar.ofBits .f32 0x43E00000#32)) (maximumf (broadcast S3x2x640x256 (Scalar.ofBits .f32 0xC3E00000#32))
    (mulf X (broadcastTo S3x2x640x256 (shapeCast S3x2x640x1 (exp2 (subf (broadcast S3x2x640 (Scalar.ofBits .f32 0x00000000#32)) E)) shapeCasts_S3x2x640_S3x2x640x1) broadcasts_S3x2x640x1_S3x2x640x256)))) bitsLt_fp8e4m3_f32
theorem pay5_eq (x : FVec F S3x10x640x256 .bf16) : k0_pay5 x = quantQ (k0_pay2 x) (k0_pay3 x) := rfl
theorem pay16_eq (x : FVec F S3x2x640x256 .bf16) : k0_pay16 (k0_pay15 x) (Scalar.ofBits .f32 0xC3E00000#32) = quantK (k0_pay12 x) (k0_pay13 x) := rfl
end

theorem zeroB : (FloatOps.ofBits (F := Ideal) .f32 0x00000000#32 : EReal) = 0 := by
  show Ideal.ofBits .f32 0x00000000#32 = 0
  simp [Ideal.ofBits, Ideal.ieee]
/-- That exponent over the extended reals. -/
theorem qexp_eq (a : EReal) : qexp (F := Ideal) a = rE a := by
  unfold qexp rE
  rw [inv448, ln2]
  have z : (Scalar.ofBits (F := Ideal) .f32 0x00000000#32 : EReal) = 0 := zeroB
  have w : (Scalar.ofBits (F := Ideal) .f32 0x3F800000#32 : EReal) = 1 := f32_one
  rw [z, w]
  by_cases h : a = 0
  · rw [if_pos h]
    have : FloatOps.cmpf (F := Ideal) (φ := .f32) .oeq a 0 = 1#1 := by
      show Ideal.cmp .oeq a 0 = 1#1
      simp [Ideal.cmp, h]
    rw [this]; rfl
  · rw [if_neg h]
    have : FloatOps.cmpf (F := Ideal) (φ := .f32) .oeq a 0 = 0#1 := by
      show Ideal.cmp .oeq a 0 = 0#1
      simp [Ideal.cmp, h]
    rw [this]; rfl

theorem amxQ_apply (x : FVec Ideal S3x10x640x256 .bf16) (b : Fin 3) (h : Fin 10) (T : Fin 640) :
    amxQ (F := Ideal) x (ix3 b h T) = amaxE fun k => x (ix4 b h T k) := by
  pointwise [amxQ, k0_pay2, amaxE]
  rw [f32_ninf]; rfl
theorem amxK_apply (x : FVec Ideal S3x2x640x256 .bf16) (b : Fin 3) (h : Fin 2) (T : Fin 640) :
    amxK (F := Ideal) x (ix3 b h T) = amaxE fun k => x (ix4 b h T k) := by
  pointwise [amxK, k0_pay6, amaxE]
  rw [f32_ninf]; rfl

/-- The query's scales at an index. -/
theorem qs_apply (x : FVec Ideal S3x10x640x256 .bf16) (b : Fin 3) (h : Fin 10) (T : Fin 640) :
    k0_pay4 (F := Ideal) x (ix3 b h T) = Ideal.exp2 (rE (amaxE fun k => x (ix4 b h T k))) := by
  rw [pay4_eq, amxQ_apply, qexp_eq]; rfl
/-- The key's scales at an index. -/
theorem ks_apply (x : FVec Ideal S3x2x640x256 .bf16) (b : Fin 3) (h : Fin 2) (T : Fin 640) :
    k0_pay10 (F := Ideal) (k0_pay7 x) (k0_pay8 x) (ix3 b h T) = Ideal.exp2 (rE (amaxE fun k => x (ix4 b h T k))) := by
  rw [pay10_eq, amxK_apply, qexp_eq]; rfl
/-- The value's scales at an index. -/
theorem vs_apply (x : FVec Ideal S3x2x640x256 .bf16) (b : Fin 3) (h : Fin 2) (T : Fin 640) :
    k0_pay14 (F := Ideal) x (ix3 b h T) = Ideal.exp2 (rE (amaxE fun k => x (ix4 b h T k))) := by
  rw [pay14_eq, amxK_apply, qexp_eq]; rfl

/-- The query's codes at an index. -/
theorem qc_apply (x : FVec Ideal S3x10x640x256 .bf16) (b : Fin 3) (h : Fin 10) (T : Fin 640) (d : Fin 256) :
    k0_pay5 (F := Ideal) x (ix4 b h T d) = clipE (x (ix4 b h T d) * Ideal.exp2 (0 - rE (amaxE fun k => x (ix4 b h T k)))) := by
  have e : ∀ E : FVec Ideal S3x10x640 .f32, quantQ (F := Ideal) (k0_pay2 x) E (ix4 b h T d) = clipE (x (ix4 b h T d) * Ideal.exp2 (0 - E (ix3 b h T))) := by
    intro E
    pointwise [quantQ, k0_pay2, clipE]
    simp only [exp2E]
  rw [pay5_eq, e, pay3_eq, amxQ_apply, qexp_eq]
/-- The key's codes at an index. -/
theorem kc_apply (x : FVec Ideal S3x2x640x256 .bf16) (b : Fin 3) (h : Fin 2) (T : Fin 640) (d : Fin 256) :
    k0_pay11 (F := Ideal) (k0_pay6 x) (k0_pay7 x) (k0_pay8 x) (ix4 b h T d) = clipE (x (ix4 b h T d) * Ideal.exp2 (0 - rE (amaxE fun k => x (ix4 b h T k)))) := by
  have e : ∀ v33 v39 : FVec Ideal S3x2x640 .f32, k0_pay11 (F := Ideal) (k0_pay6 x) v33 v39 (ix4 b h T d) = clipE (x (ix4 b h T d) * Ideal.exp2 (0 - k0_pay9 (F := Ideal) v33 v39 (ix3 b h T))) := by
    intro v33 v39
    pointwise [k0_pay11, k0_pay6, clipE]
    simp only [exp2E]
  rw [e, pay9_eq, amxK_apply, qexp_eq]
/-- The value's codes at an index. -/
theorem vc_apply (x : FVec Ideal S3x2x640x256 .bf16) (b : Fin 3) (h : Fin 2) (T : Fin 640) (d : Fin 256) :
    k0_pay16 (F := Ideal) (k0_pay15 x) (Scalar.ofBits .f32 0xC3E00000#32) (ix4 b h T d) = clipE (x (ix4 b h T d) * Ideal.exp2 (0 - rE (amaxE fun k => x (ix4 b h T k)))) := by
  have e : ∀ E : FVec Ideal S3x2x640 .f32, quantK (F := Ideal) (k0_pay12 x) E (ix4 b h T d) = clipE (x (ix4 b h T d) * Ideal.exp2 (0 - E (ix3 b h T))) := by
    intro E
    pointwise [quantK, k0_pay12, clipE]
    simp only [exp2E]
  rw [pay16_eq, e, pay13_eq, amxK_apply, qexp_eq]

theorem sle_nat (a b : ℕ) (ha : a < 640) (hb : b < 640) : (BitVec.ofNat 32 a).sle (BitVec.ofNat 32 b) = decide (a ≤ b) := by
  have e1 : (BitVec.ofNat 32 a).toInt = (a : ℤ) := by
    rw [BitVec.toInt_eq_toNat_of_lt] <;> simp <;> omega
  have e2 : (BitVec.ofNat 32 b).toInt = (b : ℤ) := by
    rw [BitVec.toInt_eq_toNat_of_lt] <;> simp <;> omega
  rw [BitVec.sle_eq_decide, e1, e2, decide_eq_decide]
  omega

/-- The mask at an index: the key is not after the query, and in its document. -/
theorem mask_apply (x : IVec S3x640 32) (b : Fin 3) (T p : Fin 640) :
    k0_pay17 (F := Ideal) x (ix3 b T p) = BitVec.ofBool (decide (p.val ≤ T.val ∧ x (ix2 b p) = x (ix2 b T))) := by
  have e : k0_pay17 (F := Ideal) x (ix3 b T p) = IntOp.andi (IntOp.cmpi .sle (BitVec.ofNat 32 p.val) (BitVec.ofNat 32 T.val)) (IntOp.cmpi .eq (x (ix2 b p)) (x (ix2 b T))) := by
    pointwise [k0_pay17]
  rw [e]
  simp only [IntOp.cmpi, IntOp.andi, sle_nat p.val T.val p.isLt T.isLt]
  by_cases h3 : x (ix2 b p) = x (ix2 b T)
  · by_cases h2 : p.val ≤ T.val <;> simp [h2, h3]
  · have h3' : (x (ix2 b p) == x (ix2 b T)) = false := by simpa using h3
    by_cases h2 : p.val ≤ T.val <;> simp [h2, h3, h3']

/-- The scores of one query row. -/
def scR (q : Fin 256 → EReal) (qs : EReal) (k : Fin 640 → Fin 256 → EReal) (ks : Fin 640 → EReal) (mk : Fin 640 → BitVec 1) (p : Fin 640) : EReal :=
  Scalar.select (mk p) ((∑ e : Fin 256, q e * k p e) * qs * ks p * Ideal.ofBits .f32 0x3D800000#32) (Ideal.ofBits .f32 0xFF800000#32)
/-- One query row against every key, as the reference has it. -/
def refA (q : Fin 256 → EReal) (qs : EReal) (k : Fin 640 → Fin 256 → EReal) (ks vs v : Fin 640 → EReal) (mk : Fin 640 → BitVec 1) : EReal :=
  let s : Fin 640 → EReal := scR q qs k ks mk
  let w : Fin 640 → EReal := fun p => Ideal.exp (s p - Finset.univ.fold max (Ideal.ofBits .f32 0xFF800000#32) s)
  Ideal.div (∑ p : Fin 640, clipE (w p * Ideal.ofBits .f32 0x43800000#32) * vs p * v p) (Ideal.ofBits .f32 0x43800000#32 * ∑ p : Fin 640, w p)

end Cert.ReferenceIdeal.Rd
end
-- ==== Proof.InRange.lean ====
module

public import proofs.«01_k».proof.Proof.Gen.Pre_in_range
public import proofs.«01_k».proof.Proof.RefRead
public import proofs.«01_k».proof.Proof.Quant

/-! What the precondition says of the arguments, index by index. -/

@[expose] public section

set_option maxRecDepth 16384
set_option maxHeartbeats 40000

noncomputable section

namespace Cert.Pre_in_range.Rd

open Idealize.ShloMosaic Cert.Pre_in_range
open Facts
open Cert.KernelIdeal.Voc (amaxE Good f32_ninf)

section
variable {F : FTy → Type} [FloatOps F]

/-- The greatest magnitude of each head's row, -/
def amx10 (x : FVec F S3x640x2560 .bf16) : FVec F S3x640x10 .f32 :=
  Host.reduce FloatOps.maximumf (shapeCast S3x640x10x256 (Host.absf (extf .f32 x bitsLt_bf16_f32)) shapeCasts_S3x640x2560_S3x640x10x256) (constant S_ .f32 0xFF800000#32) reducesTo_S3x640x10x256_S3x640x10_d3 h_S_
def amx2 (x : FVec F S3x640x512 .bf16) : FVec F S3x640x2 .f32 :=
  Host.reduce FloatOps.maximumf (shapeCast S3x640x2x256 (Host.absf (extf .f32 x bitsLt_bf16_f32)) shapeCasts_S3x640x512_S3x640x2x256) (constant S_ .f32 0xFF800000#32) reducesTo_S3x640x2x256_S3x640x2_d3 h_S_
/-- whether it is in range, -/
def ok10 (a : FVec F S3x640x10 .f32) : IVec S3x640x10 1 :=
  ori (cmpf .oeq a (broadcastInDim S3x640x10 ![] bcast_S_S3x640x10 (constant S_ .f32 0x00000000#32)))
    (andi (cmpf .oge a (broadcastInDim S3x640x10 ![] bcast_S_S3x640x10 (constant S_ .f32 0x04E00000#32))) (cmpf .ole a (broadcastInDim S3x640x10 ![] bcast_S_S3x640x10 (constant S_ .f32 0x7F7F0000#32))))
def ok2 (a : FVec F S3x640x2 .f32) : IVec S3x640x2 1 :=
  ori (cmpf .oeq a (broadcastInDim S3x640x2 ![] bcast_S_S3x640x2 (constant S_ .f32 0x00000000#32)))
    (andi (cmpf .oge a (broadcastInDim S3x640x2 ![] bcast_S_S3x640x2 (constant S_ .f32 0x04E00000#32))) (cmpf .ole a (broadcastInDim S3x640x2 ![] bcast_S_S3x640x2 (constant S_ .f32 0x7F7F0000#32))))
/-- whether two tokens of one document are near, and whether a token is no padding. -/
def nearV (sg : IVec S3x640 32) : IVec S3x640x640 1 :=
  noti (andi (cmpi .eq (broadcastInDim S3x640x640 ![0, 1] bcast_S3x640_S3x640x640_0_1 sg) (broadcastInDim S3x640x640 ![0, 2] bcast_S3x640_S3x640x640_0_2 sg))
    (cmpi .sgt (subi (iotaInDim S3x640x640 32 1) (iotaInDim S3x640x640 32 2)) (broadcastInDim S3x640x640 ![] bcast_S_S3x640x640 (constantI S_ 32 224#32))))
def segV (sg : IVec S3x640 32) : IVec S3x640 1 := cmpi .ne sg (broadcastInDim S3x640 ![] bcast_S_S3x640 (constantI S_ 32 4294967295#32))

theorem fn_eq (x : FVec F S3x640x2560 .bf16) (k v : FVec F S3x640x512 .bf16) (sg : IVec S3x640 32) :
    fn (F := F) x k v sg = (ok10 (amx10 x), ok2 (amx2 k), ok2 (amx2 v), nearV sg, segV sg) := rfl
end

theorem f32_lo : (Ideal.ofBits FTy.f32 81788928#32 : EReal) = ((448 * 2 ^ (-126 : ℤ) : ℝ) : EReal) := by
  simp [Ideal.ofBits, Ideal.ieee]; try rw [← EReal.coe_mul]
  norm_num
  rw [← EReal.coe_mul, EReal.coe_eq_coe_iff]
  norm_num
theorem f32_hi : (Ideal.ofBits FTy.f32 2139029504#32 : EReal) = ((255 * 2 ^ (120 : ℤ) : ℝ) : EReal) := by
  simp [Ideal.ofBits, Ideal.ieee]; try rw [← EReal.coe_mul]
  rw [← EReal.coe_pow, ← EReal.coe_pow, ← EReal.coe_mul, ← EReal.coe_mul, EReal.coe_eq_coe_iff]
  norm_num

theorem good_of (a : EReal) (h : a = 0 ∨ (Ideal.ofBits FTy.f32 81788928#32 : EReal) ≤ a ∧ a ≤ (Ideal.ofBits FTy.f32 2139029504#32 : EReal)) : Good a := by
  rcases h with h | ⟨h1, h2⟩
  · exact Or.inl h
  · rw [f32_lo] at h1
    rw [f32_hi] at h2
    right
    induction a using EReal.rec with
    | bot => exact absurd (le_bot_iff.mp h1) (EReal.coe_ne_bot _)
    | coe r => exact ⟨r, rfl, EReal.coe_le_coe_iff.mp h1, EReal.coe_le_coe_iff.mp h2⟩
    | top => exact absurd (top_le_iff.mp h2) (EReal.coe_ne_top _)

theorem bits_of (p q r : Prop) [Decidable p] [Decidable q] [Decidable r] (h : IntOp.ori (BitVec.ofBool (decide p)) (IntOp.andi (BitVec.ofBool (decide q)) (BitVec.ofBool (decide r))) = 1#1) : p ∨ q ∧ r := by
  by_cases hp : p <;> by_cases hq : q <;> by_cases hr : r <;> simp_all [IntOp.ori, IntOp.andi]

theorem amx10_apply (x : FVec Ideal S3x640x2560 .bf16) (b : Fin 3) (T : Fin 640) (h : Fin 10) :
    amx10 (F := Ideal) x (ix3 b T h) = amaxE fun d => x (ix3 b T ⟨256 * h.val + d.val, by omega⟩) := by
  pointwise [amx10, amaxE]
  rw [f32_ninf]
  refine congrArg (fun f => Finset.fold max ⊥ f Finset.univ) (funext fun d => ?_)
  have e : (⟨h.val * 256 + d.val, by omega⟩ : Fin 2560) = ⟨256 * h.val + d.val, by omega⟩ := Fin.ext (by dsimp only; omega)
  exact congrArg (fun C : Fin 2560 => max (x (ix3 b T C)) (-(x (ix3 b T C)))) e
theorem ok10_apply (a : FVec Ideal S3x640x10 .f32) (b : Fin 3) (T : Fin 640) (h : Fin 10) (e : ok10 (F := Ideal) a (ix3 b T h) = 1#1) : Good (a (ix3 b T h)) := by
  revert e
  pointwise [ok10]
  intro e
  exact good_of _ (bits_of _ _ _ e)
theorem amx2_apply (x : FVec Ideal S3x640x512 .bf16) (b : Fin 3) (T : Fin 640) (h : Fin 2) :
    amx2 (F := Ideal) x (ix3 b T h) = amaxE fun d => x (ix3 b T ⟨256 * h.val + d.val, by omega⟩) := by
  pointwise [amx2, amaxE]
  rw [f32_ninf]
  refine congrArg (fun f => Finset.fold max ⊥ f Finset.univ) (funext fun d => ?_)
  have e : (⟨h.val * 256 + d.val, by omega⟩ : Fin 512) = ⟨256 * h.val + d.val, by omega⟩ := Fin.ext (by dsimp only; omega)
  exact congrArg (fun C : Fin 512 => max (x (ix3 b T C)) (-(x (ix3 b T C)))) e
theorem ok2_apply (a : FVec Ideal S3x640x2 .f32) (b : Fin 3) (T : Fin 640) (h : Fin 2) (e : ok2 (F := Ideal) a (ix3 b T h) = 1#1) : Good (a (ix3 b T h)) := by
  revert e
  pointwise [ok2]
  intro e
  exact good_of _ (bits_of _ _ _ e)

theorem near_apply (sg : IVec S3x640 32) (b : Fin 3) (T p : Fin 640) (e : nearV sg (ix3 b T p) = 1#1) (hs : sg (ix2 b T) = sg (ix2 b p)) : T.val ≤ p.val + 224 := by
  revert e
  pointwise [nearV]
  intro e
  by_contra hc
  have hT := T.isLt
  have hp := p.isLt
  have e1 : IntOp.cmpi CmpIPredicate.eq (sg (ix2 b T)) (sg (ix2 b p)) = 1#1 := by rw [hs]; simp [IntOp.cmpi]
  have e2 : IntOp.cmpi CmpIPredicate.sgt (IntOp.subi (BitVec.ofNat 32 T.val) (BitVec.ofNat 32 p.val)) 224#32 = 1#1 := by
    have e3 : IntOp.subi (BitVec.ofNat 32 T.val) (BitVec.ofNat 32 p.val) = BitVec.ofNat 32 (T.val - p.val) := by
      apply BitVec.eq_of_toNat_eq
      simp only [IntOp.subi, BitVec.toNat_sub, BitVec.toNat_ofNat]
      omega
    rw [e3]
    have e4 : BitVec.slt 224#32 (BitVec.ofNat 32 (T.val - p.val)) = true := by
      have h5 : (BitVec.ofNat 32 (T.val - p.val)).toInt = ((T.val - p.val : ℕ) : ℤ) := by
        rw [BitVec.toInt_eq_toNat_of_lt (by rw [BitVec.toNat_ofNat]; omega), BitVec.toNat_ofNat, Nat.mod_eq_of_lt (by omega)]
      have h6 : (224#32 : BitVec 32).toInt = 224 := by decide
      rw [BitVec.slt, h5, h6]
      exact decide_eq_true (by omega)
    simp only [IntOp.cmpi, e4]
    rfl
  rw [e1, e2] at e
  exact absurd e (by decide)
theorem seg_apply (sg : IVec S3x640 32) (b : Fin 3) (T : Fin 640) (e : segV sg (ix2 b T) = 1#1) : sg (ix2 b T) ≠ 4294967295#32 := by
  revert e
  pointwise [segV]
  intro e h
  rw [h] at e
  exact absurd e (by decide)

end Cert.Pre_in_range.Rd

end
-- ==== Proof.RefHeads.lean ====
module

public import proofs.«01_k».proof.Proof.RefRead

/-! The heads of the reference's attention, each one reading of the same function. -/

@[expose] public section

set_option maxRecDepth 16384
set_option maxHeartbeats 20000

noncomputable section

namespace Cert.ReferenceIdeal.Rd

open Idealize.ShloMosaic Cert.ReferenceIdeal Cert.ReferenceIdeal.Gen
open Cert.KernelIdeal.Voc (amaxE clipE f32_ninf f32_448 f32_n448)

/-- One head of the reference's attention, from the head's codes and scales and the mask. -/
def attC {F : FTy → Type} [FloatOps F] [Named F] (q k v : FVec F S3x640x256 .fp8e4m3) (qs ks vs : FVec F S3x640 .f32) (mk : IVec S3x640x640 1) : FVec F S3x640x256 .bf16 :=
  have cst_85 : FVec F S3x640x640 .f32 := constant S3x640x640 .f32 0x00000000#32
  have v208 : FVec F S3x640x640 .f32 := matmul dot_S3x640x256_S3x640x256_S3x640x640_2_2_1_1_0_0 none q k cst_85
  have v211 : FVec F S3x640x1 .f32 := shapeCast S3x640x1 qs shapeCasts_S3x640_S3x640x1
  have v212 : FVec F S3x640x640 .f32 := broadcastTo S3x640x640 v211 broadcasts_S3x640x1_S3x640x640
  have v213 : FVec F S3x640x640 .f32 := mulf v208 v212
  have v216 : FVec F S3x1x640 .f32 := shapeCast S3x1x640 ks shapeCasts_S3x640_S3x1x640
  have v217 : FVec F S3x640x640 .f32 := broadcastTo S3x640x640 v216 broadcasts_S3x1x640_S3x640x640
  have v218 : FVec F S3x640x640 .f32 := mulf v213 v217
  have cst_86 : F .f32 := Scalar.ofBits .f32 0x3D800000#32
  have v219 : FVec F S3x640x640 .f32 := broadcast S3x640x640 cst_86
  have v220 : FVec F S3x640x640 .f32 := mulf v218 v219
  have cst_87 : F .f32 := Scalar.ofBits .f32 0xFF800000#32
  have v221 : FVec F S3x640x640 .f32 := broadcast S3x640x640 cst_87
  have v222 : FVec F S3x640x640 .f32 := select mk v220 v221
  have v223 : FVec F S3x640 .f32 := multiReduction .maximumf [2] S3x640 v222 0xFF800000#32 reduces_S3x640x640_S3x640 (.inl rfl) rfl
  have v224 : FVec F S3x640x1 .f32 := shapeCast S3x640x1 v223 shapeCasts_S3x640_S3x640x1
  have v225 : FVec F S3x640x640 .f32 := broadcastTo S3x640x640 v224 broadcasts_S3x640x1_S3x640x640
  have v226 : FVec F S3x640x640 .f32 := subf v222 v225
  have v227 : FVec F S3x640x640 .f32 := exp v226
  have v228 : FVec F S3x640 .f32 := multiReduction .add [2] S3x640 v227 0x00000000#32 reduces_S3x640x640_S3x640 (.inl rfl) rfl
  have v229 : FVec F S3x640x1 .f32 := shapeCast S3x640x1 v228 shapeCasts_S3x640_S3x640x1
  have cst_90 : F .f32 := Scalar.ofBits .f32 0x43800000#32
  have v230 : FVec F S3x640x640 .f32 := broadcast S3x640x640 cst_90
  have v231 : FVec F S3x640x640 .f32 := mulf v227 v230
  have cst_91 : F .f32 := Scalar.ofBits .f32 0xC3E00000#32
  have cst_92 : F .f32 := Scalar.ofBits .f32 0x43E00000#32
  have v232 : FVec F S3x640x640 .f32 := broadcast S3x640x640 cst_91
  have v233 : FVec F S3x640x640 .f32 := maximumf v232 v231
  have v234 : FVec F S3x640x640 .f32 := broadcast S3x640x640 cst_92
  have v235 : FVec F S3x640x640 .f32 := minimumf v234 v233
  have v236 : FVec F S3x640x640 .fp8e4m3 := truncf .fp8e4m3 v235 bitsLt_fp8e4m3_f32
  have v237 : FVec F S3x640x640 .f32 := extf .f32 v236 bitsLt_fp8e4m3_f32
  have v240 : FVec F S3x1x640 .f32 := shapeCast S3x1x640 vs shapeCasts_S3x640_S3x1x640
  have v241 : FVec F S3x640x640 .f32 := broadcastTo S3x640x640 v240 broadcasts_S3x1x640_S3x640x640
  have v242 : FVec F S3x640x640 .f32 := mulf v237 v241
  have v243 : FVec F S3x640x640 .bf16 := truncf .bf16 v242 bitsLt_bf16_f32
  have v246 : FVec F S3x640x256 .bf16 := extf .bf16 v bitsLt_fp8e4m3_bf16
  have cst_93 : FVec F S3x640x256 .f32 := constant S3x640x256 .f32 0x00000000#32
  have v247 : FVec F S3x640x256 .f32 := matmul dot_S3x640x640_S3x640x256_S3x640x256_2_1_1_2_0_0 none v243 v246 cst_93
  have cst_94 : F .f32 := Scalar.ofBits .f32 0x43800000#32
  have v248 : FVec F S3x640x1 .f32 := broadcast S3x640x1 cst_94
  have v249 : FVec F S3x640x1 .f32 := mulf v248 v229
  have v250 : FVec F S3x640x256 .f32 := broadcastTo S3x640x256 v249 broadcasts_S3x640x1_S3x640x256
  have v251 : FVec F S3x640x256 .f32 := divf v247 v250
  have v252 : FVec F S3x640x256 .bf16 := truncf .bf16 v251 bitsLt_bf16_f32
  v252

/-- That head at an index. -/
theorem attC_apply (q k v : FVec Ideal S3x640x256 .fp8e4m3) (qs ks vs : FVec Ideal S3x640 .f32) (mk : IVec S3x640x640 1) (b : Fin 3) (T : Fin 640) (d : Fin 256) :
    attC (F := Ideal) q k v qs ks vs mk (ix3 b T d) = refA (fun e => q (ix3 b T e)) (qs (ix2 b T)) (fun p e => k (ix3 b p e)) (fun p => ks (ix2 b p)) (fun p => vs (ix2 b p))
      (fun p => v (ix3 b p d)) (fun p => mk (ix3 b T p)) := by
  pointwise [attC]
  simp only [refA, scR, clipE]
  rfl

/-- Head 0 is that function of its slices; -/
theorem head0_eq {F : FTy → Type} [FloatOps F] [Named F] (qs : FVec F S3x10x640 .f32) (qc : FVec F S3x10x640x256 .fp8e4m3) (ks : FVec F S3x2x640 .f32) (kc : FVec F S3x2x640x256 .fp8e4m3)
    (vs : FVec F S3x2x640 .f32) (vc : FVec F S3x2x640x256 .fp8e4m3) (mk : IVec S3x640x640 1) :
    k0_pay20 ks vs vc mk (k0_pay18 qc kc) (k0_pay19 qs) = attC (shapeCast S3x640x256 (extractStridedSlice S3x1x640x256 ![0, 0, 0, 0] qc slices_S3x10x640x256_o0_0_0_0_S3x1x640x256) shapeCasts_S3x1x640x256_S3x640x256) (shapeCast S3x640x256 (extractStridedSlice S3x1x640x256 ![0, 0, 0, 0] kc slices_S3x2x640x256_o0_0_0_0_S3x1x640x256) shapeCasts_S3x1x640x256_S3x640x256) (shapeCast S3x640x256 (extractStridedSlice S3x1x640x256 ![0, 0, 0, 0] vc slices_S3x2x640x256_o0_0_0_0_S3x1x640x256) shapeCasts_S3x1x640x256_S3x640x256) (shapeCast S3x640 (extractStridedSlice S3x1x640 ![0, 0, 0] qs slices_S3x10x640_o0_0_0_S3x1x640) shapeCasts_S3x1x640_S3x640) (shapeCast S3x640 (extractStridedSlice S3x1x640 ![0, 0, 0] ks slices_S3x2x640_o0_0_0_S3x1x640) shapeCasts_S3x1x640_S3x640) (shapeCast S3x640 (extractStridedSlice S3x1x640 ![0, 0, 0] vs slices_S3x2x640_o0_0_0_S3x1x640) shapeCasts_S3x1x640_S3x640) mk := rfl
/-- and so it reads at an index. -/
theorem head0_apply (qs : FVec Ideal S3x10x640 .f32) (qc : FVec Ideal S3x10x640x256 .fp8e4m3) (ks : FVec Ideal S3x2x640 .f32) (kc : FVec Ideal S3x2x640x256 .fp8e4m3)
    (vs : FVec Ideal S3x2x640 .f32) (vc : FVec Ideal S3x2x640x256 .fp8e4m3) (mk : IVec S3x640x640 1) (b : Fin 3) (T : Fin 640) (d : Fin 256) :
    k0_pay20 ks vs vc mk (k0_pay18 qc kc) (k0_pay19 qs) (ix3 b T d) = refA (fun e => qc (ix4 b 0 T e)) (qs (ix3 b 0 T)) (fun p e => kc (ix4 b 0 p e)) (fun p => ks (ix3 b 0 p)) (fun p => vs (ix3 b 0 p))
      (fun p => vc (ix4 b 0 p d)) (fun p => mk (ix3 b T p)) := by
  rw [head0_eq, attC_apply]
  have a1 : ∀ e, (shapeCast S3x640x256 (extractStridedSlice S3x1x640x256 ![0, 0, 0, 0] qc slices_S3x10x640x256_o0_0_0_0_S3x1x640x256) shapeCasts_S3x1x640x256_S3x640x256) (ix3 b T e) = qc (ix4 b 0 T e) := by intro e; pointwise
  have a2 : ∀ p e, (shapeCast S3x640x256 (extractStridedSlice S3x1x640x256 ![0, 0, 0, 0] kc slices_S3x2x640x256_o0_0_0_0_S3x1x640x256) shapeCasts_S3x1x640x256_S3x640x256) (ix3 b p e) = kc (ix4 b 0 p e) := by intro p e; pointwise
  have a3 : ∀ p e, (shapeCast S3x640x256 (extractStridedSlice S3x1x640x256 ![0, 0, 0, 0] vc slices_S3x2x640x256_o0_0_0_0_S3x1x640x256) shapeCasts_S3x1x640x256_S3x640x256) (ix3 b p e) = vc (ix4 b 0 p e) := by intro p e; pointwise
  have a4 : (shapeCast S3x640 (extractStridedSlice S3x1x640 ![0, 0, 0] qs slices_S3x10x640_o0_0_0_S3x1x640) shapeCasts_S3x1x640_S3x640) (ix2 b T) = qs (ix3 b 0 T) := by pointwise
  have a5 : ∀ p, (shapeCast S3x640 (extractStridedSlice S3x1x640 ![0, 0, 0] ks slices_S3x2x640_o0_0_0_S3x1x640) shapeCasts_S3x1x640_S3x640) (ix2 b p) = ks (ix3 b 0 p) := by intro p; pointwise
  have a6 : ∀ p, (shapeCast S3x640 (extractStridedSlice S3x1x640 ![0, 0, 0] vs slices_S3x2x640_o0_0_0_S3x1x640) shapeCasts_S3x1x640_S3x640) (ix2 b p) = vs (ix3 b 0 p) := by intro p; pointwise
  simp only [a1, a2, a3, a4, a5, a6]

/-- Head 1 is that function of its slices; -/
theorem head1_eq {F : FTy → Type} [FloatOps F] [Named F] (qs : FVec F S3x10x640 .f32) (qc : FVec F S3x10x640x256 .fp8e4m3) (ks : FVec F S3x2x640 .f32) (kc : FVec F S3x2x640x256 .fp8e4m3)
    (vs : FVec F S3x2x640 .f32) (vc : FVec F S3x2x640x256 .fp8e4m3) (mk : IVec S3x640x640 1) :
    k0_pay23 qs ks vs vc mk (k0_pay21 qc) (k0_pay22 kc) = attC (shapeCast S3x640x256 (extractStridedSlice S3x1x640x256 ![0, 1, 0, 0] qc slices_S3x10x640x256_o0_1_0_0_S3x1x640x256) shapeCasts_S3x1x640x256_S3x640x256) (shapeCast S3x640x256 (extractStridedSlice S3x1x640x256 ![0, 0, 0, 0] kc slices_S3x2x640x256_o0_0_0_0_S3x1x640x256) shapeCasts_S3x1x640x256_S3x640x256) (shapeCast S3x640x256 (extractStridedSlice S3x1x640x256 ![0, 0, 0, 0] vc slices_S3x2x640x256_o0_0_0_0_S3x1x640x256) shapeCasts_S3x1x640x256_S3x640x256) (shapeCast S3x640 (extractStridedSlice S3x1x640 ![0, 1, 0] qs slices_S3x10x640_o0_1_0_S3x1x640) shapeCasts_S3x1x640_S3x640) (shapeCast S3x640 (extractStridedSlice S3x1x640 ![0, 0, 0] ks slices_S3x2x640_o0_0_0_S3x1x640) shapeCasts_S3x1x640_S3x640) (shapeCast S3x640 (extractStridedSlice S3x1x640 ![0, 0, 0] vs slices_S3x2x640_o0_0_0_S3x1x640) shapeCasts_S3x1x640_S3x640) mk := rfl
/-- and so it reads at an index. -/
theorem head1_apply (qs : FVec Ideal S3x10x640 .f32) (qc : FVec Ideal S3x10x640x256 .fp8e4m3) (ks : FVec Ideal S3x2x640 .f32) (kc : FVec Ideal S3x2x640x256 .fp8e4m3)
    (vs : FVec Ideal S3x2x640 .f32) (vc : FVec Ideal S3x2x640x256 .fp8e4m3) (mk : IVec S3x640x640 1) (b : Fin 3) (T : Fin 640) (d : Fin 256) :
    k0_pay23 qs ks vs vc mk (k0_pay21 qc) (k0_pay22 kc) (ix3 b T d) = refA (fun e => qc (ix4 b 1 T e)) (qs (ix3 b 1 T)) (fun p e => kc (ix4 b 0 p e)) (fun p => ks (ix3 b 0 p)) (fun p => vs (ix3 b 0 p))
      (fun p => vc (ix4 b 0 p d)) (fun p => mk (ix3 b T p)) := by
  rw [head1_eq, attC_apply]
  have a1 : ∀ e, (shapeCast S3x640x256 (extractStridedSlice S3x1x640x256 ![0, 1, 0, 0] qc slices_S3x10x640x256_o0_1_0_0_S3x1x640x256) shapeCasts_S3x1x640x256_S3x640x256) (ix3 b T e) = qc (ix4 b 1 T e) := by intro e; pointwise
  have a2 : ∀ p e, (shapeCast S3x640x256 (extractStridedSlice S3x1x640x256 ![0, 0, 0, 0] kc slices_S3x2x640x256_o0_0_0_0_S3x1x640x256) shapeCasts_S3x1x640x256_S3x640x256) (ix3 b p e) = kc (ix4 b 0 p e) := by intro p e; pointwise
  have a3 : ∀ p e, (shapeCast S3x640x256 (extractStridedSlice S3x1x640x256 ![0, 0, 0, 0] vc slices_S3x2x640x256_o0_0_0_0_S3x1x640x256) shapeCasts_S3x1x640x256_S3x640x256) (ix3 b p e) = vc (ix4 b 0 p e) := by intro p e; pointwise
  have a4 : (shapeCast S3x640 (extractStridedSlice S3x1x640 ![0, 1, 0] qs slices_S3x10x640_o0_1_0_S3x1x640) shapeCasts_S3x1x640_S3x640) (ix2 b T) = qs (ix3 b 1 T) := by pointwise
  have a5 : ∀ p, (shapeCast S3x640 (extractStridedSlice S3x1x640 ![0, 0, 0] ks slices_S3x2x640_o0_0_0_S3x1x640) shapeCasts_S3x1x640_S3x640) (ix2 b p) = ks (ix3 b 0 p) := by intro p; pointwise
  have a6 : ∀ p, (shapeCast S3x640 (extractStridedSlice S3x1x640 ![0, 0, 0] vs slices_S3x2x640_o0_0_0_S3x1x640) shapeCasts_S3x1x640_S3x640) (ix2 b p) = vs (ix3 b 0 p) := by intro p; pointwise
  simp only [a1, a2, a3, a4, a5, a6]

/-- Head 2 is that function of its slices; -/
theorem head2_eq {F : FTy → Type} [FloatOps F] [Named F] (qs : FVec F S3x10x640 .f32) (qc : FVec F S3x10x640x256 .fp8e4m3) (ks : FVec F S3x2x640 .f32) (kc : FVec F S3x2x640x256 .fp8e4m3)
    (vs : FVec F S3x2x640 .f32) (vc : FVec F S3x2x640x256 .fp8e4m3) (mk : IVec S3x640x640 1) :
    k0_pay24 qs qc ks kc vs vc mk = attC (shapeCast S3x640x256 (extractStridedSlice S3x1x640x256 ![0, 2, 0, 0] qc slices_S3x10x640x256_o0_2_0_0_S3x1x640x256) shapeCasts_S3x1x640x256_S3x640x256) (shapeCast S3x640x256 (extractStridedSlice S3x1x640x256 ![0, 0, 0, 0] kc slices_S3x2x640x256_o0_0_0_0_S3x1x640x256) shapeCasts_S3x1x640x256_S3x640x256) (shapeCast S3x640x256 (extractStridedSlice S3x1x640x256 ![0, 0, 0, 0] vc slices_S3x2x640x256_o0_0_0_0_S3x1x640x256) shapeCasts_S3x1x640x256_S3x640x256) (shapeCast S3x640 (extractStridedSlice S3x1x640 ![0, 2, 0] qs slices_S3x10x640_o0_2_0_S3x1x640) shapeCasts_S3x1x640_S3x640) (shapeCast S3x640 (extractStridedSlice S3x1x640 ![0, 0, 0] ks slices_S3x2x640_o0_0_0_S3x1x640) shapeCasts_S3x1x640_S3x640) (shapeCast S3x640 (extractStridedSlice S3x1x640 ![0, 0, 0] vs slices_S3x2x640_o0_0_0_S3x1x640) shapeCasts_S3x1x640_S3x640) mk := rfl
/-- and so it reads at an index. -/
theorem head2_apply (qs : FVec Ideal S3x10x640 .f32) (qc : FVec Ideal S3x10x640x256 .fp8e4m3) (ks : FVec Ideal S3x2x640 .f32) (kc : FVec Ideal S3x2x640x256 .fp8e4m3)
    (vs : FVec Ideal S3x2x640 .f32) (vc : FVec Ideal S3x2x640x256 .fp8e4m3) (mk : IVec S3x640x640 1) (b : Fin 3) (T : Fin 640) (d : Fin 256) :
    k0_pay24 qs qc ks kc vs vc mk (ix3 b T d) = refA (fun e => qc (ix4 b 2 T e)) (qs (ix3 b 2 T)) (fun p e => kc (ix4 b 0 p e)) (fun p => ks (ix3 b 0 p)) (fun p => vs (ix3 b 0 p))
      (fun p => vc (ix4 b 0 p d)) (fun p => mk (ix3 b T p)) := by
  rw [head2_eq, attC_apply]
  have a1 : ∀ e, (shapeCast S3x640x256 (extractStridedSlice S3x1x640x256 ![0, 2, 0, 0] qc slices_S3x10x640x256_o0_2_0_0_S3x1x640x256) shapeCasts_S3x1x640x256_S3x640x256) (ix3 b T e) = qc (ix4 b 2 T e) := by intro e; pointwise
  have a2 : ∀ p e, (shapeCast S3x640x256 (extractStridedSlice S3x1x640x256 ![0, 0, 0, 0] kc slices_S3x2x640x256_o0_0_0_0_S3x1x640x256) shapeCasts_S3x1x640x256_S3x640x256) (ix3 b p e) = kc (ix4 b 0 p e) := by intro p e; pointwise
  have a3 : ∀ p e, (shapeCast S3x640x256 (extractStridedSlice S3x1x640x256 ![0, 0, 0, 0] vc slices_S3x2x640x256_o0_0_0_0_S3x1x640x256) shapeCasts_S3x1x640x256_S3x640x256) (ix3 b p e) = vc (ix4 b 0 p e) := by intro p e; pointwise
  have a4 : (shapeCast S3x640 (extractStridedSlice S3x1x640 ![0, 2, 0] qs slices_S3x10x640_o0_2_0_S3x1x640) shapeCasts_S3x1x640_S3x640) (ix2 b T) = qs (ix3 b 2 T) := by pointwise
  have a5 : ∀ p, (shapeCast S3x640 (extractStridedSlice S3x1x640 ![0, 0, 0] ks slices_S3x2x640_o0_0_0_S3x1x640) shapeCasts_S3x1x640_S3x640) (ix2 b p) = ks (ix3 b 0 p) := by intro p; pointwise
  have a6 : ∀ p, (shapeCast S3x640 (extractStridedSlice S3x1x640 ![0, 0, 0] vs slices_S3x2x640_o0_0_0_S3x1x640) shapeCasts_S3x1x640_S3x640) (ix2 b p) = vs (ix3 b 0 p) := by intro p; pointwise
  simp only [a1, a2, a3, a4, a5, a6]

/-- Head 3 is that function of its slices; -/
theorem head3_eq {F : FTy → Type} [FloatOps F] [Named F] (qs : FVec F S3x10x640 .f32) (qc : FVec F S3x10x640x256 .fp8e4m3) (ks : FVec F S3x2x640 .f32) (kc : FVec F S3x2x640x256 .fp8e4m3)
    (vs : FVec F S3x2x640 .f32) (vc : FVec F S3x2x640x256 .fp8e4m3) (mk : IVec S3x640x640 1) :
    k0_pay28 (k0_pay26 qs qc ks kc vs vc mk) (k0_pay27 qs qc ks kc mk) = attC (shapeCast S3x640x256 (extractStridedSlice S3x1x640x256 ![0, 3, 0, 0] qc slices_S3x10x640x256_o0_3_0_0_S3x1x640x256) shapeCasts_S3x1x640x256_S3x640x256) (shapeCast S3x640x256 (extractStridedSlice S3x1x640x256 ![0, 0, 0, 0] kc slices_S3x2x640x256_o0_0_0_0_S3x1x640x256) shapeCasts_S3x1x640x256_S3x640x256) (shapeCast S3x640x256 (extractStridedSlice S3x1x640x256 ![0, 0, 0, 0] vc slices_S3x2x640x256_o0_0_0_0_S3x1x640x256) shapeCasts_S3x1x640x256_S3x640x256) (shapeCast S3x640 (extractStridedSlice S3x1x640 ![0, 3, 0] qs slices_S3x10x640_o0_3_0_S3x1x640) shapeCasts_S3x1x640_S3x640) (shapeCast S3x640 (extractStridedSlice S3x1x640 ![0, 0, 0] ks slices_S3x2x640_o0_0_0_S3x1x640) shapeCasts_S3x1x640_S3x640) (shapeCast S3x640 (extractStridedSlice S3x1x640 ![0, 0, 0] vs slices_S3x2x640_o0_0_0_S3x1x640) shapeCasts_S3x1x640_S3x640) mk := rfl
/-- and so it reads at an index. -/
theorem head3_apply (qs : FVec Ideal S3x10x640 .f32) (qc : FVec Ideal S3x10x640x256 .fp8e4m3) (ks : FVec Ideal S3x2x640 .f32) (kc : FVec Ideal S3x2x640x256 .fp8e4m3)
    (vs : FVec Ideal S3x2x640 .f32) (vc : FVec Ideal S3x2x640x256 .fp8e4m3) (mk : IVec S3x640x640 1) (b : Fin 3) (T : Fin 640) (d : Fin 256) :
    k0_pay28 (k0_pay26 qs qc ks kc vs vc mk) (k0_pay27 qs qc ks kc mk) (ix3 b T d) = refA (fun e => qc (ix4 b 3 T e)) (qs (ix3 b 3 T)) (fun p e => kc (ix4 b 0 p e)) (fun p => ks (ix3 b 0 p)) (fun p => vs (ix3 b 0 p))
      (fun p => vc (ix4 b 0 p d)) (fun p => mk (ix3 b T p)) := by
  rw [head3_eq, attC_apply]
  have a1 : ∀ e, (shapeCast S3x640x256 (extractStridedSlice S3x1x640x256 ![0, 3, 0, 0] qc slices_S3x10x640x256_o0_3_0_0_S3x1x640x256) shapeCasts_S3x1x640x256_S3x640x256) (ix3 b T e) = qc (ix4 b 3 T e) := by intro e; pointwise
  have a2 : ∀ p e, (shapeCast S3x640x256 (extractStridedSlice S3x1x640x256 ![0, 0, 0, 0] kc slices_S3x2x640x256_o0_0_0_0_S3x1x640x256) shapeCasts_S3x1x640x256_S3x640x256) (ix3 b p e) = kc (ix4 b 0 p e) := by intro p e; pointwise
  have a3 : ∀ p e, (shapeCast S3x640x256 (extractStridedSlice S3x1x640x256 ![0, 0, 0, 0] vc slices_S3x2x640x256_o0_0_0_0_S3x1x640x256) shapeCasts_S3x1x640x256_S3x640x256) (ix3 b p e) = vc (ix4 b 0 p e) := by intro p e; pointwise
  have a4 : (shapeCast S3x640 (extractStridedSlice S3x1x640 ![0, 3, 0] qs slices_S3x10x640_o0_3_0_S3x1x640) shapeCasts_S3x1x640_S3x640) (ix2 b T) = qs (ix3 b 3 T) := by pointwise
  have a5 : ∀ p, (shapeCast S3x640 (extractStridedSlice S3x1x640 ![0, 0, 0] ks slices_S3x2x640_o0_0_0_S3x1x640) shapeCasts_S3x1x640_S3x640) (ix2 b p) = ks (ix3 b 0 p) := by intro p; pointwise
  have a6 : ∀ p, (shapeCast S3x640 (extractStridedSlice S3x1x640 ![0, 0, 0] vs slices_S3x2x640_o0_0_0_S3x1x640) shapeCasts_S3x1x640_S3x640) (ix2 b p) = vs (ix3 b 0 p) := by intro p; pointwise
  simp only [a1, a2, a3, a4, a5, a6]

/-- Head 4 is that function of its slices; -/
theorem head4_eq {F : FTy → Type} [FloatOps F] [Named F] (qs : FVec F S3x10x640 .f32) (qc : FVec F S3x10x640x256 .fp8e4m3) (ks : FVec F S3x2x640 .f32) (kc : FVec F S3x2x640x256 .fp8e4m3)
    (vs : FVec F S3x2x640 .f32) (vc : FVec F S3x2x640x256 .fp8e4m3) (mk : IVec S3x640x640 1) :
    k0_pay33 (k0_pay30 qs qc ks kc mk) (k0_pay31 qs qc ks kc vs mk) (k0_pay32 vc) (constant S3x640x256 .f32 0x00000000#32) = attC (shapeCast S3x640x256 (extractStridedSlice S3x1x640x256 ![0, 4, 0, 0] qc slices_S3x10x640x256_o0_4_0_0_S3x1x640x256) shapeCasts_S3x1x640x256_S3x640x256) (shapeCast S3x640x256 (extractStridedSlice S3x1x640x256 ![0, 0, 0, 0] kc slices_S3x2x640x256_o0_0_0_0_S3x1x640x256) shapeCasts_S3x1x640x256_S3x640x256) (shapeCast S3x640x256 (extractStridedSlice S3x1x640x256 ![0, 0, 0, 0] vc slices_S3x2x640x256_o0_0_0_0_S3x1x640x256) shapeCasts_S3x1x640x256_S3x640x256) (shapeCast S3x640 (extractStridedSlice S3x1x640 ![0, 4, 0] qs slices_S3x10x640_o0_4_0_S3x1x640) shapeCasts_S3x1x640_S3x640) (shapeCast S3x640 (extractStridedSlice S3x1x640 ![0, 0, 0] ks slices_S3x2x640_o0_0_0_S3x1x640) shapeCasts_S3x1x640_S3x640) (shapeCast S3x640 (extractStridedSlice S3x1x640 ![0, 0, 0] vs slices_S3x2x640_o0_0_0_S3x1x640) shapeCasts_S3x1x640_S3x640) mk := rfl
/-- and so it reads at an index. -/
theorem head4_apply (qs : FVec Ideal S3x10x640 .f32) (qc : FVec Ideal S3x10x640x256 .fp8e4m3) (ks : FVec Ideal S3x2x640 .f32) (kc : FVec Ideal S3x2x640x256 .fp8e4m3)
    (vs : FVec Ideal S3x2x640 .f32) (vc : FVec Ideal S3x2x640x256 .fp8e4m3) (mk : IVec S3x640x640 1) (b : Fin 3) (T : Fin 640) (d : Fin 256) :
    k0_pay33 (k0_pay30 qs qc ks kc mk) (k0_pay31 qs qc ks kc vs mk) (k0_pay32 vc) (constant S3x640x256 .f32 0x00000000#32) (ix3 b T d) = refA (fun e => qc (ix4 b 4 T e)) (qs (ix3 b 4 T)) (fun p e => kc (ix4 b 0 p e)) (fun p => ks (ix3 b 0 p)) (fun p => vs (ix3 b 0 p))
      (fun p => vc (ix4 b 0 p d)) (fun p => mk (ix3 b T p)) := by
  rw [head4_eq, attC_apply]
  have a1 : ∀ e, (shapeCast S3x640x256 (extractStridedSlice S3x1x640x256 ![0, 4, 0, 0] qc slices_S3x10x640x256_o0_4_0_0_S3x1x640x256) shapeCasts_S3x1x640x256_S3x640x256) (ix3 b T e) = qc (ix4 b 4 T e) := by intro e; pointwise
  have a2 : ∀ p e, (shapeCast S3x640x256 (extractStridedSlice S3x1x640x256 ![0, 0, 0, 0] kc slices_S3x2x640x256_o0_0_0_0_S3x1x640x256) shapeCasts_S3x1x640x256_S3x640x256) (ix3 b p e) = kc (ix4 b 0 p e) := by intro p e; pointwise
  have a3 : ∀ p e, (shapeCast S3x640x256 (extractStridedSlice S3x1x640x256 ![0, 0, 0, 0] vc slices_S3x2x640x256_o0_0_0_0_S3x1x640x256) shapeCasts_S3x1x640x256_S3x640x256) (ix3 b p e) = vc (ix4 b 0 p e) := by intro p e; pointwise
  have a4 : (shapeCast S3x640 (extractStridedSlice S3x1x640 ![0, 4, 0] qs slices_S3x10x640_o0_4_0_S3x1x640) shapeCasts_S3x1x640_S3x640) (ix2 b T) = qs (ix3 b 4 T) := by pointwise
  have a5 : ∀ p, (shapeCast S3x640 (extractStridedSlice S3x1x640 ![0, 0, 0] ks slices_S3x2x640_o0_0_0_S3x1x640) shapeCasts_S3x1x640_S3x640) (ix2 b p) = ks (ix3 b 0 p) := by intro p; pointwise
  have a6 : ∀ p, (shapeCast S3x640 (extractStridedSlice S3x1x640 ![0, 0, 0] vs slices_S3x2x640_o0_0_0_S3x1x640) shapeCasts_S3x1x640_S3x640) (ix2 b p) = vs (ix3 b 0 p) := by intro p; pointwise
  simp only [a1, a2, a3, a4, a5, a6]

/-- Head 5 is that function of its slices; -/
theorem head5_eq {F : FTy → Type} [FloatOps F] [Named F] (qs : FVec F S3x10x640 .f32) (qc : FVec F S3x10x640x256 .fp8e4m3) (ks : FVec F S3x2x640 .f32) (kc : FVec F S3x2x640x256 .fp8e4m3)
    (vs : FVec F S3x2x640 .f32) (vc : FVec F S3x2x640x256 .fp8e4m3) (mk : IVec S3x640x640 1) :
    k0_pay37 vc (k0_pay35 qs qc ks kc mk) (k0_pay36 qs qc ks kc vs mk) = attC (shapeCast S3x640x256 (extractStridedSlice S3x1x640x256 ![0, 5, 0, 0] qc slices_S3x10x640x256_o0_5_0_0_S3x1x640x256) shapeCasts_S3x1x640x256_S3x640x256) (shapeCast S3x640x256 (extractStridedSlice S3x1x640x256 ![0, 1, 0, 0] kc slices_S3x2x640x256_o0_1_0_0_S3x1x640x256) shapeCasts_S3x1x640x256_S3x640x256) (shapeCast S3x640x256 (extractStridedSlice S3x1x640x256 ![0, 1, 0, 0] vc slices_S3x2x640x256_o0_1_0_0_S3x1x640x256) shapeCasts_S3x1x640x256_S3x640x256) (shapeCast S3x640 (extractStridedSlice S3x1x640 ![0, 5, 0] qs slices_S3x10x640_o0_5_0_S3x1x640) shapeCasts_S3x1x640_S3x640) (shapeCast S3x640 (extractStridedSlice S3x1x640 ![0, 1, 0] ks slices_S3x2x640_o0_1_0_S3x1x640) shapeCasts_S3x1x640_S3x640) (shapeCast S3x640 (extractStridedSlice S3x1x640 ![0, 1, 0] vs slices_S3x2x640_o0_1_0_S3x1x640) shapeCasts_S3x1x640_S3x640) mk := rfl
/-- and so it reads at an index. -/
theorem head5_apply (qs : FVec Ideal S3x10x640 .f32) (qc : FVec Ideal S3x10x640x256 .fp8e4m3) (ks : FVec Ideal S3x2x640 .f32) (kc : FVec Ideal S3x2x640x256 .fp8e4m3)
    (vs : FVec Ideal S3x2x640 .f32) (vc : FVec Ideal S3x2x640x256 .fp8e4m3) (mk : IVec S3x640x640 1) (b : Fin 3) (T : Fin 640) (d : Fin 256) :
    k0_pay37 vc (k0_pay35 qs qc ks kc mk) (k0_pay36 qs qc ks kc vs mk) (ix3 b T d) = refA (fun e => qc (ix4 b 5 T e)) (qs (ix3 b 5 T)) (fun p e => kc (ix4 b 1 p e)) (fun p => ks (ix3 b 1 p)) (fun p => vs (ix3 b 1 p))
      (fun p => vc (ix4 b 1 p d)) (fun p => mk (ix3 b T p)) := by
  rw [head5_eq, attC_apply]
  have a1 : ∀ e, (shapeCast S3x640x256 (extractStridedSlice S3x1x640x256 ![0, 5, 0, 0] qc slices_S3x10x640x256_o0_5_0_0_S3x1x640x256) shapeCasts_S3x1x640x256_S3x640x256) (ix3 b T e) = qc (ix4 b 5 T e) := by intro e; pointwise
  have a2 : ∀ p e, (shapeCast S3x640x256 (extractStridedSlice S3x1x640x256 ![0, 1, 0, 0] kc slices_S3x2x640x256_o0_1_0_0_S3x1x640x256) shapeCasts_S3x1x640x256_S3x640x256) (ix3 b p e) = kc (ix4 b 1 p e) := by intro p e; pointwise
  have a3 : ∀ p e, (shapeCast S3x640x256 (extractStridedSlice S3x1x640x256 ![0, 1, 0, 0] vc slices_S3x2x640x256_o0_1_0_0_S3x1x640x256) shapeCasts_S3x1x640x256_S3x640x256) (ix3 b p e) = vc (ix4 b 1 p e) := by intro p e; pointwise
  have a4 : (shapeCast S3x640 (extractStridedSlice S3x1x640 ![0, 5, 0] qs slices_S3x10x640_o0_5_0_S3x1x640) shapeCasts_S3x1x640_S3x640) (ix2 b T) = qs (ix3 b 5 T) := by pointwise
  have a5 : ∀ p, (shapeCast S3x640 (extractStridedSlice S3x1x640 ![0, 1, 0] ks slices_S3x2x640_o0_1_0_S3x1x640) shapeCasts_S3x1x640_S3x640) (ix2 b p) = ks (ix3 b 1 p) := by intro p; pointwise
  have a6 : ∀ p, (shapeCast S3x640 (extractStridedSlice S3x1x640 ![0, 1, 0] vs slices_S3x2x640_o0_1_0_S3x1x640) shapeCasts_S3x1x640_S3x640) (ix2 b p) = vs (ix3 b 1 p) := by intro p; pointwise
  simp only [a1, a2, a3, a4, a5, a6]

/-- Head 6 is that function of its slices; -/
theorem head6_eq {F : FTy → Type} [FloatOps F] [Named F] (qs : FVec F S3x10x640 .f32) (qc : FVec F S3x10x640x256 .fp8e4m3) (ks : FVec F S3x2x640 .f32) (kc : FVec F S3x2x640x256 .fp8e4m3)
    (vs : FVec F S3x2x640 .f32) (vc : FVec F S3x2x640x256 .fp8e4m3) (mk : IVec S3x640x640 1) :
    k0_pay42 vc (k0_pay39 qs qc ks kc mk) (k0_pay40 qs qc ks kc mk) (k0_pay41 vs) = attC (shapeCast S3x640x256 (extractStridedSlice S3x1x640x256 ![0, 6, 0, 0] qc slices_S3x10x640x256_o0_6_0_0_S3x1x640x256) shapeCasts_S3x1x640x256_S3x640x256) (shapeCast S3x640x256 (extractStridedSlice S3x1x640x256 ![0, 1, 0, 0] kc slices_S3x2x640x256_o0_1_0_0_S3x1x640x256) shapeCasts_S3x1x640x256_S3x640x256) (shapeCast S3x640x256 (extractStridedSlice S3x1x640x256 ![0, 1, 0, 0] vc slices_S3x2x640x256_o0_1_0_0_S3x1x640x256) shapeCasts_S3x1x640x256_S3x640x256) (shapeCast S3x640 (extractStridedSlice S3x1x640 ![0, 6, 0] qs slices_S3x10x640_o0_6_0_S3x1x640) shapeCasts_S3x1x640_S3x640) (shapeCast S3x640 (extractStridedSlice S3x1x640 ![0, 1, 0] ks slices_S3x2x640_o0_1_0_S3x1x640) shapeCasts_S3x1x640_S3x640) (shapeCast S3x640 (extractStridedSlice S3x1x640 ![0, 1, 0] vs slices_S3x2x640_o0_1_0_S3x1x640) shapeCasts_S3x1x640_S3x640) mk := rfl
/-- and so it reads at an index. -/
theorem head6_apply (qs : FVec Ideal S3x10x640 .f32) (qc : FVec Ideal S3x10x640x256 .fp8e4m3) (ks : FVec Ideal S3x2x640 .f32) (kc : FVec Ideal S3x2x640x256 .fp8e4m3)
    (vs : FVec Ideal S3x2x640 .f32) (vc : FVec Ideal S3x2x640x256 .fp8e4m3) (mk : IVec S3x640x640 1) (b : Fin 3) (T : Fin 640) (d : Fin 256) :
    k0_pay42 vc (k0_pay39 qs qc ks kc mk) (k0_pay40 qs qc ks kc mk) (k0_pay41 vs) (ix3 b T d) = refA (fun e => qc (ix4 b 6 T e)) (qs (ix3 b 6 T)) (fun p e => kc (ix4 b 1 p e)) (fun p => ks (ix3 b 1 p)) (fun p => vs (ix3 b 1 p))
      (fun p => vc (ix4 b 1 p d)) (fun p => mk (ix3 b T p)) := by
  rw [head6_eq, attC_apply]
  have a1 : ∀ e, (shapeCast S3x640x256 (extractStridedSlice S3x1x640x256 ![0, 6, 0, 0] qc slices_S3x10x640x256_o0_6_0_0_S3x1x640x256) shapeCasts_S3x1x640x256_S3x640x256) (ix3 b T e) = qc (ix4 b 6 T e) := by intro e; pointwise
  have a2 : ∀ p e, (shapeCast S3x640x256 (extractStridedSlice S3x1x640x256 ![0, 1, 0, 0] kc slices_S3x2x640x256_o0_1_0_0_S3x1x640x256) shapeCasts_S3x1x640x256_S3x640x256) (ix3 b p e) = kc (ix4 b 1 p e) := by intro p e; pointwise
  have a3 : ∀ p e, (shapeCast S3x640x256 (extractStridedSlice S3x1x640x256 ![0, 1, 0, 0] vc slices_S3x2x640x256_o0_1_0_0_S3x1x640x256) shapeCasts_S3x1x640x256_S3x640x256) (ix3 b p e) = vc (ix4 b 1 p e) := by intro p e; pointwise
  have a4 : (shapeCast S3x640 (extractStridedSlice S3x1x640 ![0, 6, 0] qs slices_S3x10x640_o0_6_0_S3x1x640) shapeCasts_S3x1x640_S3x640) (ix2 b T) = qs (ix3 b 6 T) := by pointwise
  have a5 : ∀ p, (shapeCast S3x640 (extractStridedSlice S3x1x640 ![0, 1, 0] ks slices_S3x2x640_o0_1_0_S3x1x640) shapeCasts_S3x1x640_S3x640) (ix2 b p) = ks (ix3 b 1 p) := by intro p; pointwise
  have a6 : ∀ p, (shapeCast S3x640 (extractStridedSlice S3x1x640 ![0, 1, 0] vs slices_S3x2x640_o0_1_0_S3x1x640) shapeCasts_S3x1x640_S3x640) (ix2 b p) = vs (ix3 b 1 p) := by intro p; pointwise
  simp only [a1, a2, a3, a4, a5, a6]

/-- Head 7 is that function of its slices; -/
theorem head7_eq {F : FTy → Type} [FloatOps F] [Named F] (qs : FVec F S3x10x640 .f32) (qc : FVec F S3x10x640x256 .fp8e4m3) (ks : FVec F S3x2x640 .f32) (kc : FVec F S3x2x640x256 .fp8e4m3)
    (vs : FVec F S3x2x640 .f32) (vc : FVec F S3x2x640x256 .fp8e4m3) (mk : IVec S3x640x640 1) :
    k0_pay46 vs vc (k0_pay44 qs qc ks kc mk) (k0_pay45 qs qc ks kc mk) = attC (shapeCast S3x640x256 (extractStridedSlice S3x1x640x256 ![0, 7, 0, 0] qc slices_S3x10x640x256_o0_7_0_0_S3x1x640x256) shapeCasts_S3x1x640x256_S3x640x256) (shapeCast S3x640x256 (extractStridedSlice S3x1x640x256 ![0, 1, 0, 0] kc slices_S3x2x640x256_o0_1_0_0_S3x1x640x256) shapeCasts_S3x1x640x256_S3x640x256) (shapeCast S3x640x256 (extractStridedSlice S3x1x640x256 ![0, 1, 0, 0] vc slices_S3x2x640x256_o0_1_0_0_S3x1x640x256) shapeCasts_S3x1x640x256_S3x640x256) (shapeCast S3x640 (extractStridedSlice S3x1x640 ![0, 7, 0] qs slices_S3x10x640_o0_7_0_S3x1x640) shapeCasts_S3x1x640_S3x640) (shapeCast S3x640 (extractStridedSlice S3x1x640 ![0, 1, 0] ks slices_S3x2x640_o0_1_0_S3x1x640) shapeCasts_S3x1x640_S3x640) (shapeCast S3x640 (extractStridedSlice S3x1x640 ![0, 1, 0] vs slices_S3x2x640_o0_1_0_S3x1x640) shapeCasts_S3x1x640_S3x640) mk := rfl
/-- and so it reads at an index. -/
theorem head7_apply (qs : FVec Ideal S3x10x640 .f32) (qc : FVec Ideal S3x10x640x256 .fp8e4m3) (ks : FVec Ideal S3x2x640 .f32) (kc : FVec Ideal S3x2x640x256 .fp8e4m3)
    (vs : FVec Ideal S3x2x640 .f32) (vc : FVec Ideal S3x2x640x256 .fp8e4m3) (mk : IVec S3x640x640 1) (b : Fin 3) (T : Fin 640) (d : Fin 256) :
    k0_pay46 vs vc (k0_pay44 qs qc ks kc mk) (k0_pay45 qs qc ks kc mk) (ix3 b T d) = refA (fun e => qc (ix4 b 7 T e)) (qs (ix3 b 7 T)) (fun p e => kc (ix4 b 1 p e)) (fun p => ks (ix3 b 1 p)) (fun p => vs (ix3 b 1 p))
      (fun p => vc (ix4 b 1 p d)) (fun p => mk (ix3 b T p)) := by
  rw [head7_eq, attC_apply]
  have a1 : ∀ e, (shapeCast S3x640x256 (extractStridedSlice S3x1x640x256 ![0, 7, 0, 0] qc slices_S3x10x640x256_o0_7_0_0_S3x1x640x256) shapeCasts_S3x1x640x256_S3x640x256) (ix3 b T e) = qc (ix4 b 7 T e) := by intro e; pointwise
  have a2 : ∀ p e, (shapeCast S3x640x256 (extractStridedSlice S3x1x640x256 ![0, 1, 0, 0] kc slices_S3x2x640x256_o0_1_0_0_S3x1x640x256) shapeCasts_S3x1x640x256_S3x640x256) (ix3 b p e) = kc (ix4 b 1 p e) := by intro p e; pointwise
  have a3 : ∀ p e, (shapeCast S3x640x256 (extractStridedSlice S3x1x640x256 ![0, 1, 0, 0] vc slices_S3x2x640x256_o0_1_0_0_S3x1x640x256) shapeCasts_S3x1x640x256_S3x640x256) (ix3 b p e) = vc (ix4 b 1 p e) := by intro p e; pointwise
  have a4 : (shapeCast S3x640 (extractStridedSlice S3x1x640 ![0, 7, 0] qs slices_S3x10x640_o0_7_0_S3x1x640) shapeCasts_S3x1x640_S3x640) (ix2 b T) = qs (ix3 b 7 T) := by pointwise
  have a5 : ∀ p, (shapeCast S3x640 (extractStridedSlice S3x1x640 ![0, 1, 0] ks slices_S3x2x640_o0_1_0_S3x1x640) shapeCasts_S3x1x640_S3x640) (ix2 b p) = ks (ix3 b 1 p) := by intro p; pointwise
  have a6 : ∀ p, (shapeCast S3x640 (extractStridedSlice S3x1x640 ![0, 1, 0] vs slices_S3x2x640_o0_1_0_S3x1x640) shapeCasts_S3x1x640_S3x640) (ix2 b p) = vs (ix3 b 1 p) := by intro p; pointwise
  simp only [a1, a2, a3, a4, a5, a6]

/-- Head 8 is that function of its slices; -/
theorem head8_eq {F : FTy → Type} [FloatOps F] [Named F] (qs : FVec F S3x10x640 .f32) (qc : FVec F S3x10x640x256 .fp8e4m3) (ks : FVec F S3x2x640 .f32) (kc : FVec F S3x2x640x256 .fp8e4m3)
    (vs : FVec F S3x2x640 .f32) (vc : FVec F S3x2x640x256 .fp8e4m3) (mk : IVec S3x640x640 1) :
    k0_pay50 vs vc (k0_pay48 qs qc ks kc mk) (k0_pay49 qs qc ks kc mk) (Scalar.ofBits .f32 0xC3E00000#32) (Scalar.ofBits .f32 0x43E00000#32) = attC (shapeCast S3x640x256 (extractStridedSlice S3x1x640x256 ![0, 8, 0, 0] qc slices_S3x10x640x256_o0_8_0_0_S3x1x640x256) shapeCasts_S3x1x640x256_S3x640x256) (shapeCast S3x640x256 (extractStridedSlice S3x1x640x256 ![0, 1, 0, 0] kc slices_S3x2x640x256_o0_1_0_0_S3x1x640x256) shapeCasts_S3x1x640x256_S3x640x256) (shapeCast S3x640x256 (extractStridedSlice S3x1x640x256 ![0, 1, 0, 0] vc slices_S3x2x640x256_o0_1_0_0_S3x1x640x256) shapeCasts_S3x1x640x256_S3x640x256) (shapeCast S3x640 (extractStridedSlice S3x1x640 ![0, 8, 0] qs slices_S3x10x640_o0_8_0_S3x1x640) shapeCasts_S3x1x640_S3x640) (shapeCast S3x640 (extractStridedSlice S3x1x640 ![0, 1, 0] ks slices_S3x2x640_o0_1_0_S3x1x640) shapeCasts_S3x1x640_S3x640) (shapeCast S3x640 (extractStridedSlice S3x1x640 ![0, 1, 0] vs slices_S3x2x640_o0_1_0_S3x1x640) shapeCasts_S3x1x640_S3x640) mk := rfl
/-- and so it reads at an index. -/
theorem head8_apply (qs : FVec Ideal S3x10x640 .f32) (qc : FVec Ideal S3x10x640x256 .fp8e4m3) (ks : FVec Ideal S3x2x640 .f32) (kc : FVec Ideal S3x2x640x256 .fp8e4m3)
    (vs : FVec Ideal S3x2x640 .f32) (vc : FVec Ideal S3x2x640x256 .fp8e4m3) (mk : IVec S3x640x640 1) (b : Fin 3) (T : Fin 640) (d : Fin 256) :
    k0_pay50 vs vc (k0_pay48 qs qc ks kc mk) (k0_pay49 qs qc ks kc mk) (Scalar.ofBits .f32 0xC3E00000#32) (Scalar.ofBits .f32 0x43E00000#32) (ix3 b T d) = refA (fun e => qc (ix4 b 8 T e)) (qs (ix3 b 8 T)) (fun p e => kc (ix4 b 1 p e)) (fun p => ks (ix3 b 1 p)) (fun p => vs (ix3 b 1 p))
      (fun p => vc (ix4 b 1 p d)) (fun p => mk (ix3 b T p)) := by
  rw [head8_eq, attC_apply]
  have a1 : ∀ e, (shapeCast S3x640x256 (extractStridedSlice S3x1x640x256 ![0, 8, 0, 0] qc slices_S3x10x640x256_o0_8_0_0_S3x1x640x256) shapeCasts_S3x1x640x256_S3x640x256) (ix3 b T e) = qc (ix4 b 8 T e) := by intro e; pointwise
  have a2 : ∀ p e, (shapeCast S3x640x256 (extractStridedSlice S3x1x640x256 ![0, 1, 0, 0] kc slices_S3x2x640x256_o0_1_0_0_S3x1x640x256) shapeCasts_S3x1x640x256_S3x640x256) (ix3 b p e) = kc (ix4 b 1 p e) := by intro p e; pointwise
  have a3 : ∀ p e, (shapeCast S3x640x256 (extractStridedSlice S3x1x640x256 ![0, 1, 0, 0] vc slices_S3x2x640x256_o0_1_0_0_S3x1x640x256) shapeCasts_S3x1x640x256_S3x640x256) (ix3 b p e) = vc (ix4 b 1 p e) := by intro p e; pointwise
  have a4 : (shapeCast S3x640 (extractStridedSlice S3x1x640 ![0, 8, 0] qs slices_S3x10x640_o0_8_0_S3x1x640) shapeCasts_S3x1x640_S3x640) (ix2 b T) = qs (ix3 b 8 T) := by pointwise
  have a5 : ∀ p, (shapeCast S3x640 (extractStridedSlice S3x1x640 ![0, 1, 0] ks slices_S3x2x640_o0_1_0_S3x1x640) shapeCasts_S3x1x640_S3x640) (ix2 b p) = ks (ix3 b 1 p) := by intro p; pointwise
  have a6 : ∀ p, (shapeCast S3x640 (extractStridedSlice S3x1x640 ![0, 1, 0] vs slices_S3x2x640_o0_1_0_S3x1x640) shapeCasts_S3x1x640_S3x640) (ix2 b p) = vs (ix3 b 1 p) := by intro p; pointwise
  simp only [a1, a2, a3, a4, a5, a6]

/-- Head 9 is that function of its slices; -/
theorem head9_eq {F : FTy → Type} [FloatOps F] [Named F] (qs : FVec F S3x10x640 .f32) (qc : FVec F S3x10x640x256 .fp8e4m3) (ks : FVec F S3x2x640 .f32) (kc : FVec F S3x2x640x256 .fp8e4m3)
    (vs : FVec F S3x2x640 .f32) (vc : FVec F S3x2x640x256 .fp8e4m3) (mk : IVec S3x640x640 1) :
    k0_pay1 vs vc (k0_pay51 qs qc ks kc mk) (k0_pay52 qs qc ks kc mk) (Scalar.ofBits .f32 0x43800000#32) = attC (shapeCast S3x640x256 (extractStridedSlice S3x1x640x256 ![0, 9, 0, 0] qc slices_S3x10x640x256_o0_9_0_0_S3x1x640x256) shapeCasts_S3x1x640x256_S3x640x256) (shapeCast S3x640x256 (extractStridedSlice S3x1x640x256 ![0, 1, 0, 0] kc slices_S3x2x640x256_o0_1_0_0_S3x1x640x256) shapeCasts_S3x1x640x256_S3x640x256) (shapeCast S3x640x256 (extractStridedSlice S3x1x640x256 ![0, 1, 0, 0] vc slices_S3x2x640x256_o0_1_0_0_S3x1x640x256) shapeCasts_S3x1x640x256_S3x640x256) (shapeCast S3x640 (extractStridedSlice S3x1x640 ![0, 9, 0] qs slices_S3x10x640_o0_9_0_S3x1x640) shapeCasts_S3x1x640_S3x640) (shapeCast S3x640 (extractStridedSlice S3x1x640 ![0, 1, 0] ks slices_S3x2x640_o0_1_0_S3x1x640) shapeCasts_S3x1x640_S3x640) (shapeCast S3x640 (extractStridedSlice S3x1x640 ![0, 1, 0] vs slices_S3x2x640_o0_1_0_S3x1x640) shapeCasts_S3x1x640_S3x640) mk := rfl
/-- and so it reads at an index. -/
theorem head9_apply (qs : FVec Ideal S3x10x640 .f32) (qc : FVec Ideal S3x10x640x256 .fp8e4m3) (ks : FVec Ideal S3x2x640 .f32) (kc : FVec Ideal S3x2x640x256 .fp8e4m3)
    (vs : FVec Ideal S3x2x640 .f32) (vc : FVec Ideal S3x2x640x256 .fp8e4m3) (mk : IVec S3x640x640 1) (b : Fin 3) (T : Fin 640) (d : Fin 256) :
    k0_pay1 vs vc (k0_pay51 qs qc ks kc mk) (k0_pay52 qs qc ks kc mk) (Scalar.ofBits .f32 0x43800000#32) (ix3 b T d) = refA (fun e => qc (ix4 b 9 T e)) (qs (ix3 b 9 T)) (fun p e => kc (ix4 b 1 p e)) (fun p => ks (ix3 b 1 p)) (fun p => vs (ix3 b 1 p))
      (fun p => vc (ix4 b 1 p d)) (fun p => mk (ix3 b T p)) := by
  rw [head9_eq, attC_apply]
  have a1 : ∀ e, (shapeCast S3x640x256 (extractStridedSlice S3x1x640x256 ![0, 9, 0, 0] qc slices_S3x10x640x256_o0_9_0_0_S3x1x640x256) shapeCasts_S3x1x640x256_S3x640x256) (ix3 b T e) = qc (ix4 b 9 T e) := by intro e; pointwise
  have a2 : ∀ p e, (shapeCast S3x640x256 (extractStridedSlice S3x1x640x256 ![0, 1, 0, 0] kc slices_S3x2x640x256_o0_1_0_0_S3x1x640x256) shapeCasts_S3x1x640x256_S3x640x256) (ix3 b p e) = kc (ix4 b 1 p e) := by intro p e; pointwise
  have a3 : ∀ p e, (shapeCast S3x640x256 (extractStridedSlice S3x1x640x256 ![0, 1, 0, 0] vc slices_S3x2x640x256_o0_1_0_0_S3x1x640x256) shapeCasts_S3x1x640x256_S3x640x256) (ix3 b p e) = vc (ix4 b 1 p e) := by intro p e; pointwise
  have a4 : (shapeCast S3x640 (extractStridedSlice S3x1x640 ![0, 9, 0] qs slices_S3x10x640_o0_9_0_S3x1x640) shapeCasts_S3x1x640_S3x640) (ix2 b T) = qs (ix3 b 9 T) := by pointwise
  have a5 : ∀ p, (shapeCast S3x640 (extractStridedSlice S3x1x640 ![0, 1, 0] ks slices_S3x2x640_o0_1_0_S3x1x640) shapeCasts_S3x1x640_S3x640) (ix2 b p) = ks (ix3 b 1 p) := by intro p; pointwise
  have a6 : ∀ p, (shapeCast S3x640 (extractStridedSlice S3x1x640 ![0, 1, 0] vs slices_S3x2x640_o0_1_0_S3x1x640) shapeCasts_S3x1x640_S3x640) (ix2 b p) = vs (ix3 b 1 p) := by intro p; pointwise
  simp only [a1, a2, a3, a4, a5, a6]

end Cert.ReferenceIdeal.Rd
end
-- ==== Proof.Att.lean ====
module

public import proofs.«01_k».proof.Proof.Spec
public import proofs.«01_k».proof.Proof.RefHeads

/-! Attention over the reals: the kernel's row and the reference's, each as a quotient of two real sums. -/

@[expose] public section

set_option maxRecDepth 16384

noncomputable section

namespace Cert.KernelIdeal.Voc

open Idealize.ShloMosaic

theorem coe_sum {n : ℕ} (f : Fin n → ℝ) : (∑ i, ((f i : ℝ) : EReal)) = ((∑ i, f i : ℝ) : EReal) := by
  have : ∀ s : Finset (Fin n), (∑ i ∈ s, ((f i : ℝ) : EReal)) = ((∑ i ∈ s, f i : ℝ) : EReal) := by
    intro s
    induction s using Finset.induction_on with
    | empty => simp
    | insert a s ha ih => rw [Finset.sum_insert ha, Finset.sum_insert ha, ih, EReal.coe_add]
  exact this _

/-- The greatest of finitely many values. -/
theorem fold_eq {n : ℕ} (f : Fin n → EReal) (M : EReal) (i0 : Fin n) (h0 : f i0 = M) (h : ∀ i, f i ≤ M) : Finset.univ.fold max ⊥ f = M := by
  apply le_antisymm
  · rw [Finset.fold_max_le]
    exact ⟨bot_le, fun i _ => h i⟩
  · rw [Finset.le_fold_max]
    exact Or.inr ⟨i0, Finset.mem_univ _, h0.ge⟩

/-- A clipped value is a real. -/
theorem clipE_real (x : EReal) : ∃ r : ℝ, clipE x = (r : EReal) := by
  have e : clipE x = min ((448 : ℝ) : EReal) (max ((-448 : ℝ) : EReal) x) := by
    unfold clipE
    exact congrArg₂ min f32_448 (congrArg₂ max f32_n448 rfl)
  rw [e]
  induction x with
  | bot => exact ⟨-448, by rw [max_eq_left bot_le]; exact min_eq_right (EReal.coe_le_coe_iff.mpr (by norm_num))⟩
  | top => exact ⟨448, by rw [max_eq_right le_top]; exact min_eq_left le_top⟩
  | coe r => exact ⟨min 448 (max (-448) r), by norm_cast⟩
/-- Between 0 and 256 the clip changes nothing. -/
theorem clipE_id (r : ℝ) (h0 : 0 ≤ r) (h1 : r ≤ 256) : clipE (r : EReal) = (r : EReal) := by
  have e : clipE (r : EReal) = min ((448 : ℝ) : EReal) (max ((-448 : ℝ) : EReal) (r : EReal)) := by
    unfold clipE
    exact congrArg₂ min f32_448 (congrArg₂ max f32_n448 rfl)
  rw [e, max_eq_right (by exact_mod_cast (by linarith : (-448 : ℝ) ≤ r)), min_eq_right (by exact_mod_cast (by linarith : r ≤ (448 : ℝ)))]

theorem exp2_coe (r : ℝ) : Ideal.exp2 (r : EReal) = ((Real.exp (r * Real.log 2) : ℝ) : EReal) := by
  show ((Real.rpow 2 r : ℝ) : EReal) = _
  rw [show Real.rpow 2 r = (2 : ℝ) ^ r from rfl, Real.rpow_def_of_pos (by norm_num), mul_comm]
theorem exp_256 : Real.exp (8 * Real.log 2) = 256 := by
  rw [show (8 : ℝ) * Real.log 2 = Real.log 2 * 8 by ring, Real.exp_mul, Real.exp_log (by norm_num)]
  norm_num

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The kernel's row: where `ok` holds the scores are the reals `z`, elsewhere minus infinity. -/
theorem attE_real (q : Fin 256 → EReal) (r : ℝ) (kw : Fin 256 → Fin 256 → EReal) (vw kl bias : Fin 256 → EReal)
    (ok : Fin 256 → Prop) [DecidablePred ok] (z V : Fin 256 → ℝ) (c0 : Fin 256) (hr : 0 < r)
    (hz : ∀ c, ok c → (∑ e : Fin 256, q e * kw c e) * kl c + bias c = (z c : EReal))
    (hb : ∀ c, ¬ ok c → (∑ e : Fin 256, q e * kw c e) * kl c + bias c = ⊥)
    (hv : ∀ c, ok c → vw c = (V c : EReal)) (h0 : ok c0) (hm : ∀ c, ok c → z c ≤ z c0) :
    attE q (r : EReal) kw vw kl bias = (((∑ c : Fin 256, if ok c then 256 * Real.exp ((z c - z c0) * r * Real.log 2) * V c else 0)
      / (∑ c : Fin 256, if ok c then 256 * Real.exp ((z c - z c0) * r * Real.log 2) else 0) : ℝ) : EReal) := by
  have hl : (0 : ℝ) < Real.log 2 := Real.log_pos (by norm_num)
  unfold attE
  have hM : Finset.univ.fold max ⊥ (fun c : Fin 256 => (∑ e : Fin 256, q e * kw c e) * kl c + bias c) = (z c0 : EReal) := by
    refine fold_eq _ _ c0 (hz c0 h0) fun c => ?_
    by_cases hc : ok c
    · rw [hz c hc]; exact_mod_cast hm c hc
    · rw [hb c hc]; exact bot_le
  have hp : ∀ c, Ideal.exp2 (((∑ e : Fin 256, q e * kw c e) * kl c + bias c) * (r : EReal) - ((z c0 : EReal) * (r : EReal) - ((8 : ℝ) : EReal)))
      = ((if ok c then 256 * Real.exp ((z c - z c0) * r * Real.log 2) else 0 : ℝ) : EReal) := by
    intro c
    by_cases hc : ok c
    · rw [hz c hc, if_pos hc, ← EReal.coe_mul, ← EReal.coe_mul, ← EReal.coe_sub, ← EReal.coe_sub, exp2_coe, ← exp_256, ← Real.exp_add]
      congr 2; ring
    · rw [hb c hc, if_neg hc, EReal.bot_mul_coe_of_pos hr, EReal.bot_sub]
      rfl
  dsimp only
  rw [hM]
  simp only [hp]
  have hcl : ∀ c, clipE ((if ok c then 256 * Real.exp ((z c - z c0) * r * Real.log 2) else 0 : ℝ) : EReal) * vw c
      = ((if ok c then 256 * Real.exp ((z c - z c0) * r * Real.log 2) * V c else 0 : ℝ) : EReal) := by
    intro c
    by_cases hc : ok c
    · rw [if_pos hc, if_pos hc, clipE_id, hv c hc, ← EReal.coe_mul]
      · positivity
      · have : Real.exp ((z c - z c0) * r * Real.log 2) ≤ 1 := by
          rw [Real.exp_le_one_iff]
          have h1 : z c - z c0 ≤ 0 := by linarith [hm c hc]
          have h2 : 0 ≤ r * Real.log 2 := by positivity
          rw [mul_assoc]
          exact mul_nonpos_of_nonpos_of_nonneg h1 h2
        linarith
    · rw [if_neg hc, if_neg hc, clipE_id 0 le_rfl (by norm_num)]
      simp
  simp only [hcl]
  rw [coe_sum, coe_sum]
  have hpos : (0 : ℝ) < ∑ c : Fin 256, if ok c then 256 * Real.exp ((z c - z c0) * r * Real.log 2) else 0 := by
    refine Finset.sum_pos' (fun c _ => ?_) ⟨c0, Finset.mem_univ _, ?_⟩
    · split_ifs
      · positivity
      · exact le_rfl
    · rw [if_pos h0]; positivity
  rw [show (1 : EReal) = ((1 : ℝ) : EReal) from rfl, div_coe _ _ hpos.ne', ← EReal.coe_mul]
  congr 1
  rw [mul_one_div]

end Cert.KernelIdeal.Voc

namespace Cert.ReferenceIdeal.Rd

open Idealize.ShloMosaic
open Cert.KernelIdeal.Voc

theorem f32_256 : Ideal.ofBits .f32 0x43800000#32 = ((256 : ℝ) : EReal) := by
  simp [Ideal.ofBits, Ideal.ieee]; try rw [← EReal.coe_mul]; norm_num
theorem f32_16th : Ideal.ofBits .f32 0x3D800000#32 = ((16⁻¹ : ℝ) : EReal) := by
  simp [Ideal.ofBits, Ideal.ieee]; try rw [← EReal.coe_mul]; norm_num

/-- The reference's row: where `ok` holds the scores are the reals `y`, elsewhere minus infinity. -/
theorem refA_real (q : Fin 256 → EReal) (qs : EReal) (k : Fin 640 → Fin 256 → EReal) (ks vs v : Fin 640 → EReal) (mk : Fin 640 → BitVec 1)
    (ok : Fin 640 → Prop) [DecidablePred ok] (y U W : Fin 640 → ℝ) (p0 : Fin 640)
    (hmk : ∀ p, mk p = BitVec.ofBool (decide (ok p)))
    (hy : ∀ p, (∑ e : Fin 256, q e * k p e) * qs * ks p * ((16⁻¹ : ℝ) : EReal) = (y p : EReal))
    (hU : ∀ p, vs p = (U p : EReal)) (hW : ∀ p, v p = (W p : EReal)) (h0 : ok p0) (hm : ∀ p, ok p → y p ≤ y p0) :
    refA q qs k ks vs v mk = (((∑ p : Fin 640, if ok p then Real.exp (y p - y p0) * 256 * U p * W p else 0)
      / (256 * ∑ p : Fin 640, if ok p then Real.exp (y p - y p0) else 0) : ℝ) : EReal) := by
  have hs : ∀ p, scR q qs k ks mk p = if ok p then (y p : EReal) else ⊥ := by
    intro p
    unfold scR
    rw [hmk, f32_16th, hy, f32_ninf]
    by_cases hc : ok p
    · rw [if_pos hc]; simp [Scalar.select, hc]
    · rw [if_neg hc]; simp [Scalar.select, hc]
  have hM : Finset.univ.fold max ⊥ (fun p => scR q qs k ks mk p) = (y p0 : EReal) := by
    refine fold_eq _ _ p0 (by rw [hs, if_pos h0]) fun p => ?_
    rw [hs]
    split_ifs with hc
    · exact_mod_cast hm p hc
    · exact bot_le
  have hw : ∀ p, Ideal.exp (scR q qs k ks mk p - (y p0 : EReal)) = ((if ok p then Real.exp (y p - y p0) else 0 : ℝ) : EReal) := by
    intro p
    rw [hs]
    split_ifs with hc
    · rw [← EReal.coe_sub]; rfl
    · rw [EReal.bot_sub]; rfl
  unfold refA
  dsimp only
  rw [f32_ninf, show Finset.univ.fold max ⊥ (scR q qs k ks mk) = (y p0 : EReal) from hM]
  simp only [hw, f32_256]
  have hcl : ∀ p, clipE (((if ok p then Real.exp (y p - y p0) else 0 : ℝ) : EReal) * ((256 : ℝ) : EReal)) * vs p * v p
      = ((if ok p then Real.exp (y p - y p0) * 256 * U p * W p else 0 : ℝ) : EReal) := by
    intro p
    rw [← EReal.coe_mul, hU, hW]
    by_cases hc : ok p
    · rw [if_pos hc, if_pos hc, clipE_id, ← EReal.coe_mul, ← EReal.coe_mul]
      · positivity
      · have : Real.exp (y p - y p0) ≤ 1 := by
          rw [Real.exp_le_one_iff]
          linarith [hm p hc]
        linarith
    · rw [if_neg hc, if_neg hc, zero_mul, clipE_id 0 le_rfl (by norm_num)]
      simp
  simp only [hcl]
  rw [coe_sum, coe_sum, ← EReal.coe_mul]
  have hpos : (0 : ℝ) < ∑ p : Fin 640, if ok p then Real.exp (y p - y p0) else 0 := by
    refine Finset.sum_pos' (fun p _ => ?_) ⟨p0, Finset.mem_univ _, ?_⟩
    · split_ifs
      · positivity
      · exact le_rfl
    · rw [if_pos h0]; positivity
  rw [div_coe _ _ (by positivity)]

end Cert.ReferenceIdeal.Rd

end
-- ==== Proof.Agree.lean ====
module

public import proofs.«01_k».proof.Proof.Att

/-! The reference's codes, scales and attention are the kernel's, for arrays in the quantiser's range whose documents fit the window. -/

@[expose] public section

set_option maxRecDepth 16384

noncomputable section

namespace Cert.KernelIdeal.Voc

open Idealize.ShloMosaic
open Cert.ReferenceIdeal.Rd (rE refA refA_real)

/-! ## The quantiser -/

/-- The reference's exponent is an integer. -/
theorem rE_eq (a : EReal) (h : Good a) : rE a = (((expZ a : ℤ) : ℝ) : EReal) := by
  have hl : (0 : ℝ) < Real.log 2 := Real.log_pos (by norm_num)
  rcases h with rfl | ⟨r, rfl, h1, h2⟩
  · unfold rE expZ
    rw [if_pos rfl, if_pos rfl]; simp
  · have hr : 0 < r := lt_of_lt_of_le (by positivity) h1
    have hne : ((r : ℝ) : EReal) ≠ 0 := by exact_mod_cast hr.ne'
    have hq : 0 < r * 448⁻¹ := by positivity
    unfold rE expZ
    rw [if_neg hne, if_neg hne, EReal.toReal_coe, ← EReal.coe_mul]
    have hlog : Ideal.log ((r * 448⁻¹ : ℝ) : EReal) = ((Real.log (r * 448⁻¹) : ℝ) : EReal) := by
      show (if r * 448⁻¹ ≤ 0 then ⊥ else ((Real.log (r * 448⁻¹) : ℝ) : EReal)) = _
      rw [if_neg (not_le.mpr hq)]
    rw [hlog, div_coe _ _ hl.ne']
    show (((⌊Real.log (r * 448⁻¹) / Real.log 2⌋ : ℤ) : ℝ) : EReal) + 1 = _
    unfold expR
    push_cast
    rfl
theorem exp2_int (n : ℤ) : Ideal.exp2 (((n : ℤ) : ℝ) : EReal) = (((2 : ℝ) ^ n : ℝ) : EReal) := by
  show ((Real.rpow 2 (n : ℝ) : ℝ) : EReal) = _
  rw [show Real.rpow 2 (n : ℝ) = (2 : ℝ) ^ (n : ℝ) from rfl, Real.rpow_intCast]
theorem scale_agree (a : EReal) (h : Good a) : Ideal.exp2 (rE a) = scaleE a := by
  rw [rE_eq a h, exp2_int, (scaleE_eq a h).1]
theorem inv_agree (a : EReal) (h : Good a) : Ideal.exp2 (0 - rE a) = invE a := by
  rw [rE_eq a h, (scaleE_eq a h).2, ← exp2_int, zero_sub, ← EReal.coe_neg]
  push_cast
  rfl

/-- The reference's codes and scale of a row. -/
def RQC (x : ℕ → ℕ → ℕ → EReal) (b h T : ℕ) (d : Fin 256) : EReal := clipE (headRow x b T h d * Ideal.exp2 (0 - rE (amaxE (headRow x b T h))))
def RQS (x : ℕ → ℕ → ℕ → EReal) (b h T : ℕ) : EReal := Ideal.exp2 (rE (amaxE (headRow x b T h)))

theorem RQC_eq (x : ℕ → ℕ → ℕ → EReal) (b h T : ℕ) (d : Fin 256) (hg : Good (amaxE (headRow x b T h))) : RQC x b h T d = QC x b h T d := by
  unfold RQC QC codeE
  rw [inv_agree _ hg]
theorem RQS_eq (x : ℕ → ℕ → ℕ → EReal) (b h T : ℕ) (hg : Good (amaxE (headRow x b T h))) : RQS x b h T = QS x b h T := by
  unfold RQS QS
  rw [scale_agree _ hg]

/-! ## Attention -/

/-- The reference's attention at token `T`, head `h`, lane `d`. -/
def RO (x k v : ℕ → ℕ → ℕ → EReal) (sg : ℕ → ℕ → BitVec 32) (b T h : ℕ) (d : Fin 256) : EReal :=
  refA (fun e => RQC x b h T e) (RQS x b h T) (fun p e => RQC k b (h / 5) p.val e) (fun p => RQS k b (h / 5) p.val) (fun p => RQS v b (h / 5) p.val)
    (fun p => RQC v b (h / 5) p.val d) (fun p => BitVec.ofBool (decide (p.val ≤ T ∧ sg b p.val = sg b T)))

theorem lam_eq : lam = (((16 * Real.log 2)⁻¹ : ℝ) : EReal) := by
  unfold lam
  exact IdealRules.named_const.ideal_named_scalar _ _ _ _ rfl

/-- A sum over the window's keys that count is the sum over all keys that count. -/
theorem sum_window (sg : ℕ → BitVec 32) (T : ℕ) (hT : T < 640) (hn : ∀ p, p < 640 → sg T = sg p → T ≤ p + 224)
    (okc : Fin 256 → Prop) [DecidablePred okc] (ok : Fin 640 → Prop) [DecidablePred ok]
    (hc : ∀ c, okc c ↔ c.val ≤ T % 32 + 224 ∧ 256 ≤ wrow T c.val ∧ sg (wrow T c.val - 256) = sg T)
    (hp : ∀ p, ok p ↔ p.val ≤ T ∧ sg p.val = sg T) (φ : ℕ → ℝ) :
    (∑ c : Fin 256, if okc c then φ (wrow T c.val - 256) else 0) = ∑ p : Fin 640, if ok p then φ p.val else 0 := by
  rw [← Finset.sum_filter, ← Finset.sum_filter]
  refine Finset.sum_bij' (fun c _ => (⟨(wrow T c.val - 256) % 640, Nat.mod_lt _ (by norm_num)⟩ : Fin 640))
    (fun p _ => (⟨(p.val + 224 - 32 * (T / 32)) % 256, Nat.mod_lt _ (by norm_num)⟩ : Fin 256)) ?_ ?_ ?_ ?_ ?_
  · intro c hcm
    rw [Finset.mem_filter] at hcm ⊢
    obtain ⟨h1, h2, h3⟩ := (hc c).mp hcm.2
    have hlt : wrow T c.val - 256 ≤ T := by unfold wrow at *; omega
    have hm : (wrow T c.val - 256) % 640 = wrow T c.val - 256 := Nat.mod_eq_of_lt (by omega)
    refine ⟨Finset.mem_univ _, (hp _).mpr ?_⟩
    dsimp only
    rw [hm]
    exact ⟨hlt, h3⟩
  · intro p hpm
    rw [Finset.mem_filter] at hpm ⊢
    obtain ⟨h1, h2⟩ := (hp p).mp hpm.2
    have h3 := hn p.val p.isLt h2.symm
    have hm : (p.val + 224 - 32 * (T / 32)) % 256 = p.val + 224 - 32 * (T / 32) := Nat.mod_eq_of_lt (by omega)
    refine ⟨Finset.mem_univ _, (hc _).mpr ?_⟩
    dsimp only
    rw [hm]
    have e : wrow T (p.val + 224 - 32 * (T / 32)) = p.val + 256 := by unfold wrow; omega
    rw [e]
    refine ⟨by omega, by omega, ?_⟩
    rw [show p.val + 256 - 256 = p.val by omega]
    exact h2
  · intro c hcm
    rw [Finset.mem_filter] at hcm
    obtain ⟨h1, h2, h3⟩ := (hc c).mp hcm.2
    apply Fin.ext
    have := c.isLt
    unfold wrow at *
    dsimp only
    omega
  · intro p hpm
    rw [Finset.mem_filter] at hpm
    obtain ⟨h1, h2⟩ := (hp p).mp hpm.2
    have h3 := hn p.val p.isLt h2.symm
    have := p.isLt
    apply Fin.ext
    unfold wrow
    dsimp only
    omega
  · intro c hcm
    rw [Finset.mem_filter] at hcm
    obtain ⟨h1, h2, h3⟩ := (hc c).mp hcm.2
    dsimp only
    rw [Nat.mod_eq_of_lt (by unfold wrow at *; omega)]

/-- The kernel's attention is the reference's. -/
theorem OUT_eq (x k v : ℕ → ℕ → ℕ → EReal) (sg : ℕ → ℕ → BitVec 32) (b T h : ℕ) (d : Fin 256) (hT : T < 640)
    (gx : Good (amaxE (headRow x b T h))) (gk : ∀ p, p < 640 → Good (amaxE (headRow k b p (h / 5)))) (gv : ∀ p, p < 640 → Good (amaxE (headRow v b p (h / 5))))
    (hn : ∀ p, p < 640 → sg b T = sg b p → T ≤ p + 224) (hs : sg b T ≠ 4294967295#32) :
    OUT x k v sg b T h d = RO x k v sg b T h d := by
  have hl : (0 : ℝ) < Real.log 2 := Real.log_pos (by norm_num)
  choose qR hq using fun e => clipE_real (headRow x b T h e * invE (amaxE (headRow x b T h)))
  choose kR hk using fun p e => clipE_real (headRow k b p (h / 5) e * invE (amaxE (headRow k b p (h / 5))))
  choose vR hv using fun p e => clipE_real (headRow v b p (h / 5) e * invE (amaxE (headRow v b p (h / 5))))
  have hq' : ∀ e, QC x b h T e = (qR e : EReal) := hq
  have hk' : ∀ p e, QC k b (h / 5) p e = (kR p e : EReal) := hk
  have hv' : ∀ p e, QC v b (h / 5) p e = (vR p e : EReal) := hv
  obtain ⟨qs, hqs, hqs'⟩ : ∃ r : ℝ, 0 < r ∧ QS x b h T = (r : EReal) := ⟨_, by positivity, (scaleE_eq _ gx).1⟩
  obtain ⟨ks, hks⟩ : ∃ f : ℕ → ℝ, ∀ p, p < 640 → QS k b (h / 5) p = (f p : EReal) := ⟨_, fun p hp => (scaleE_eq _ (gk p hp)).1⟩
  obtain ⟨vs, hvs⟩ : ∃ f : ℕ → ℝ, ∀ p, p < 640 → QS v b (h / 5) p = (f p : EReal) := ⟨_, fun p hp => (scaleE_eq _ (gv p hp)).1⟩
  -- the scores as reals
  let Y : ℕ → ℝ := fun p => (∑ e : Fin 256, qR e * kR p e) * qs * ks p * 16⁻¹
  have hdot : ∀ p, (∑ e : Fin 256, ((qR e : ℝ) : EReal) * ((kR p e : ℝ) : EReal)) = ((∑ e : Fin 256, qR e * kR p e : ℝ) : EReal) := by
    intro p
    rw [← coe_sum]
    exact Finset.sum_congr rfl fun e _ => (EReal.coe_mul _ _).symm
  -- the key with the greatest score
  obtain ⟨p0, hp0, hmax⟩ := Finset.exists_max_image (Finset.univ.filter fun p : Fin 640 => p.val ≤ T ∧ sg b p.val = sg b T) (fun p => Y p.val)
    ⟨⟨T, hT⟩, by rw [Finset.mem_filter]; exact ⟨Finset.mem_univ _, le_rfl, rfl⟩⟩
  rw [Finset.mem_filter] at hp0
  have hp0' := hp0.2
  have hmax' : ∀ p : Fin 640, p.val ≤ T ∧ sg b p.val = sg b T → Y p.val ≤ Y p0.val := fun p hp => hmax p (by rw [Finset.mem_filter]; exact ⟨Finset.mem_univ _, hp⟩)
  have hR : RO x k v sg b T h d = (((∑ p : Fin 640, if p.val ≤ T ∧ sg b p.val = sg b T then Real.exp (Y p.val - Y p0.val) * 256 * vs p.val * vR p.val d else 0)
      / (256 * ∑ p : Fin 640, if p.val ≤ T ∧ sg b p.val = sg b T then Real.exp (Y p.val - Y p0.val) else 0) : ℝ) : EReal) := by
    unfold RO
    rw [RQS_eq x b h T gx, hqs']
    simp only [RQC_eq x b h T _ gx, hq']
    exact refA_real _ _ _ _ _ _ _ (fun p : Fin 640 => p.val ≤ T ∧ sg b p.val = sg b T) (fun p => Y p.val) (fun p => vs p.val) (fun p => vR p.val d) p0
      (fun p => rfl)
      (fun p => by
        simp only [RQC_eq k b (h / 5) p.val _ (gk p.val p.isLt), RQS_eq k b (h / 5) p.val (gk p.val p.isLt), hk', hks p.val p.isLt]
        rw [hdot, ← EReal.coe_mul, ← EReal.coe_mul, ← EReal.coe_mul])
      (fun p => by rw [RQS_eq v b (h / 5) p.val (gv p.val p.isLt), hvs p.val p.isLt])
      (fun p => by rw [RQC_eq v b (h / 5) p.val d (gv p.val p.isLt), hv'])
      hp0' hmax'
  rw [hR]
  -- the kernel's window
  have hok : ∀ c : Fin 256, (c.val ≤ T % 32 + 224 ∧ sgS sg b (wrow T c.val) = sg b T) ↔ c.val ≤ T % 32 + 224 ∧ 256 ≤ wrow T c.val ∧ sg b (wrow T c.val - 256) = sg b T := by
    intro c
    unfold sgS
    split_ifs with hlt
    · constructor
      · rintro ⟨_, h2⟩; exact absurd h2.symm hs
      · rintro ⟨_, h2, _⟩; omega
    · constructor
      · rintro ⟨h1, h2⟩; exact ⟨h1, by omega, h2⟩
      · rintro ⟨h1, _, h2⟩; exact ⟨h1, h2⟩
  have htok : ∀ c : Fin 256, (c.val ≤ T % 32 + 224 ∧ sgS sg b (wrow T c.val) = sg b T) → ¬ wrow T c.val < 256 ∧ wrow T c.val - 256 ≤ T ∧ sg b (wrow T c.val - 256) = sg b T := by
    intro c hc
    obtain ⟨h1, h2, h3⟩ := (hok c).mp hc
    refine ⟨by omega, ?_, h3⟩
    unfold wrow at *; omega
  have hd0 := hn p0.val p0.isLt hp0'.2.symm
  have hlt0 : p0.val + 224 - 32 * (T / 32) < 256 := by omega
  have ew : wrow T (p0.val + 224 - 32 * (T / 32)) = p0.val + 256 := by unfold wrow; omega
  let Z : Fin 256 → ℝ := fun c => (∑ e : Fin 256, qR e * kR (wrow T c.val - 256) e) * (ks (wrow T c.val - 256) * (16 * Real.log 2)⁻¹)
  have hZ : ∀ c, Z c * qs * Real.log 2 = Y (wrow T c.val - 256) := by
    intro c
    simp only [Z, Y]
    field_simp
  have hok0 : p0.val + 224 - 32 * (T / 32) ≤ T % 32 + 224 ∧ sgS sg b (wrow T (p0.val + 224 - 32 * (T / 32))) = sg b T := by
    refine ⟨by omega, ?_⟩
    rw [ew]; unfold sgS
    rw [if_neg (by omega), show p0.val + 256 - 256 = p0.val by omega]
    exact hp0'.2
  have hK : OUT x k v sg b T h d = (((∑ c : Fin 256, if c.val ≤ T % 32 + 224 ∧ sgS sg b (wrow T c.val) = sg b T then
        256 * Real.exp ((Z c - Z ⟨p0.val + 224 - 32 * (T / 32), hlt0⟩) * qs * Real.log 2) * (vR (wrow T c.val - 256) d * vs (wrow T c.val - 256)) else 0)
      / (∑ c : Fin 256, if c.val ≤ T % 32 + 224 ∧ sgS sg b (wrow T c.val) = sg b T then
        256 * Real.exp ((Z c - Z ⟨p0.val + 224 - 32 * (T / 32), hlt0⟩) * qs * Real.log 2) else 0) : ℝ) : EReal) := by
    unfold OUT
    rw [hqs']
    simp only [hq']
    refine attE_real _ _ _ _ _ _ (fun c : Fin 256 => c.val ≤ T % 32 + 224 ∧ sgS sg b (wrow T c.val) = sg b T) Z
      (fun c => vR (wrow T c.val - 256) d * vs (wrow T c.val - 256)) ⟨p0.val + 224 - 32 * (T / 32), hlt0⟩ hqs ?_ ?_ ?_ hok0 ?_
    · intro c hc
      obtain ⟨h1, h2, h3⟩ := htok c hc
      simp only [kwS, klS, if_neg h1, if_pos hc, hk', hks _ (by omega : wrow T c.val - 256 < 640), lam_eq]
      rw [hdot, ← EReal.coe_mul, ← EReal.coe_mul, add_zero]
    · intro c hc
      rw [if_neg hc, EReal.add_bot]
    · intro c hc
      obtain ⟨h1, h2, h3⟩ := htok c hc
      simp only [vwS, if_neg h1, hv', hvs _ (by omega : wrow T c.val - 256 < 640)]
      rw [← EReal.coe_mul]
    · intro c hc
      obtain ⟨h1, h2, h3⟩ := htok c hc
      have hy := hmax' ⟨wrow T c.val - 256, by omega⟩ ⟨h2, h3⟩
      have e1 := hZ c
      have e2 := hZ ⟨p0.val + 224 - 32 * (T / 32), hlt0⟩
      dsimp only at hy e2
      rw [ew, show p0.val + 256 - 256 = p0.val by omega] at e2
      rw [← e1, ← e2, mul_assoc (Z c), mul_assoc (Z _)] at hy
      exact le_of_mul_le_mul_right hy (by positivity)
  rw [hK]
  congr 1
  have hdiff : ∀ c : Fin 256, (Z c - Z ⟨p0.val + 224 - 32 * (T / 32), hlt0⟩) * qs * Real.log 2 = Y (wrow T c.val - 256) - Y p0.val := by
    intro c
    have e2 := hZ ⟨p0.val + 224 - 32 * (T / 32), hlt0⟩
    dsimp only at e2
    rw [ew, show p0.val + 256 - 256 = p0.val by omega] at e2
    rw [← hZ c, ← e2]; ring
  simp only [hdiff]
  have s1 := sum_window (sg b) T hT hn (fun c : Fin 256 => c.val ≤ T % 32 + 224 ∧ sgS sg b (wrow T c.val) = sg b T) (fun p : Fin 640 => p.val ≤ T ∧ sg b p.val = sg b T)
    hok (fun p => Iff.rfl) (fun p => 256 * Real.exp (Y p - Y p0.val) * (vR p d * vs p))
  have s2 := sum_window (sg b) T hT hn (fun c : Fin 256 => c.val ≤ T % 32 + 224 ∧ sgS sg b (wrow T c.val) = sg b T) (fun p : Fin 640 => p.val ≤ T ∧ sg b p.val = sg b T)
    hok (fun p => Iff.rfl) (fun p => 256 * Real.exp (Y p - Y p0.val))
  rw [s1, s2, Finset.mul_sum]
  congr 1
  · refine Finset.sum_congr rfl fun p _ => ?_
    split_ifs
    · ring
    · rfl
  · refine Finset.sum_congr rfl fun p _ => ?_
    split_ifs
    · rfl
    · ring

end Cert.KernelIdeal.Voc

end
-- ==== Proof.KArr.lean ====
module

public import proofs.«01_k».proof.Proof.Run
public import proofs.«01_k».proof.Proof.Agree

/-! The kernel's seven results as whole arrays of its arguments. -/

@[expose] public section

set_option maxRecDepth 16384
set_option maxHeartbeats 200000

noncomputable section

namespace Cert.KernelIdeal.Voc

open Idealize.ShloMosaic Cert.KernelIdeal

/-- The attention result, the codes and the scales, whole. -/
def outF (x k v : ℕ → ℕ → ℕ → EReal) (sg : ℕ → ℕ → BitVec 32) : Vec Ideal S3x640x2560 .bf16 := fun i =>
  OUT x k v sg (i 0).val (i 1).val ((i 2).val / 256) ⟨(i 2).val % 256, by omega⟩
def qcG (x : ℕ → ℕ → ℕ → EReal) : Vec Ideal S3x10x640x256 .fp8e4m3 := fun i => QC x (i 0).val (i 1).val (i 2).val (i 3)
def qsG (x : ℕ → ℕ → ℕ → EReal) : Vec Ideal S3x10x640 .f32 := fun i => QS x (i 0).val (i 1).val (i 2).val
def kcG (x : ℕ → ℕ → ℕ → EReal) : Vec Ideal S3x2x640x256 .fp8e4m3 := fun i => QC x (i 0).val (i 1).val (i 2).val (i 3)
def ksG (x : ℕ → ℕ → ℕ → EReal) : Vec Ideal S3x2x640 .f32 := fun i => QS x (i 0).val (i 1).val (i 2).val

end Cert.KernelIdeal.Voc

namespace Cert.KernelIdeal.Run

open Idealize.ShloMosaic Idealize.ShloMosaic.TcCoe Idealize.SL.Sem Cert.KernelIdeal Cert.KernelIdeal.Gen Cert.KernelIdeal.Voc

variable (m : (ℓ : Loc nD τ sig) → Buf (Elt Ideal) ℓ) (ρ : Dev nD → PrngReg)

theorem arr4 (c : Dev nD) : (dats m 0 c).arrAt 4 cfg0.N = outF (X0 m c) (X1 m c) (X2 m c) (SG m c) := by
  refine (dats m 0 c).arrAt_eq_of_cover 4 (outF (X0 m c) (X1 m c) (X2 m c) (SG m c)) (fun t _ => ?_) cover4
  show (cfg0.win 4).cut (grid0.coords t) ((dats m 0 c).after 4 t) = _
  rw [after0_4, coord0, coord1]
  funext x
  refine Eq.trans ?_ (read4 (outF (X0 m c) (X1 m c) (X2 m c) (SG m c)) t x).symm
  rfl
theorem arr5 (c : Dev nD) : (dats m 0 c).arrAt 5 cfg0.N = qcG (X0 m c) := by
  refine (dats m 0 c).arrAt_eq_of_cover 5 (qcG (X0 m c)) (fun t _ => ?_) cover5
  show (cfg0.win 5).cut (grid0.coords t) ((dats m 0 c).after 5 t) = _
  rw [after0_5, coord0, coord1]
  funext x
  refine Eq.trans ?_ (read5 (qcG (X0 m c)) t x).symm
  rfl
theorem arr6 (c : Dev nD) : (dats m 0 c).arrAt 6 cfg0.N = qsG (X0 m c) := by
  refine (dats m 0 c).arrAt_eq_of_cover 6 (qsG (X0 m c)) (fun t _ => ?_) cover6
  show (cfg0.win 6).cut (grid0.coords t) ((dats m 0 c).after 6 t) = _
  rw [after0_6, coord0, coord1]
  funext x
  refine Eq.trans ?_ (read6 (qsG (X0 m c)) t x).symm
  rfl
theorem arr7 (c : Dev nD) : (dats m 0 c).arrAt 7 cfg0.N = kcG (X1 m c) := by
  refine (dats m 0 c).arrAt_eq_of_cover 7 (kcG (X1 m c)) (fun t _ => ?_) cover7
  show (cfg0.win 7).cut (grid0.coords t) ((dats m 0 c).after 7 t) = _
  rw [after0_7, coord0, coord1]
  funext x
  refine Eq.trans ?_ (read7 (kcG (X1 m c)) t x).symm
  rfl
theorem arr8 (c : Dev nD) : (dats m 0 c).arrAt 8 cfg0.N = ksG (X1 m c) := by
  refine (dats m 0 c).arrAt_eq_of_cover 8 (ksG (X1 m c)) (fun t _ => ?_) cover8
  show (cfg0.win 8).cut (grid0.coords t) ((dats m 0 c).after 8 t) = _
  rw [after0_8, coord0, coord1]
  funext x
  refine Eq.trans ?_ (read8 (ksG (X1 m c)) t x).symm
  rfl
theorem arr9 (c : Dev nD) : (dats m 0 c).arrAt 9 cfg0.N = kcG (X2 m c) := by
  refine (dats m 0 c).arrAt_eq_of_cover 9 (kcG (X2 m c)) (fun t _ => ?_) cover9
  show (cfg0.win 9).cut (grid0.coords t) ((dats m 0 c).after 9 t) = _
  rw [after0_9, coord0, coord1]
  funext x
  refine Eq.trans ?_ (read9 (kcG (X2 m c)) t x).symm
  rfl
theorem arr10 (c : Dev nD) : (dats m 0 c).arrAt 10 cfg0.N = ksG (X2 m c) := by
  refine (dats m 0 c).arrAt_eq_of_cover 10 (ksG (X2 m c)) (fun t _ => ?_) cover10
  show (cfg0.win 10).cut (grid0.coords t) ((dats m 0 c).after 10 t) = _
  rw [after0_10, coord0, coord1]
  funext x
  refine Eq.trans ?_ (read10 (ksG (X2 m c)) t x).symm
  rfl

/-- Every run ends with the seven results at these arrays and the arguments unchanged. -/
theorem run_arrays : θ_run defs (onTc (τ := τ) (main (F := Ideal))) ⟨m, fun _ => 0, ρ⟩ fun r => ∀ c : Dev nD,
      r.2.mem ((c.tc : Thread nD τ).loc main_v1_0) = outF (X0 m c) (X1 m c) (X2 m c) (SG m c)
      ∧ r.2.mem ((c.tc : Thread nD τ).loc main_v1_1) = qcG (X0 m c)
      ∧ r.2.mem ((c.tc : Thread nD τ).loc main_v1_2) = qsG (X0 m c)
      ∧ r.2.mem ((c.tc : Thread nD τ).loc main_v1_3) = kcG (X1 m c)
      ∧ r.2.mem ((c.tc : Thread nD τ).loc main_v1_4) = ksG (X1 m c)
      ∧ r.2.mem ((c.tc : Thread nD τ).loc main_v1_5) = kcG (X2 m c)
      ∧ r.2.mem ((c.tc : Thread nD τ).loc main_v1_6) = ksG (X2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (arr4 m c), ((h.1 c).1 5).trans (arr5 m c), ((h.1 c).1 6).trans (arr6 m c), ((h.1 c).1 7).trans (arr7 m c),
      ((h.1 c).1 8).trans (arr8 m c), ((h.1 c).1 9).trans (arr9 m c), ((h.1 c).1 10).trans (arr10 m c), h.2.1 c⟩)
    (θ_run_and (run_main m ρ) (frame m ρ))

/-! ## The arrays the grid finds, from the arguments -/

/-- Document numbers, read at natural-number coordinates. -/
def natD (A : S3x640.Idx → BitVec 32) (b T : ℕ) : BitVec 32 := if h : b < 3 ∧ T < 640 then A (ix2 ⟨b, h.1⟩ ⟨T, h.2⟩) else 0

theorem X0_eq (c : Dev nD) : X0 m c = natQ (m ((c.tc : Thread nD τ).loc main_arg0)) := by
  unfold X0
  exact congrArg natQ (V_main_arg0 m c)
theorem X1_eq (c : Dev nD) : X1 m c = natK (m ((c.tc : Thread nD τ).loc main_arg1)) := by
  unfold X1
  exact congrArg natK (V_main_arg1 m c)
theorem X2_eq (c : Dev nD) : X2 m c = natK (m ((c.tc : Thread nD τ).loc main_arg2)) := by
  unfold X2
  exact congrArg natK (V_main_arg2 m c)
theorem V_v0 (c : Dev nD) : V m c main_v0 = shapeCast S3x5x1x128 (m ((c.tc : Thread nD τ).loc main_arg3)) shapeCasts_S3x640_S3x5x1x128 := by
  unfold_abbrev_sides
  after_results
  rfl
theorem natS_cast (A : S3x640.Idx → BitVec 32) : natS (shapeCast S3x5x1x128 A shapeCasts_S3x640_S3x5x1x128) = natD A := by
  funext b T
  unfold natS natD
  split_ifs with h
  · pointwise []
    congr 2; exact Fin.ext (by dsimp only; omega)
  · rfl
theorem SG_eq (c : Dev nD) : SG m c = natD (m ((c.tc : Thread nD τ).loc main_arg3)) := by
  unfold SG
  exact (congrArg natS (V_v0 m c)).trans (natS_cast _)

end Cert.KernelIdeal.Run

end
-- ==== Proof.RArr.lean ====
module

public import proofs.«01_k».proof.Proof.KArr
public import proofs.«01_k».proof.Proof.RefHeads
public import proofs.«01_k».proof.Proof.Gen.ReferenceIdeal.Value

/-! The reference's seven results as whole arrays of its arguments. -/

@[expose] public section

set_option maxRecDepth 16384
set_option maxHeartbeats 200000

noncomputable section

namespace Cert.ReferenceIdeal.Arr

open Idealize.ShloMosaic Idealize.ShloMosaic.TcCoe Idealize.SL.Sem Cert.ReferenceIdeal Cert.ReferenceIdeal.Gen Cert.ReferenceIdeal.Rd
open Cert.KernelIdeal.Voc (RO RQC RQS headRow amaxE Good outF qcG qsG kcG ksG OUT_eq RQC_eq RQS_eq)
open Cert.KernelIdeal.Run (natQ natK natD)

section
variable (X K W : ℕ → ℕ → ℕ → EReal) (SG : ℕ → ℕ → BitVec 32)
variable (x0 : Vec Ideal S3x10x640x256 .bf16) (x1 : Vec Ideal S3x2x640x256 .bf16) (x2 : Vec Ideal S3x2x640x256 .bf16) (x3 : Vec Ideal S3x640 .i32)
  (hx0 : ∀ (b : Fin 3) (h : Fin 10) (T : Fin 640) (d : Fin 256), x0 (ix4 b h T d) = headRow X b T h d) (hx1 : ∀ (b : Fin 3) (h : Fin 2) (T : Fin 640) (d : Fin 256), x1 (ix4 b h T d) = headRow K b T h d)
  (hx2 : ∀ (b : Fin 3) (h : Fin 2) (T : Fin 640) (d : Fin 256), x2 (ix4 b h T d) = headRow W b T h d) (hx3 : ∀ (b : Fin 3) (T : Fin 640), x3 (ix2 b T) = SG b T)

theorem ld0 : View.ld x0 r0_0 = x0 := View.ld_unit_zero (by decide) _ _
theorem ld1 (x : Vec Ideal S3x2x640x256 .bf16) : View.ld x r0_1 = x := View.ld_unit_zero (by decide) _ _
theorem ld3 : View.ld x3 r0_4 = x3 := View.ld_unit_zero (by decide) _ _

/-! ## The values the pieces name -/

include hx0 in
theorem p53 (b : Fin 3) (h : Fin 10) (T : Fin 640) : (k0_pay53 x0 x1 x2 x3 : Vec Ideal S3x10x640 .f32) (ix3 b h T) = RQS X b h T := by
  show (k0_pay4 (F := Ideal) (View.ld x0 r0_0)) (ix3 b h T) = _
  rw [ld0, qs_apply]
  simp only [hx0]
  rfl
include hx0 in
theorem p54 (b : Fin 3) (h : Fin 10) (T : Fin 640) (d : Fin 256) : (k0_pay54 x0 x1 x2 x3 : Vec Ideal S3x10x640x256 .fp8e4m3) (ix4 b h T d) = RQC X b h T d := by
  show (k0_pay5 (F := Ideal) (View.ld x0 r0_0)) (ix4 b h T d) = _
  rw [ld0, qc_apply]
  simp only [hx0]
  rfl
include hx1 in
theorem p57 (b : Fin 3) (h : Fin 2) (T : Fin 640) : (k0_pay57 x0 x1 x2 x3 : Vec Ideal S3x2x640 .f32) (ix3 b h T) = RQS K b h T := by
  show (k0_pay10 (F := Ideal) (k0_pay7 (View.ld x1 r0_1)) (k0_pay8 (View.ld x1 r0_1))) (ix3 b h T) = _
  rw [ld1, ks_apply]
  simp only [hx1]
  rfl
include hx1 in
theorem p58 (b : Fin 3) (h : Fin 2) (T : Fin 640) (d : Fin 256) : (k0_pay58 x0 x1 x2 x3 : Vec Ideal S3x2x640x256 .fp8e4m3) (ix4 b h T d) = RQC K b h T d := by
  show (k0_pay11 (F := Ideal) (k0_pay6 (View.ld x1 r0_1)) (k0_pay7 (View.ld x1 r0_1)) (k0_pay8 (View.ld x1 r0_1))) (ix4 b h T d) = _
  rw [ld1, kc_apply]
  simp only [hx1]
  rfl
include hx2 in
theorem p59 (b : Fin 3) (h : Fin 2) (T : Fin 640) : (k0_pay59 x0 x1 x2 x3 : Vec Ideal S3x2x640 .f32) (ix3 b h T) = RQS W b h T := by
  show (k0_pay14 (F := Ideal) (View.ld x2 r0_1)) (ix3 b h T) = _
  rw [ld1, vs_apply]
  simp only [hx2]
  rfl
include hx2 in
theorem p61 (b : Fin 3) (h : Fin 2) (T : Fin 640) (d : Fin 256) : (k0_pay61 x0 x1 x2 x3 : Vec Ideal S3x2x640x256 .fp8e4m3) (ix4 b h T d) = RQC W b h T d := by
  show (k0_pay16 (F := Ideal) (k0_pay15 (View.ld x2 r0_1)) (Scalar.ofBits .f32 0xC3E00000#32)) (ix4 b h T d) = _
  rw [ld1, vc_apply]
  simp only [hx2]
  rfl
include hx3 in
theorem p62 (b : Fin 3) (T p : Fin 640) : (k0_pay62 x0 x1 x2 x3 : IVec S3x640x640 1) (ix3 b T p) = BitVec.ofBool (decide (p.val ≤ T.val ∧ SG b p.val = SG b T.val)) := by
  show (k0_pay17 (F := Ideal) (View.ld x3 r0_4)) (ix3 b T p) = _
  rw [ld3, mask_apply]
  simp only [hx3]

/-! ## The seven blocks -/

include hx0 in
theorem o5 (y : S3x10x640x256.Idx) : out0_5 x0 x1 x2 x3 y = RQC X (y 0).val (y 1).val (y 2).val (y 3) := by
  unfold out0_5
  refine View.canon_apply_of_pieces (Val := Elt Ideal) (fun y : S3x10x640x256.Idx => RQC X (y 0).val (y 1).val (y 2).val (y 3)) _ ?_ y (cover0_5 _ y)
  intro pc hpc
  rcases List.mem_cons.mp hpc with rfl | hpc
  · intro x
    have e : (r0_0.idx x : S3x10x640x256.Idx) = x := funext fun a => Fin.ext (by fin_cases a <;> exact (Nat.zero_add _).trans (Nat.one_mul _))
    exact (congrArg _ (eq_ix4 x)).trans ((p54 X x0 x1 x2 x3 hx0 (x 0) (x 1) (x 2) (x 3)).trans (congrArg (fun y : S3x10x640x256.Idx => RQC X (y 0).val (y 1).val (y 2).val (y 3)) e.symm))
  · nomatch hpc
include hx0 in
theorem o6 (y : S3x10x640.Idx) : out0_6 x0 x1 x2 x3 y = RQS X (y 0).val (y 1).val (y 2).val := by
  unfold out0_6
  refine View.canon_apply_of_pieces (Val := Elt Ideal) (fun y : S3x10x640.Idx => RQS X (y 0).val (y 1).val (y 2).val) _ ?_ y (cover0_6 _ y)
  intro pc hpc
  rcases List.mem_cons.mp hpc with rfl | hpc
  · intro x
    have e : (r0_2.idx x : S3x10x640.Idx) = x := funext fun a => Fin.ext (by fin_cases a <;> exact (Nat.zero_add _).trans (Nat.one_mul _))
    exact (congrArg _ (eq_ix3 x)).trans ((p53 X x0 x1 x2 x3 hx0 (x 0) (x 1) (x 2)).trans (congrArg (fun y : S3x10x640.Idx => RQS X (y 0).val (y 1).val (y 2).val) e.symm))
  · nomatch hpc
include hx1 in
theorem o7 (y : S3x2x640x256.Idx) : out0_7 x0 x1 x2 x3 y = RQC K (y 0).val (y 1).val (y 2).val (y 3) := by
  unfold out0_7
  refine View.canon_apply_of_pieces (Val := Elt Ideal) (fun y : S3x2x640x256.Idx => RQC K (y 0).val (y 1).val (y 2).val (y 3)) _ ?_ y (cover0_7 _ y)
  intro pc hpc
  rcases List.mem_cons.mp hpc with rfl | hpc
  · intro x
    have e : (r0_1.idx x : S3x2x640x256.Idx) = x := funext fun a => Fin.ext (by fin_cases a <;> exact (Nat.zero_add _).trans (Nat.one_mul _))
    exact (congrArg _ (eq_ix4 x)).trans ((p58 K x0 x1 x2 x3 hx1 (x 0) (x 1) (x 2) (x 3)).trans (congrArg (fun y : S3x2x640x256.Idx => RQC K (y 0).val (y 1).val (y 2).val (y 3)) e.symm))
  · nomatch hpc
include hx1 in
theorem o8 (y : S3x2x640.Idx) : out0_8 x0 x1 x2 x3 y = RQS K (y 0).val (y 1).val (y 2).val := by
  unfold out0_8
  refine View.canon_apply_of_pieces (Val := Elt Ideal) (fun y : S3x2x640.Idx => RQS K (y 0).val (y 1).val (y 2).val) _ ?_ y (cover0_8 _ y)
  intro pc hpc
  rcases List.mem_cons.mp hpc with rfl | hpc
  · intro x
    have e : (r0_3.idx x : S3x2x640.Idx) = x := funext fun a => Fin.ext (by fin_cases a <;> exact (Nat.zero_add _).trans (Nat.one_mul _))
    exact (congrArg _ (eq_ix3 x)).trans ((p57 K x0 x1 x2 x3 hx1 (x 0) (x 1) (x 2)).trans (congrArg (fun y : S3x2x640.Idx => RQS K (y 0).val (y 1).val (y 2).val) e.symm))
  · nomatch hpc
include hx2 in
theorem o9 (y : S3x2x640x256.Idx) : out0_9 x0 x1 x2 x3 y = RQC W (y 0).val (y 1).val (y 2).val (y 3) := by
  unfold out0_9
  refine View.canon_apply_of_pieces (Val := Elt Ideal) (fun y : S3x2x640x256.Idx => RQC W (y 0).val (y 1).val (y 2).val (y 3)) _ ?_ y (cover0_9 _ y)
  intro pc hpc
  rcases List.mem_cons.mp hpc with rfl | hpc
  · intro x
    have e : (r0_1.idx x : S3x2x640x256.Idx) = x := funext fun a => Fin.ext (by fin_cases a <;> exact (Nat.zero_add _).trans (Nat.one_mul _))
    exact (congrArg _ (eq_ix4 x)).trans ((p61 W x0 x1 x2 x3 hx2 (x 0) (x 1) (x 2) (x 3)).trans (congrArg (fun y : S3x2x640x256.Idx => RQC W (y 0).val (y 1).val (y 2).val (y 3)) e.symm))
  · nomatch hpc
include hx2 in
theorem o10 (y : S3x2x640.Idx) : out0_10 x0 x1 x2 x3 y = RQS W (y 0).val (y 1).val (y 2).val := by
  unfold out0_10
  refine View.canon_apply_of_pieces (Val := Elt Ideal) (fun y : S3x2x640.Idx => RQS W (y 0).val (y 1).val (y 2).val) _ ?_ y (cover0_10 _ y)
  intro pc hpc
  rcases List.mem_cons.mp hpc with rfl | hpc
  · intro x
    have e : (r0_3.idx x : S3x2x640.Idx) = x := funext fun a => Fin.ext (by fin_cases a <;> exact (Nat.zero_add _).trans (Nat.one_mul _))
    exact (congrArg _ (eq_ix3 x)).trans ((p59 W x0 x1 x2 x3 hx2 (x 0) (x 1) (x 2)).trans (congrArg (fun y : S3x2x640.Idx => RQS W (y 0).val (y 1).val (y 2).val) e.symm))
  · nomatch hpc
include hx0 hx1 hx2 hx3 in
/-- A head's attention over the values the pieces name is the reference's. -/
theorem head_eq (g : Fin 10) (j : Fin 2) (hj : j.val = g.val / 5) (b : Fin 3) (T : Fin 640) (d : Fin 256) :
    refA (fun e => (k0_pay54 x0 x1 x2 x3 : Vec Ideal S3x10x640x256 .fp8e4m3) (ix4 b g T e)) ((k0_pay53 x0 x1 x2 x3 : Vec Ideal S3x10x640 .f32) (ix3 b g T))
      (fun p e => (k0_pay58 x0 x1 x2 x3 : Vec Ideal S3x2x640x256 .fp8e4m3) (ix4 b j p e)) (fun p => (k0_pay57 x0 x1 x2 x3 : Vec Ideal S3x2x640 .f32) (ix3 b j p))
      (fun p => (k0_pay59 x0 x1 x2 x3 : Vec Ideal S3x2x640 .f32) (ix3 b j p)) (fun p => (k0_pay61 x0 x1 x2 x3 : Vec Ideal S3x2x640x256 .fp8e4m3) (ix4 b j p d))
      (fun p => (k0_pay62 x0 x1 x2 x3 : IVec S3x640x640 1) (ix3 b T p)) = RO X K W SG b T g d := by
  unfold RO
  simp only [p53 X x0 x1 x2 x3 hx0, p54 X x0 x1 x2 x3 hx0, p57 K x0 x1 x2 x3 hx1, p58 K x0 x1 x2 x3 hx1, p59 W x0 x1 x2 x3 hx2, p61 W x0 x1 x2 x3 hx2, p62 SG x0 x1 x2 x3 hx3, hj]
theorem RO_at (i : S3x640x2560.Idx) (b : Fin 3) (T : Fin 640) (g : Fin 10) (d : Fin 256) (h0 : (i 0).val = b.val) (h1 : (i 1).val = T.val) (h2 : (i 2).val = 256 * g.val + d.val) :
    RO X K W SG b T g d = RO X K W SG (i 0).val (i 1).val ((i 2).val / 256) ⟨(i 2).val % 256, by omega⟩ := by
  have hd := d.isLt
  rw [h0, h1]
  have e1 : (i 2).val / 256 = g.val := by omega
  have e2 : (⟨(i 2).val % 256, by omega⟩ : Fin 256) = d := Fin.ext (by dsimp only; omega)
  rw [e1, e2]

include hx0 hx1 hx2 hx3 in
theorem o4 (y : S3x640x2560.Idx) : out0_4 x0 x1 x2 x3 y = RO X K W SG (y 0).val (y 1).val ((y 2).val / 256) ⟨(y 2).val % 256, by omega⟩ := by
  unfold out0_4
  refine View.canon_apply_of_pieces (Val := Elt Ideal) (fun y : S3x640x2560.Idx => RO X K W SG (y 0).val (y 1).val ((y 2).val / 256) ⟨(y 2).val % 256, by omega⟩) _ ?_ y (cover0_4 _ _ _ _ _ _ _ _ _ _ y)
  intro pc hpc
  rcases List.mem_cons.mp hpc with rfl | hpc
  · intro x
    refine ((congrArg _ (eq_ix3 x)).trans ((head9_apply _ _ _ _ _ _ _ (x 0) (x 1) (x 2)).trans (head_eq X K W SG x0 x1 x2 x3 hx0 hx1 hx2 hx3 9 1 rfl (x 0) (x 1) (x 2)))).trans
      (RO_at X K W SG (r0_14.idx x) (x 0) (x 1) 9 (x 2) ?_ ?_ ?_)
    · exact (Nat.zero_add _).trans (Nat.one_mul _)
    · exact (Nat.zero_add _).trans (Nat.one_mul _)
    · exact congrArg (2304 + ·) (Nat.one_mul _)
  rcases List.mem_cons.mp hpc with rfl | hpc
  · intro x
    refine ((congrArg _ (eq_ix3 x)).trans ((head8_apply _ _ _ _ _ _ _ (x 0) (x 1) (x 2)).trans (head_eq X K W SG x0 x1 x2 x3 hx0 hx1 hx2 hx3 8 1 rfl (x 0) (x 1) (x 2)))).trans
      (RO_at X K W SG (r0_13.idx x) (x 0) (x 1) 8 (x 2) ?_ ?_ ?_)
    · exact (Nat.zero_add _).trans (Nat.one_mul _)
    · exact (Nat.zero_add _).trans (Nat.one_mul _)
    · exact congrArg (2048 + ·) (Nat.one_mul _)
  rcases List.mem_cons.mp hpc with rfl | hpc
  · intro x
    refine ((congrArg _ (eq_ix3 x)).trans ((head7_apply _ _ _ _ _ _ _ (x 0) (x 1) (x 2)).trans (head_eq X K W SG x0 x1 x2 x3 hx0 hx1 hx2 hx3 7 1 rfl (x 0) (x 1) (x 2)))).trans
      (RO_at X K W SG (r0_12.idx x) (x 0) (x 1) 7 (x 2) ?_ ?_ ?_)
    · exact (Nat.zero_add _).trans (Nat.one_mul _)
    · exact (Nat.zero_add _).trans (Nat.one_mul _)
    · exact congrArg (1792 + ·) (Nat.one_mul _)
  rcases List.mem_cons.mp hpc with rfl | hpc
  · intro x
    refine ((congrArg _ (eq_ix3 x)).trans ((head6_apply _ _ _ _ _ _ _ (x 0) (x 1) (x 2)).trans (head_eq X K W SG x0 x1 x2 x3 hx0 hx1 hx2 hx3 6 1 rfl (x 0) (x 1) (x 2)))).trans
      (RO_at X K W SG (r0_11.idx x) (x 0) (x 1) 6 (x 2) ?_ ?_ ?_)
    · exact (Nat.zero_add _).trans (Nat.one_mul _)
    · exact (Nat.zero_add _).trans (Nat.one_mul _)
    · exact congrArg (1536 + ·) (Nat.one_mul _)
  rcases List.mem_cons.mp hpc with rfl | hpc
  · intro x
    refine ((congrArg _ (eq_ix3 x)).trans ((head5_apply _ _ _ _ _ _ _ (x 0) (x 1) (x 2)).trans (head_eq X K W SG x0 x1 x2 x3 hx0 hx1 hx2 hx3 5 1 rfl (x 0) (x 1) (x 2)))).trans
      (RO_at X K W SG (r0_10.idx x) (x 0) (x 1) 5 (x 2) ?_ ?_ ?_)
    · exact (Nat.zero_add _).trans (Nat.one_mul _)
    · exact (Nat.zero_add _).trans (Nat.one_mul _)
    · exact congrArg (1280 + ·) (Nat.one_mul _)
  rcases List.mem_cons.mp hpc with rfl | hpc
  · intro x
    refine ((congrArg _ (eq_ix3 x)).trans ((head4_apply _ _ _ _ _ _ _ (x 0) (x 1) (x 2)).trans (head_eq X K W SG x0 x1 x2 x3 hx0 hx1 hx2 hx3 4 0 rfl (x 0) (x 1) (x 2)))).trans
      (RO_at X K W SG (r0_9.idx x) (x 0) (x 1) 4 (x 2) ?_ ?_ ?_)
    · exact (Nat.zero_add _).trans (Nat.one_mul _)
    · exact (Nat.zero_add _).trans (Nat.one_mul _)
    · exact congrArg (1024 + ·) (Nat.one_mul _)
  rcases List.mem_cons.mp hpc with rfl | hpc
  · intro x
    refine ((congrArg _ (eq_ix3 x)).trans ((head3_apply _ _ _ _ _ _ _ (x 0) (x 1) (x 2)).trans (head_eq X K W SG x0 x1 x2 x3 hx0 hx1 hx2 hx3 3 0 rfl (x 0) (x 1) (x 2)))).trans
      (RO_at X K W SG (r0_8.idx x) (x 0) (x 1) 3 (x 2) ?_ ?_ ?_)
    · exact (Nat.zero_add _).trans (Nat.one_mul _)
    · exact (Nat.zero_add _).trans (Nat.one_mul _)
    · exact congrArg (768 + ·) (Nat.one_mul _)
  rcases List.mem_cons.mp hpc with rfl | hpc
  · intro x
    refine ((congrArg _ (eq_ix3 x)).trans ((head2_apply _ _ _ _ _ _ _ (x 0) (x 1) (x 2)).trans (head_eq X K W SG x0 x1 x2 x3 hx0 hx1 hx2 hx3 2 0 rfl (x 0) (x 1) (x 2)))).trans
      (RO_at X K W SG (r0_7.idx x) (x 0) (x 1) 2 (x 2) ?_ ?_ ?_)
    · exact (Nat.zero_add _).trans (Nat.one_mul _)
    · exact (Nat.zero_add _).trans (Nat.one_mul _)
    · exact congrArg (512 + ·) (Nat.one_mul _)
  rcases List.mem_cons.mp hpc with rfl | hpc
  · intro x
    refine ((congrArg _ (eq_ix3 x)).trans ((head1_apply _ _ _ _ _ _ _ (x 0) (x 1) (x 2)).trans (head_eq X K W SG x0 x1 x2 x3 hx0 hx1 hx2 hx3 1 0 rfl (x 0) (x 1) (x 2)))).trans
      (RO_at X K W SG (r0_6.idx x) (x 0) (x 1) 1 (x 2) ?_ ?_ ?_)
    · exact (Nat.zero_add _).trans (Nat.one_mul _)
    · exact (Nat.zero_add _).trans (Nat.one_mul _)
    · exact congrArg (256 + ·) (Nat.one_mul _)
  rcases List.mem_cons.mp hpc with rfl | hpc
  · intro x
    refine ((congrArg _ (eq_ix3 x)).trans ((head0_apply _ _ _ _ _ _ _ (x 0) (x 1) (x 2)).trans (head_eq X K W SG x0 x1 x2 x3 hx0 hx1 hx2 hx3 0 0 rfl (x 0) (x 1) (x 2)))).trans
      (RO_at X K W SG (r0_5.idx x) (x 0) (x 1) 0 (x 2) ?_ ?_ ?_)
    · exact (Nat.zero_add _).trans (Nat.one_mul _)
    · exact (Nat.zero_add _).trans (Nat.one_mul _)
    · exact congrArg (0 + ·) (Nat.one_mul _)
  nomatch hpc
end

/-! ## The arrays the grid finds, from the arguments -/

variable (m : (ℓ : Loc nD τ sig) → Buf (Elt Ideal) ℓ) (ρ : Dev nD → PrngReg)

theorem V_v1 (c : Dev nD) : V m c main_v1 = transpose S3x10x640x256 [0, 2, 1, 3] (shapeCast S3x640x10x256 (m ((c.tc : Thread nD τ).loc main_arg0)) shapeCasts_S3x640x2560_S3x640x10x256) transposes_S3x640x10x256_S3x10x640x256_0_2_1_3 := by
  unfold_abbrev_sides
  after_results
  rfl
theorem V_v3 (c : Dev nD) : V m c main_v3 = transpose S3x2x640x256 [0, 2, 1, 3] (shapeCast S3x640x2x256 (m ((c.tc : Thread nD τ).loc main_arg1)) shapeCasts_S3x640x512_S3x640x2x256) transposes_S3x640x2x256_S3x2x640x256_0_2_1_3 := by
  unfold_abbrev_sides
  after_results
  rfl
theorem V_v5 (c : Dev nD) : V m c main_v5 = transpose S3x2x640x256 [0, 2, 1, 3] (shapeCast S3x640x2x256 (m ((c.tc : Thread nD τ).loc main_arg2)) shapeCasts_S3x640x512_S3x640x2x256) transposes_S3x640x2x256_S3x2x640x256_0_2_1_3 := by
  unfold_abbrev_sides
  after_results
  rfl
theorem cast_q (A : Vec Ideal S3x640x2560 .bf16) (b : Fin 3) (h : Fin 10) (T : Fin 640) (d : Fin 256) :
    transpose S3x10x640x256 [0, 2, 1, 3] (shapeCast S3x640x10x256 A shapeCasts_S3x640x2560_S3x640x10x256) transposes_S3x640x10x256_S3x10x640x256_0_2_1_3 (ix4 b h T d) = headRow (natQ A) b T h d := by
  unfold headRow natQ
  rw [dif_pos (by omega)]
  pointwise []
  congr 2
  exact Fin.ext (by dsimp only; omega)
theorem cast_k (A : Vec Ideal S3x640x512 .bf16) (b : Fin 3) (h : Fin 2) (T : Fin 640) (d : Fin 256) :
    transpose S3x2x640x256 [0, 2, 1, 3] (shapeCast S3x640x2x256 A shapeCasts_S3x640x512_S3x640x2x256) transposes_S3x640x2x256_S3x2x640x256_0_2_1_3 (ix4 b h T d) = headRow (natK A) b T h d := by
  unfold headRow natK
  rw [dif_pos (by omega)]
  pointwise []
  congr 2
  exact Fin.ext (by dsimp only; omega)

theorem emb0 (t : Fin cfg0.N) (x : S3x10x640x256.Idx) : (((cfg0.win 0).blk t).view.emb x : S3x10x640x256.Idx) = x :=
  funext fun a => Fin.ext (by fin_cases a <;> exact (Nat.zero_add _).trans (Nat.one_mul _))
theorem emb1 (t : Fin cfg0.N) (x : S3x2x640x256.Idx) : (((cfg0.win 1).blk t).view.emb x : S3x2x640x256.Idx) = x :=
  funext fun a => Fin.ext (by fin_cases a <;> exact (Nat.zero_add _).trans (Nat.one_mul _))
theorem emb2 (t : Fin cfg0.N) (x : S3x2x640x256.Idx) : (((cfg0.win 2).blk t).view.emb x : S3x2x640x256.Idx) = x :=
  funext fun a => Fin.ext (by fin_cases a <;> exact (Nat.zero_add _).trans (Nat.one_mul _))
theorem emb3 (t : Fin cfg0.N) (x : S3x640.Idx) : (((cfg0.win 3).blk t).view.emb x : S3x640.Idx) = x :=
  funext fun a => Fin.ext (by fin_cases a <;> exact (Nat.zero_add _).trans (Nat.one_mul _))
theorem emb4 (t : Fin cfg0.N) (x : S3x640x2560.Idx) : (((cfg0.win 4).blk t).view.emb x : S3x640x2560.Idx) = x :=
  funext fun a => Fin.ext (by fin_cases a <;> exact (Nat.zero_add _).trans (Nat.one_mul _))
theorem emb5 (t : Fin cfg0.N) (x : S3x10x640x256.Idx) : (((cfg0.win 5).blk t).view.emb x : S3x10x640x256.Idx) = x :=
  funext fun a => Fin.ext (by fin_cases a <;> exact (Nat.zero_add _).trans (Nat.one_mul _))
theorem emb6 (t : Fin cfg0.N) (x : S3x10x640.Idx) : (((cfg0.win 6).blk t).view.emb x : S3x10x640.Idx) = x :=
  funext fun a => Fin.ext (by fin_cases a <;> exact (Nat.zero_add _).trans (Nat.one_mul _))
theorem emb7 (t : Fin cfg0.N) (x : S3x2x640x256.Idx) : (((cfg0.win 7).blk t).view.emb x : S3x2x640x256.Idx) = x :=
  funext fun a => Fin.ext (by fin_cases a <;> exact (Nat.zero_add _).trans (Nat.one_mul _))
theorem emb8 (t : Fin cfg0.N) (x : S3x2x640.Idx) : (((cfg0.win 8).blk t).view.emb x : S3x2x640.Idx) = x :=
  funext fun a => Fin.ext (by fin_cases a <;> exact (Nat.zero_add _).trans (Nat.one_mul _))
theorem emb9 (t : Fin cfg0.N) (x : S3x2x640x256.Idx) : (((cfg0.win 9).blk t).view.emb x : S3x2x640x256.Idx) = x :=
  funext fun a => Fin.ext (by fin_cases a <;> exact (Nat.zero_add _).trans (Nat.one_mul _))
theorem emb10 (t : Fin cfg0.N) (x : S3x2x640.Idx) : (((cfg0.win 10).blk t).view.emb x : S3x2x640.Idx) = x :=
  funext fun a => Fin.ext (by fin_cases a <;> exact (Nat.zero_add _).trans (Nat.one_mul _))
theorem blk0 (c : Dev nD) (t : Fin cfg0.N) (b : Fin 3) (h : Fin 10) (T : Fin 640) (d : Fin 256) :
    (show Vec Ideal S3x10x640x256 .bf16 from iblk m c 0 t) (ix4 b h T d) = headRow (natQ (m ((c.tc : Thread nD τ).loc main_arg0))) b T h d :=
  (congrArg (V m c (Pipeline.arrRef spec0 0)) (emb0 t (ix4 b h T d))).trans ((congrFun (V_v1 m c) (ix4 b h T d)).trans (cast_q _ b h T d))
theorem blk1 (c : Dev nD) (t : Fin cfg0.N) (b : Fin 3) (h : Fin 2) (T : Fin 640) (d : Fin 256) :
    (show Vec Ideal S3x2x640x256 .bf16 from iblk m c 1 t) (ix4 b h T d) = headRow (natK (m ((c.tc : Thread nD τ).loc main_arg1))) b T h d :=
  (congrArg (V m c (Pipeline.arrRef spec0 1)) (emb1 t (ix4 b h T d))).trans ((congrFun (V_v3 m c) (ix4 b h T d)).trans (cast_k _ b h T d))
theorem blk2 (c : Dev nD) (t : Fin cfg0.N) (b : Fin 3) (h : Fin 2) (T : Fin 640) (d : Fin 256) :
    (show Vec Ideal S3x2x640x256 .bf16 from iblk m c 2 t) (ix4 b h T d) = headRow (natK (m ((c.tc : Thread nD τ).loc main_arg2))) b T h d :=
  (congrArg (V m c (Pipeline.arrRef spec0 2)) (emb2 t (ix4 b h T d))).trans ((congrFun (V_v5 m c) (ix4 b h T d)).trans (cast_k _ b h T d))
theorem blk3 (c : Dev nD) (t : Fin cfg0.N) (b : Fin 3) (T : Fin 640) :
    (show Vec Ideal S3x640 .i32 from iblk m c 3 t) (ix2 b T) = natD (m ((c.tc : Thread nD τ).loc main_arg3)) b T := by
  refine (congrArg (V m c (Pipeline.arrRef spec0 3)) (emb3 t (ix2 b T))).trans ((congrFun (V_main_arg3 m c) (ix2 b T)).trans ?_)
  unfold natD
  rw [dif_pos (by omega)]

/-! ## The seven results -/

/-- What the two sides need of the arguments: every head's row is in the quantiser's range, no token is padding, and a document's tokens lie at most 224 apart. -/
structure InRange (X K W : ℕ → ℕ → ℕ → EReal) (SG : ℕ → ℕ → BitVec 32) : Prop where
  x : ∀ b T h, b < 3 → T < 640 → h < 10 → Good (amaxE (headRow X b T h))
  k : ∀ b T h, b < 3 → T < 640 → h < 2 → Good (amaxE (headRow K b T h))
  v : ∀ b T h, b < 3 → T < 640 → h < 2 → Good (amaxE (headRow W b T h))
  near : ∀ b T p, b < 3 → T < 640 → p < 640 → SG b T = SG b p → T ≤ p + 224
  seg : ∀ b T, b < 3 → T < 640 → SG b T ≠ 4294967295#32

abbrev Xm (c : Dev nD) := natQ (m ((c.tc : Thread nD τ).loc main_arg0))
abbrev Km (c : Dev nD) := natK (m ((c.tc : Thread nD τ).loc main_arg1))
abbrev Wm (c : Dev nD) := natK (m ((c.tc : Thread nD τ).loc main_arg2))
abbrev Sm (c : Dev nD) := natD (m ((c.tc : Thread nD τ).loc main_arg3))

variable (c : Dev nD) (hr : InRange (Xm m c) (Km m c) (Wm m c) (Sm m c))

include hr in
theorem arr4 : (dats m 0 c).arrAt 4 cfg0.N = outF (Xm m c) (Km m c) (Wm m c) (Sm m c) := by
  refine (dats m 0 c).arrAt_eq_of_cover 4 (outF (Xm m c) (Km m c) (Wm m c) (Sm m c)) (fun t _ => ?_) (fun i => ⟨t0_0, flush0_4 _, ?_⟩)
  · rw [Value.flushed4]
    funext y
    refine Eq.trans ?_ (congrArg (outF (Xm m c) (Km m c) (Wm m c) (Sm m c)) (emb4 t y)).symm
    have h0 : (y 0).val < 3 := (y 0).isLt
    have h1 : (y 1).val < 640 := (y 1).isLt
    have h2 : (y 2).val < 2560 := (y 2).isLt
    refine (o4 (Xm m c) (Km m c) (Wm m c) (Sm m c) _ _ _ _ (blk0 m c t) (blk1 m c t) (blk2 m c t) (blk3 m c t) y).trans ?_
    exact (OUT_eq (Xm m c) (Km m c) (Wm m c) (Sm m c) _ _ _ _ h1 (hr.x _ _ _ h0 h1 (by omega)) (fun p hp => hr.k _ _ _ h0 hp (by omega)) (fun p hp => hr.v _ _ _ h0 hp (by omega))
      (fun p hp => hr.near _ _ _ h0 h1 hp) (hr.seg _ _ h0 h1)).symm
  · exact (emb4 t0_0 i) ▸ ((cfg0.win 4).blk t0_0).view.emb_mem_set i
include hr in
theorem arr5 : (dats m 0 c).arrAt 5 cfg0.N = qcG (Xm m c) := by
  refine (dats m 0 c).arrAt_eq_of_cover 5 (qcG (Xm m c)) (fun t _ => ?_) (fun i => ⟨t0_0, flush0_5 _, ?_⟩)
  · rw [Value.flushed5]
    funext y
    refine Eq.trans ?_ (congrArg (qcG (Xm m c)) (emb5 t y)).symm
    have h0 : (y 0).val < 3 := (y 0).isLt
    have h1 : (y 1).val < 10 := (y 1).isLt
    have h2 : (y 2).val < 640 := (y 2).isLt
    refine (o5 (Xm m c) (iblk m c 0 t) (iblk m c 1 t) (iblk m c 2 t) (iblk m c 3 t) (blk0 m c t) y).trans ?_
    exact RQC_eq (Xm m c) (y 0).val (y 1).val (y 2).val (y 3) (hr.x _ _ _ h0 h2 h1)
  · exact (emb5 t0_0 i) ▸ ((cfg0.win 5).blk t0_0).view.emb_mem_set i
include hr in
theorem arr6 : (dats m 0 c).arrAt 6 cfg0.N = qsG (Xm m c) := by
  refine (dats m 0 c).arrAt_eq_of_cover 6 (qsG (Xm m c)) (fun t _ => ?_) (fun i => ⟨t0_0, flush0_6 _, ?_⟩)
  · rw [Value.flushed6]
    funext y
    refine Eq.trans ?_ (congrArg (qsG (Xm m c)) (emb6 t y)).symm
    have h0 : (y 0).val < 3 := (y 0).isLt
    have h1 : (y 1).val < 10 := (y 1).isLt
    have h2 : (y 2).val < 640 := (y 2).isLt
    refine (o6 (Xm m c) (iblk m c 0 t) (iblk m c 1 t) (iblk m c 2 t) (iblk m c 3 t) (blk0 m c t) y).trans ?_
    exact RQS_eq (Xm m c) (y 0).val (y 1).val (y 2).val (hr.x _ _ _ h0 h2 h1)
  · exact (emb6 t0_0 i) ▸ ((cfg0.win 6).blk t0_0).view.emb_mem_set i
include hr in
theorem arr7 : (dats m 0 c).arrAt 7 cfg0.N = kcG (Km m c) := by
  refine (dats m 0 c).arrAt_eq_of_cover 7 (kcG (Km m c)) (fun t _ => ?_) (fun i => ⟨t0_0, flush0_7 _, ?_⟩)
  · rw [Value.flushed7]
    funext y
    refine Eq.trans ?_ (congrArg (kcG (Km m c)) (emb7 t y)).symm
    have h0 : (y 0).val < 3 := (y 0).isLt
    have h1 : (y 1).val < 2 := (y 1).isLt
    have h2 : (y 2).val < 640 := (y 2).isLt
    refine (o7 (Km m c) (iblk m c 0 t) (iblk m c 1 t) (iblk m c 2 t) (iblk m c 3 t) (blk1 m c t) y).trans ?_
    exact RQC_eq (Km m c) (y 0).val (y 1).val (y 2).val (y 3) (hr.k _ _ _ h0 h2 h1)
  · exact (emb7 t0_0 i) ▸ ((cfg0.win 7).blk t0_0).view.emb_mem_set i
include hr in
theorem arr8 : (dats m 0 c).arrAt 8 cfg0.N = ksG (Km m c) := by
  refine (dats m 0 c).arrAt_eq_of_cover 8 (ksG (Km m c)) (fun t _ => ?_) (fun i => ⟨t0_0, flush0_8 _, ?_⟩)
  · rw [Value.flushed8]
    funext y
    refine Eq.trans ?_ (congrArg (ksG (Km m c)) (emb8 t y)).symm
    have h0 : (y 0).val < 3 := (y 0).isLt
    have h1 : (y 1).val < 2 := (y 1).isLt
    have h2 : (y 2).val < 640 := (y 2).isLt
    refine (o8 (Km m c) (iblk m c 0 t) (iblk m c 1 t) (iblk m c 2 t) (iblk m c 3 t) (blk1 m c t) y).trans ?_
    exact RQS_eq (Km m c) (y 0).val (y 1).val (y 2).val (hr.k _ _ _ h0 h2 h1)
  · exact (emb8 t0_0 i) ▸ ((cfg0.win 8).blk t0_0).view.emb_mem_set i
include hr in
theorem arr9 : (dats m 0 c).arrAt 9 cfg0.N = kcG (Wm m c) := by
  refine (dats m 0 c).arrAt_eq_of_cover 9 (kcG (Wm m c)) (fun t _ => ?_) (fun i => ⟨t0_0, flush0_9 _, ?_⟩)
  · rw [Value.flushed9]
    funext y
    refine Eq.trans ?_ (congrArg (kcG (Wm m c)) (emb9 t y)).symm
    have h0 : (y 0).val < 3 := (y 0).isLt
    have h1 : (y 1).val < 2 := (y 1).isLt
    have h2 : (y 2).val < 640 := (y 2).isLt
    refine (o9 (Wm m c) (iblk m c 0 t) (iblk m c 1 t) (iblk m c 2 t) (iblk m c 3 t) (blk2 m c t) y).trans ?_
    exact RQC_eq (Wm m c) (y 0).val (y 1).val (y 2).val (y 3) (hr.v _ _ _ h0 h2 h1)
  · exact (emb9 t0_0 i) ▸ ((cfg0.win 9).blk t0_0).view.emb_mem_set i
include hr in
theorem arr10 : (dats m 0 c).arrAt 10 cfg0.N = ksG (Wm m c) := by
  refine (dats m 0 c).arrAt_eq_of_cover 10 (ksG (Wm m c)) (fun t _ => ?_) (fun i => ⟨t0_0, flush0_10 _, ?_⟩)
  · rw [Value.flushed10]
    funext y
    refine Eq.trans ?_ (congrArg (ksG (Wm m c)) (emb10 t y)).symm
    have h0 : (y 0).val < 3 := (y 0).isLt
    have h1 : (y 1).val < 2 := (y 1).isLt
    have h2 : (y 2).val < 640 := (y 2).isLt
    refine (o10 (Wm m c) (iblk m c 0 t) (iblk m c 1 t) (iblk m c 2 t) (iblk m c 3 t) (blk2 m c t) y).trans ?_
    exact RQS_eq (Wm m c) (y 0).val (y 1).val (y 2).val (hr.v _ _ _ h0 h2 h1)
  · exact (emb10 t0_0 i) ▸ ((cfg0.win 10).blk t0_0).view.emb_mem_set i

end Cert.ReferenceIdeal.Arr

end
-- ==== Proof.Equal.lean ====
module

public import proofs.«01_k».proof.Defs
public import proofs.«01_k».proof.Proof.InRange
public import proofs.«01_k».proof.Proof.RArr

/-! The kernel and the reference leave equal results from equal arguments the precondition admits. -/

@[expose] public section

set_option maxRecDepth 16384

noncomputable section

namespace Cert.Equal

open Idealize.ShloMosaic Idealize.ShloMosaic.TcCoe Idealize.SL.Sem
open Cert.KernelIdeal.Run (natQ natK natD)
open Cert.KernelIdeal.Voc (outF qcG qsG kcG ksG headRow amaxE Good)
open Cert.ReferenceIdeal.Arr (InRange)
open Cert.Pre_in_range.Rd

/-- The precondition's five arrays, all ones, are the five ranges. -/
theorem inRange_of (x : FVec Ideal Cert.Pre_in_range.S3x640x2560 .bf16) (k v : FVec Ideal Cert.Pre_in_range.S3x640x512 .bf16) (sg : IVec Cert.Pre_in_range.S3x640 32)
    (h0 : (Cert.Pre_in_range.fn (F := Ideal) x k v sg).1 = fun _ => 1#1) (h1 : (Cert.Pre_in_range.fn (F := Ideal) x k v sg).2.1 = fun _ => 1#1) (h2 : (Cert.Pre_in_range.fn (F := Ideal) x k v sg).2.2.1 = fun _ => 1#1)
    (h3 : (Cert.Pre_in_range.fn (F := Ideal) x k v sg).2.2.2.1 = fun _ => 1#1) (h4 : (Cert.Pre_in_range.fn (F := Ideal) x k v sg).2.2.2.2 = fun _ => 1#1) :
    InRange (natQ x) (natK k) (natK v) (natD sg) := by
  rw [fn_eq] at h0 h1 h2 h3 h4
  refine ⟨?_, ?_, ?_, ?_, ?_⟩
  · intro b T h hb hT hh
    have e := ok10_apply _ ⟨b, hb⟩ ⟨T, hT⟩ ⟨h, hh⟩ (congrFun h0 _)
    rw [amx10_apply] at e
    have e' : headRow (natQ x) b T h = fun d => x (ix3 ⟨b, hb⟩ ⟨T, hT⟩ ⟨256 * h + d.val, by omega⟩) := by
      funext d
      unfold headRow natQ
      rw [dif_pos (by omega)]
    rw [e']
    exact e
  · intro b T h hb hT hh
    have e := ok2_apply _ ⟨b, hb⟩ ⟨T, hT⟩ ⟨h, hh⟩ (congrFun h1 _)
    rw [amx2_apply] at e
    have e' : headRow (natK k) b T h = fun d => k (ix3 ⟨b, hb⟩ ⟨T, hT⟩ ⟨256 * h + d.val, by omega⟩) := by
      funext d
      unfold headRow natK
      rw [dif_pos (by omega)]
    rw [e']
    exact e
  · intro b T h hb hT hh
    have e := ok2_apply _ ⟨b, hb⟩ ⟨T, hT⟩ ⟨h, hh⟩ (congrFun h2 _)
    rw [amx2_apply] at e
    have e' : headRow (natK v) b T h = fun d => v (ix3 ⟨b, hb⟩ ⟨T, hT⟩ ⟨256 * h + d.val, by omega⟩) := by
      funext d
      unfold headRow natK
      rw [dif_pos (by omega)]
    rw [e']
    exact e
  · intro b T p hb hT hp hs
    unfold natD at hs
    rw [dif_pos ⟨hb, hT⟩, dif_pos ⟨hb, hp⟩] at hs
    exact near_apply sg ⟨b, hb⟩ ⟨T, hT⟩ ⟨p, hp⟩ (congrFun h3 _) hs
  · intro b T hb hT
    unfold natD
    rw [dif_pos ⟨hb, hT⟩]
    exact seg_apply sg ⟨b, hb⟩ ⟨T, hT⟩ (congrFun h4 _)

section
open Cert.ReferenceIdeal Cert.ReferenceIdeal.Gen Cert.ReferenceIdeal.Arr
variable (m : (ℓ : Loc nD τ sig) → Buf (Elt Ideal) ℓ) (ρ : Dev nD → PrngReg)

/-- Every run of the reference ends with the seven results at the kernel's arrays and the arguments unchanged. -/
theorem run_ref (hr : ∀ c : Dev nD, InRange (Xm m c) (Km m c) (Wm m c) (Sm m c)) :
    θ_run defs (onTc (τ := τ) (main (F := Ideal))) ⟨m, fun _ => 0, ρ⟩ fun r => ∀ c : Dev nD,
      r.2.mem ((c.tc : Thread nD τ).loc main_v6_0) = outF (Xm m c) (Km m c) (Wm m c) (Sm m c)
      ∧ r.2.mem ((c.tc : Thread nD τ).loc main_v6_1) = qcG (Xm m c)
      ∧ r.2.mem ((c.tc : Thread nD τ).loc main_v6_2) = qsG (Xm m c)
      ∧ r.2.mem ((c.tc : Thread nD τ).loc main_v6_3) = kcG (Km m c)
      ∧ r.2.mem ((c.tc : Thread nD τ).loc main_v6_4) = ksG (Km m c)
      ∧ r.2.mem ((c.tc : Thread nD τ).loc main_v6_5) = kcG (Wm m c)
      ∧ r.2.mem ((c.tc : Thread nD τ).loc main_v6_6) = ksG (Wm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    let ⟨h0, h1, h2, h3, h4, h5, h6, ha⟩ := h c
    ⟨h0.trans (arr4 m c (hr c)), h1.trans (arr5 m c (hr c)), h2.trans (arr6 m c (hr c)), h3.trans (arr7 m c (hr c)), h4.trans (arr8 m c (hr c)), h5.trans (arr9 m c (hr c)), h6.trans (arr10 m c (hr c)), ha⟩)
    (Value.run_blocks m ρ)
end

section
open Cert.KernelIdeal Cert.KernelIdeal.Gen Cert.KernelIdeal.Run
variable (m : (ℓ : Loc nD τ sig) → Buf (Elt Ideal) ℓ) (ρ : Dev nD → PrngReg)

/-- Every run of the kernel ends with the seven results at these arrays of its arguments and the arguments unchanged. -/
theorem run_ker : θ_run defs (onTc (τ := τ) (main (F := Ideal))) ⟨m, fun _ => 0, ρ⟩ fun r => ∀ c : Dev nD,
      r.2.mem ((c.tc : Thread nD τ).loc main_v1_0) = outF (natQ (m ((c.tc : Thread nD τ).loc main_arg0))) (natK (m ((c.tc : Thread nD τ).loc main_arg1))) (natK (m ((c.tc : Thread nD τ).loc main_arg2))) (natD (m ((c.tc : Thread nD τ).loc main_arg3)))
      ∧ r.2.mem ((c.tc : Thread nD τ).loc main_v1_1) = qcG (natQ (m ((c.tc : Thread nD τ).loc main_arg0)))
      ∧ r.2.mem ((c.tc : Thread nD τ).loc main_v1_2) = qsG (natQ (m ((c.tc : Thread nD τ).loc main_arg0)))
      ∧ r.2.mem ((c.tc : Thread nD τ).loc main_v1_3) = kcG (natK (m ((c.tc : Thread nD τ).loc main_arg1)))
      ∧ r.2.mem ((c.tc : Thread nD τ).loc main_v1_4) = ksG (natK (m ((c.tc : Thread nD τ).loc main_arg1)))
      ∧ r.2.mem ((c.tc : Thread nD τ).loc main_v1_5) = kcG (natK (m ((c.tc : Thread nD τ).loc main_arg2)))
      ∧ r.2.mem ((c.tc : Thread nD τ).loc main_v1_6) = ksG (natK (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    have e := h c
    rw [X0_eq, X1_eq, X2_eq, SG_eq] at e
    exact e)
    (run_arrays m ρ)
end

/-- The algebraic claim: under the precondition the seven results of the two programs are equal. -/
theorem algebraic : Cert.algebraic_KernelIdeal_ReferenceIdeal_pre_in_range := by
  intro m g m' g' hp hm
  refine ⟨fun c => _, fun c => _, fun c => _, fun c => _, fun c => _, fun c => _, fun c => _, run_ker m g, ?_⟩
  have hr : ∀ c : Dev Cert.ReferenceIdeal.nD, InRange (Cert.ReferenceIdeal.Arr.Xm m' c) (Cert.ReferenceIdeal.Arr.Km m' c) (Cert.ReferenceIdeal.Arr.Wm m' c) (Cert.ReferenceIdeal.Arr.Sm m' c) := by
    intro c
    obtain ⟨e0, e1, e2, e3⟩ := hm c
    obtain ⟨p0, p1, p2, p3, p4⟩ := hp c
    unfold Cert.ReferenceIdeal.Arr.Xm Cert.ReferenceIdeal.Arr.Km Cert.ReferenceIdeal.Arr.Wm Cert.ReferenceIdeal.Arr.Sm
    rw [e0, e1, e2, e3]
    exact inRange_of _ _ _ _ p0 p1 p2 p3 p4
  refine (θ_run Cert.ReferenceIdeal.defs _ _).mono (fun r h c => ?_) (run_ref m' g' hr)
  have e := h c
  obtain ⟨e0, e1, e2, e3⟩ := hm c
  unfold Cert.ReferenceIdeal.Arr.Xm Cert.ReferenceIdeal.Arr.Km Cert.ReferenceIdeal.Arr.Wm Cert.ReferenceIdeal.Arr.Sm at e
  obtain ⟨r0, r1, r2, r3, r4, r5, r6, ha⟩ := e
  rw [e0, e1, e2, e3] at r0
  rw [e0] at r1 r2
  rw [e1] at r3 r4
  rw [e2] at r5 r6
  exact ⟨r0, r1, r2, r3, r4, r5, r6, ha⟩

end Cert.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_in_range
public import proofs.«01_k».proof.Proof.KernelBitsFrame
public import proofs.«01_k».proof.Proof.Run
public import proofs.«01_k».proof.Proof.Equal
public import Idealize.ShloMosaic.Adequacy
public import Idealize.ShloMosaic.Init

/-! The proof of the claims. -/

@[expose] public section

noncomputable section

namespace Cert.Proof

open Idealize.ShloMosaic Idealize.SL.Sem

/-- The kernel runs to the end, its arguments unchanged and the counters at zero; -/
theorem frame_p : Cert.quiescent_Kernel := fun m ρ _ => Cert.Kernel.Fr.frame m ρ
/-- so does the kernel over the extended reals, -/
theorem frame_pi : Cert.quiescent_KernelIdeal := fun m ρ _ => Cert.KernelIdeal.Run.frame m ρ
/-- and the reference over the extended reals. -/
theorem frame_ri : Cert.quiescent_ReferenceIdeal := fun m ρ _ => Cert.ReferenceIdeal.Gen.frame m ρ
/-- Both do so under the precondition, being so without it. -/
theorem frame_pi_pre : Cert.quiescent_KernelIdeal_pre_in_range := fun m ρ _ => Cert.KernelIdeal.Run.frame m ρ
theorem frame_ri_pre : Cert.quiescent_ReferenceIdeal_pre_in_range := fun m ρ _ => Cert.ReferenceIdeal.Gen.frame m ρ
/-- The one named constant is `1 / (16 log 2)`. -/
theorem preserves : Cert.preserves_Kernel_KernelIdeal :=
  IdealRules.named_const.statement Cert.KernelIdeal.κ "score_scale_log2e" .f32 0x3DB8AA3B#32 (((16 * (Real.log 2))⁻¹ : ℝ) : EReal) rfl

/-- All claims. The last, `Cert.Equal.algebraic`, is that the two programs leave equal results from equal arguments in range. -/
theorem claim : Cert.Claim := ⟨Cert.Kernel.Gen.facts, Cert.KernelIdeal.Gen.facts, Cert.ReferenceIdeal.Gen.facts, Cert.Pre_in_range.Gen.facts,
  frame_p, frame_pi, frame_pi_pre, frame_ri, frame_ri_pre, preserves, Cert.Equal.algebraic⟩

end Cert.Proof

end
